-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ones [hPre_finite_ones : Cert.Pre_finite_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ones [hPre_finite_ones : Cert.Pre_finite_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_tiles_in_use6 : Cert.Pre_tiles_in_use6.Facts] (m : (ℓ : Loc Cert.Kernel6.nD Cert.Kernel6.τ Cert.Kernel6.sig) → Buf (Elt Bits) ℓ) : Prop :=
  ∀ c : Dev Cert.Kernel6.nD,
    (Cert.Pre_tiles_in_use6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))).1 = (fun _ => 1#1)
    ∧ (Cert.Pre_tiles_in_use6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))).2 = (fun _ => 1#1)

def Pre_Kernel6Ideal [hPre_tiles_in_use6 : Cert.Pre_tiles_in_use6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tiles_in_use6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_tiles_in_use6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_tiles_in_use6 [hPre_tiles_in_use6 : Cert.Pre_tiles_in_use6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_tiles_in_use6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_tiles_in_use6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2 = (fun _ => 1#1)

def Pre_Kernel7 [hPre_tiles_in_use7 : Cert.Pre_tiles_in_use7.Facts] (m : (ℓ : Loc Cert.Kernel7.nD Cert.Kernel7.τ Cert.Kernel7.sig) → Buf (Elt Bits) ℓ) : Prop :=
  ∀ c : Dev Cert.Kernel7.nD,
    (Cert.Pre_tiles_in_use7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))).1 = (fun _ => 1#1)
    ∧ (Cert.Pre_tiles_in_use7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3))).2 = (fun _ => 1#1)

def Pre_Kernel7Ideal [hPre_tiles_in_use7 : Cert.Pre_tiles_in_use7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tiles_in_use7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_tiles_in_use7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tiles_in_use7 [hPre_tiles_in_use7 : Cert.Pre_tiles_in_use7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tiles_in_use7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_tiles_in_use7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_ones [hKernelIdeal : Cert.KernelIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ones [hReferenceIdeal : Cert.ReferenceIdeal.Facts] [hPre_finite_ones : Cert.Pre_finite_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_tiles_in_use6 : Cert.Pre_tiles_in_use6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_tiles_in_use6 : Cert.Pre_tiles_in_use6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_tiles_in_use6 [hReference6Ideal : Cert.Reference6Ideal.Facts] [hPre_tiles_in_use6 : Cert.Pre_tiles_in_use6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_tiles_in_use6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] [hPre_tiles_in_use7 : Cert.Pre_tiles_in_use7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] [hPre_tiles_in_use7 : Cert.Pre_tiles_in_use7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_tiles_in_use7 [hReference7Ideal : Cert.Reference7Ideal.Facts] [hPre_tiles_in_use7 : Cert.Pre_tiles_in_use7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tiles_in_use7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def preserves_Kernel_KernelIdeal : Prop :=
  True

def algebraic_KernelIdeal_ReferenceIdeal_pre_finite_ones [hKernelIdeal : Cert.KernelIdeal.Facts] [hReferenceIdeal : Cert.ReferenceIdeal.Facts] [hPre_finite_ones : Cert.Pre_finite_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] [hPre_tiles_in_use6 : Cert.Pre_tiles_in_use6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v106) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] [hPre_tiles_in_use7 : Cert.Pre_tiles_in_use7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v65) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v65) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v32) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_ones : Cert.Pre_finite_ones.Facts) (hPre_tiles_in_use6 : Cert.Pre_tiles_in_use6.Facts) (hPre_tiles_in_use7 : Cert.Pre_tiles_in_use7.Facts),
    quiescent_Kernel (hKernel := hKernel)
    ∧ quiescent_KernelIdeal (hKernelIdeal := hKernelIdeal)
    ∧ quiescent_KernelIdeal_pre_finite_ones (hKernelIdeal := hKernelIdeal) (hPre_finite_ones := hPre_finite_ones)
    ∧ quiescent_ReferenceIdeal (hReferenceIdeal := hReferenceIdeal)
    ∧ quiescent_ReferenceIdeal_pre_finite_ones (hReferenceIdeal := hReferenceIdeal) (hPre_finite_ones := hPre_finite_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_tiles_in_use6 := hPre_tiles_in_use6)
    ∧ quiescent_Kernel6Ideal (hKernel6Ideal := hKernel6Ideal) (hPre_tiles_in_use6 := hPre_tiles_in_use6)
    ∧ quiescent_Reference6Ideal (hReference6Ideal := hReference6Ideal)
    ∧ quiescent_Reference6Ideal_pre_tiles_in_use6 (hReference6Ideal := hReference6Ideal) (hPre_tiles_in_use6 := hPre_tiles_in_use6)
    ∧ quiescent_Kernel7 (hKernel7 := hKernel7) (hPre_tiles_in_use7 := hPre_tiles_in_use7)
    ∧ quiescent_Kernel7Ideal (hKernel7Ideal := hKernel7Ideal) (hPre_tiles_in_use7 := hPre_tiles_in_use7)
    ∧ quiescent_Reference7Ideal (hReference7Ideal := hReference7Ideal)
    ∧ quiescent_Reference7Ideal_pre_tiles_in_use7 (hReference7Ideal := hReference7Ideal) (hPre_tiles_in_use7 := hPre_tiles_in_use7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_ones (hKernelIdeal := hKernelIdeal) (hReferenceIdeal := hReferenceIdeal) (hPre_finite_ones := hPre_finite_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_tiles_in_use6 := hPre_tiles_in_use6)
    ∧ preserves_Kernel7_Kernel7Ideal
    ∧ algebraic_Kernel7Ideal_Reference7Ideal (hKernel7Ideal := hKernel7Ideal) (hReference7Ideal := hReference7Ideal) (hPre_tiles_in_use7 := hPre_tiles_in_use7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_ones.lean ====
abbrev S16896x2048 : Shape := ⟨2, ![16896, 2048]⟩
abbrev S2x8448x512 : Shape := ⟨3, ![2, 8448, 512]⟩
abbrev S2x8448x1024 : Shape := ⟨3, ![2, 8448, 1024]⟩
abbrev S2x8448x4x256 : Shape := ⟨4, ![2, 8448, 4, 256]⟩
abbrev S2x8448x4x128 : Shape := ⟨4, ![2, 8448, 4, 128]⟩
abbrev S_ : Shape := ⟨0, ![]⟩

class Facts : Prop where
  shapeCasts_S2x8448x1024_S2x8448x4x256 : S2x8448x1024.ShapeCasts S2x8448x4x256
  slices_S2x8448x4x256_S2x8448x4x128_0_0_0_128 : S2x8448x4x256.Slices ![0, 0, 0, 128] S2x8448x4x128
  bitsLt_bf16_f32 : FTy.bits .bf16 < FTy.bits .f32
  bcast_S_S16896x2048 : S_.BroadcastsInDim S16896x2048 (![] : Fin 0 → Fin S16896x2048.rank)
  bcast_S_S2x8448x512 : S_.BroadcastsInDim S2x8448x512 (![] : Fin 0 → Fin S2x8448x512.rank)
  bcast_S_S2x8448x4x128 : S_.BroadcastsInDim S2x8448x4x128 (![] : Fin 0 → Fin S2x8448x4x128.rank)

variable [Facts]

def fn {F : FTy → Type} [FloatOps F] (main_arg0 : FVec F S16896x2048 .bf16) (main_arg1 : FVec F S2x8448x512 .bf16) (main_arg2 : FVec F S2x8448x1024 .bf16) : IVec S16896x2048 1 × IVec S2x8448x512 1 × IVec S2x8448x4x128 1 :=
  let main_v0 : FVec F S2x8448x4x256 .bf16 := shapeCast S2x8448x4x256 main_arg2 shapeCasts_S2x8448x1024_S2x8448x4x256
  let main_v1 : FVec F S2x8448x4x128 .bf16 := (extractStridedSlice S2x8448x4x128 ![0, 0, 0, 128] · slices_S2x8448x4x256_S2x8448x4x128_0_0_0_128) main_v0
  let main_v2 : FVec F S2x8448x4x128 .f32 := (extf .f32 · bitsLt_bf16_f32) main_v1
  let main_v3 : FVec F S16896x2048 .f32 := (extf .f32 · bitsLt_bf16_f32) main_arg0
  let main_v4 : FVec F S16896x2048 .f32 := Host.absf main_v3
  let main_cst : FVec F S_ .f32 := constant S_ .f32 0x7F800000#32
  let main_v5 : FVec F S16896x2048 .f32 := broadcastInDim S16896x2048 ![] bcast_S_S16896x2048 main_cst
  let main_v6 : IVec S16896x2048 1 := cmpf .olt main_v4 main_v5
  let main_v7 : FVec F S2x8448x512 .f32 := (extf .f32 · bitsLt_bf16_f32) main_arg1
  let main_v8 : FVec F S2x8448x512 .f32 := Host.absf main_v7
  let main_cst_0 : FVec F S_ .f32 := constant S_ .f32 0x7F800000#32
  let main_v9 : FVec F S2x8448x512 .f32 := broadcastInDim S2x8448x512 ![] bcast_S_S2x8448x512 main_cst_0
  let main_v10 : IVec S2x8448x512 1 := cmpf .olt main_v8 main_v9
  let main_cst_1 : FVec F S_ .f32 := constant S_ .f32 0x3F800000#32
  let main_v11 : FVec F S2x8448x4x128 .f32 := broadcastInDim S2x8448x4x128 ![] bcast_S_S2x8448x4x128 main_cst_1
  let main_v12 : IVec S2x8448x4x128 1 := cmpf .oeq main_v2 main_v11
  (main_v6, main_v10, main_v12)
-- ==== Pre_tiles_in_use6.lean ====
abbrev S74 : Shape := ⟨1, ![74]⟩
abbrev S37888x4096 : Shape := ⟨2, ![37888, 4096]⟩
abbrev S2x8x4096x1536 : Shape := ⟨4, ![2, 8, 4096, 1536]⟩
abbrev S_ : Shape := ⟨0, ![]⟩
abbrev S73 : Shape := ⟨1, ![73]⟩

class Facts : Prop where
  bcast_S_S74 : S_.BroadcastsInDim S74 (![] : Fin 0 → Fin S74.rank)
  slices_S74_S73_0 : S74.Slices ![0] S73
  bcast_S_S73 : S_.BroadcastsInDim S73 (![] : Fin 0 → Fin S73.rank)
  slices_S74_S73_1 : S74.Slices ![1] S73

variable [Facts]

def fn {F : FTy → Type} [FloatOps F] (main_arg0 : IVec S74 32) (main_arg1 : IVec S74 32) (main_arg2 : FVec F S37888x4096 .bf16) (main_arg3 : FVec F S2x8x4096x1536 .f32) (main_arg4 : FVec F S2x8x4096x1536 .f32) : IVec S74 1 × IVec S73 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 8#32
  let main_v2 : IVec S74 32 := broadcastInDim S74 ![] bcast_S_S74 main_c_0
  let main_v3 : IVec S74 1 := cmpi .slt main_arg0 main_v2
  let main_v4 : IVec S74 1 := andi main_v1 main_v3
  let main_v5 : IVec S73 32 := (extractStridedSlice S73 ![0] · slices_S74_S73_0) main_arg1
  let main_c_1 : IVec S_ 32 := constantI S_ 32 1#32
  let main_v6 : IVec S73 32 := broadcastInDim S73 ![] bcast_S_S73 main_c_1
  let main_v7 : IVec S73 1 := cmpi .eq main_v5 main_v6
  let main_v8 : IVec S73 32 := (extractStridedSlice S73 ![1] · slices_S74_S73_1) main_arg1
  let main_c_2 : IVec S_ 32 := constantI S_ 32 1#32
  let main_v9 : IVec S73 32 := broadcastInDim S73 ![] bcast_S_S73 main_c_2
  let main_v10 : IVec S73 1 := cmpi .ne main_v8 main_v9
  let main_v11 : IVec S73 1 := ori main_v7 main_v10
  (main_v4, main_v11)
-- ==== Pre_tiles_in_use7.lean ====
abbrev S74 : Shape := ⟨1, ![74]⟩
abbrev S37888x1536 : Shape := ⟨2, ![37888, 1536]⟩
abbrev S2x8x1536x4096 : Shape := ⟨4, ![2, 8, 1536, 4096]⟩
abbrev S_ : Shape := ⟨0, ![]⟩
abbrev S73 : Shape := ⟨1, ![73]⟩

class Facts : Prop where
  bcast_S_S74 : S_.BroadcastsInDim S74 (![] : Fin 0 → Fin S74.rank)
  slices_S74_S73_0 : S74.Slices ![0] S73
  bcast_S_S73 : S_.BroadcastsInDim S73 (![] : Fin 0 → Fin S73.rank)
  slices_S74_S73_1 : S74.Slices ![1] S73

variable [Facts]

def fn {F : FTy → Type} [FloatOps F] (main_arg0 : IVec S74 32) (main_arg1 : IVec S74 32) (main_arg2 : FVec F S37888x1536 .bf16) (main_arg3 : FVec F S2x8x1536x4096 .f32) : IVec S74 1 × IVec S73 1 :=
  let main_c : IVec S_ 32 := constantI S_ 32 0#32
  let main_v0 : IVec S74 32 := broadcastInDim S74 ![] bcast_S_S74 main_c
  let main_v1 : IVec S74 1 := cmpi .sge main_arg0 main_v0
  let main_c_0 : IVec S_ 32 := constantI S_ 32 8#32
  let main_v2 : IVec S74 32 := broadcastInDim S74 ![] bcast_S_S74 main_c_0
  let main_v3 : IVec S74 1 := cmpi .slt main_arg0 main_v2
  let main_v4 : IVec S74 1 := andi main_v1 main_v3
  let main_v5 : IVec S73 32 := (extractStridedSlice S73 ![0] · slices_S74_S73_0) main_arg1
  let main_c_1 : IVec S_ 32 := constantI S_ 32 1#32
  let main_v6 : IVec S73 32 := broadcastInDim S73 ![] bcast_S_S73 main_c_1
  let main_v7 : IVec S73 1 := cmpi .eq main_v5 main_v6
  let main_v8 : IVec S73 32 := (extractStridedSlice S73 ![1] · slices_S74_S73_1) main_arg1
  let main_c_2 : IVec S_ 32 := constantI S_ 32 1#32
  let main_v9 : IVec S73 32 := broadcastInDim S73 ![] bcast_S_S73 main_c_2
  let main_v10 : IVec S73 1 := cmpi .ne main_v8 main_v9
  let main_v11 : IVec S73 1 := ori main_v7 main_v10
  (main_v4, main_v11)
-- ==== Kernel.lean ====
abbrev S16896x2048 : Shape := ⟨2, ![16896, 2048]⟩
abbrev S2x8448x512 : Shape := ⟨3, ![2, 8448, 512]⟩
abbrev S2x8448x1024 : Shape := ⟨3, ![2, 8448, 1024]⟩
abbrev S16384x2048 : Shape := ⟨2, ![16384, 2048]⟩
abbrev S512x512 : Shape := ⟨2, ![512, 512]⟩
abbrev S1x2816x128 : Shape := ⟨3, ![1, 2816, 128]⟩
abbrev S1x2816x256 : Shape := ⟨3, ![1, 2816, 256]⟩
abbrev S2048x128 : Shape := ⟨2, ![2048, 128]⟩
abbrev S2048x256 : Shape := ⟨2, ![2048, 256]⟩
abbrev S2816x128 : Shape := ⟨2, ![2816, 128]⟩
abbrev S2816x256 : Shape := ⟨2, ![2816, 256]⟩
abbrev S512x128 : Shape := ⟨2, ![512, 128]⟩
abbrev S512x2816 : Shape := ⟨2, ![512, 2816]⟩
abbrev S512 : Shape := ⟨1, ![512]⟩
abbrev S512x1 : Shape := ⟨2, ![512, 1]⟩
abbrev S512x256 : Shape := ⟨2, ![512, 256]⟩

abbrev nBuf : Space → Nat
  | .hbm => 4
  | .vmem => 10
  | .smem => 0
  | _ => 0

abbrev bufTy : (tb : Table) → Fin (tcTables nBuf tb) → BufTy
  | .hbm, ⟨0, _⟩ => ⟨S16896x2048, .bf16⟩
  | .hbm, ⟨1, _⟩ => ⟨S2x8448x512, .bf16⟩
  | .hbm, ⟨2, _⟩ => ⟨S2x8448x1024, .bf16⟩
  | .hbm, ⟨3, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x2816x128, .bf16⟩
  | .local _ .vmem, ⟨3, _⟩ => ⟨S1x2816x128, .bf16⟩
  | .local _ .vmem, ⟨4, _⟩ => ⟨S1x2816x256, .bf16⟩
  | .local _ .vmem, ⟨5, _⟩ => ⟨S1x2816x256, .bf16⟩
  | .local _ .vmem, ⟨6, _⟩ => ⟨S512x512, .bf16⟩
  | .local _ .vmem, ⟨7, _⟩ => ⟨S512x512, .bf16⟩
  | .local _ .vmem, ⟨8, _⟩ => ⟨S2048x128, .f32⟩
  | .local _ .vmem, ⟨9, _⟩ => ⟨S2048x256, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 4, 16, 3], ![false, false, false, false]⟩

def k0_cond2 (i : grid0.Coords) : BitVec 1 :=
  let arg3 : BitVec 32 := BitVec.ofNat 32 (i 3).val
  let c2_i32 : BitVec 32 := 2#32
  let v527 : BitVec 1 := Scalar.cmpi .eq arg3 c2_i32
  let v528 : BitVec 32 := Scalar.extui v527
  let c0_i32_51 : BitVec 32 := 0#32
  let v529 : BitVec 1 := Scalar.cmpi .ne v528 c0_i32_51
  v529

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![arg0.toNat, v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x2816x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x2816x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceIdeal.lean ====
abbrev S16896x2048 : Shape := ⟨2, ![16896, 2048]⟩
abbrev S2x8448x512 : Shape := ⟨3, ![2, 8448, 512]⟩
abbrev S2x8448x1024 : Shape := ⟨3, ![2, 8448, 1024]⟩
abbrev S16384x2048 : Shape := ⟨2, ![16384, 2048]⟩
abbrev S2x8192x4x4x128 : Shape := ⟨5, ![2, 8192, 4, 4, 128]⟩
abbrev S2x8448x4x128 : Shape := ⟨4, ![2, 8448, 4, 128]⟩
abbrev S2x8448x4x256 : Shape := ⟨4, ![2, 8448, 4, 256]⟩
abbrev S2x4x8448x8192x4 : Shape := ⟨5, ![2, 4, 8448, 8192, 4]⟩
abbrev S2x4x4x8192x8448 : Shape := ⟨5, ![2, 4, 4, 8192, 8448]⟩
abbrev S_ : Shape := ⟨0, ![]⟩
abbrev S2x4x4x8192 : Shape := ⟨4, ![2, 4, 4, 8192]⟩
abbrev S2x4x4x8192x1 : Shape := ⟨5, ![2, 4, 4, 8192, 1]⟩
abbrev S2x4x128x4x8192 : Shape := ⟨5, ![2, 4, 128, 4, 8192]⟩

abbrev nBuf : Space → Nat
  | .hbm => 30
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2x8448x512, .bf16⟩
  | .hbm, ⟨2, _⟩ => ⟨S2x8448x1024, .bf16⟩
  | .hbm, ⟨3, _⟩ => ⟨S16384x2048, .bf16⟩
  | .hbm, ⟨4, _⟩ => ⟨S16384x2048, .f32⟩
  | .hbm, ⟨5, _⟩ => ⟨S2x8192x4x4x128, .f32⟩
  | .hbm, ⟨6, _⟩ => ⟨S2x8448x512, .f32⟩
  | .hbm, ⟨7, _⟩ => ⟨S2x8448x4x128, .f32⟩
  | .hbm, ⟨8, _⟩ => ⟨S2x8448x4x256, .bf16⟩
  | .hbm, ⟨9, _⟩ => ⟨S2x8448x4x128, .bf16⟩
  | .hbm, ⟨10, _⟩ => ⟨S2x8448x4x128, .f32⟩
  | .hbm, ⟨11, _⟩ => ⟨S2x4x8448x8192x4, .f32⟩
  | .hbm, ⟨12, _⟩ => ⟨S2x4x4x8192x8448, .f32⟩
  | .hbm, ⟨13, _⟩ => ⟨S_, .f32⟩
  | .hbm, ⟨14, _⟩ => ⟨S2x4x4x8192, .f32⟩
  | .hbm, ⟨15, _⟩ => ⟨S2x4x4x8192x1, .f32⟩
  | .hbm, ⟨16, _⟩ => ⟨S2x4x4x8192x8448, .f32⟩
  | .hbm, ⟨17, _⟩ => ⟨S2x4x4x8192x8448, .f32⟩
  | .hbm, ⟨18, _⟩ => ⟨S_, .f32⟩
  | .hbm, ⟨19, _⟩ => ⟨S2x4x4x8192x8448, .f32⟩
  | .hbm, ⟨20, _⟩ => ⟨S2x4x4x8192x8448, .f32⟩
  | .hbm, ⟨21, _⟩ => ⟨S_, .f32⟩
  | .hbm, ⟨22, _⟩ => ⟨S2x4x4x8192, .f32⟩
  | .hbm, ⟨23, _⟩ => ⟨S2x4x4x8192x1, .f32⟩
  | .hbm, ⟨24, _⟩ => ⟨S2x4x4x8192x8448, .f32⟩
  | .hbm, ⟨25, _⟩ => ⟨S2x4x4x8192x8448, .f32⟩
  | .hbm, ⟨26, _⟩ => ⟨S2x4x128x4x8192, .f32⟩
  | .hbm, ⟨27, _⟩ => ⟨S2x8192x4x4x128, .f32⟩
  | .hbm, ⟨28, _⟩ => ⟨S16384x2048, .f32⟩
  | .hbm, ⟨29, _⟩ => ⟨S16384x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel2.lean ====
abbrev S16896x4096 : Shape := ⟨2, ![16896, 4096]⟩
abbrev S4x4096x8192 : Shape := ⟨3, ![4, 4096, 8192]⟩
abbrev S1x8192 : Shape := ⟨2, ![1, 8192]⟩
abbrev S16896x8192 : Shape := ⟨2, ![16896, 8192]⟩
abbrev S1536x4096 : Shape := ⟨2, ![1536, 4096]⟩
abbrev S1x4096x512 : Shape := ⟨3, ![1, 4096, 512]⟩
abbrev S1x512 : Shape := ⟨2, ![1, 512]⟩
abbrev S1536x512 : Shape := ⟨2, ![1536, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S16896x4096, .bf16⟩
  | .hbm, ⟨1, _⟩ => ⟨S4x4096x8192, .f32⟩
  | .hbm, ⟨2, _⟩ => ⟨S1x8192, .f32⟩
  | .hbm, ⟨3, _⟩ => ⟨S16896x8192, .bf16⟩
  | .local _ .vmem, ⟨0, _⟩ => ⟨S1536x4096, .bf16⟩
  | .local _ .vmem, ⟨1, _⟩ => ⟨S1536x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1536x512, .bf16⟩
  | .local _ .vmem, ⟨7, _⟩ => ⟨S1536x512, .bf16⟩
  | .local _ .vmem, ⟨8, _⟩ => ⟨S4096x512, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg0 c10_i32
  let c12_i32 : BitVec 32 := 12#32
  let v1 : BitVec 1 := Scalar.cmpi .slt arg0 c12_i32
  let c4_i32 : BitVec 32 := 4#32
  let v2 : BitVec 32 := Scalar.addi arg0 c4_i32
  let c2_i32 : BitVec 32 := 2#32
  let v3 : BitVec 32 := Scalar.subi arg0 c2_i32
  let v4 : BitVec 32 := Scalar.select v1 v2 v3
  let v5 : BitVec 32 := Scalar.select v0 arg0 v4
  let c0_i32 : BitVec 32 := 0#32
  let c0_i32_0 : BitVec 32 := 0#32
  let c0_i32_1 : BitVec 32 := 0#32
  ![c0_i32.toNat, c0_i32_0.toNat, v5.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .slt arg0 c10_i32
  let c12_i32 : BitVec 32 := 12#32
  let v1 : BitVec 1 := Scalar.cmpi .slt arg0 c12_i32
  let c4_i32 : BitVec 32 := 4#32
  let v2 : BitVec 32 := Scalar.addi arg0 c4_i32
  let c2_i32 : BitVec 32 := 2#32
  let v3 : BitVec 32 := Scalar.subi arg0 c2_i32
  let v4 : BitVec 32 := Scalar.select v1 v2 v3
  let v5 : BitVec 32 := Scalar.select v0 arg0 v4
  let c0_i32 : BitVec 32 := 0#32
  let c0_i32_0 : BitVec 32 := 0#32
  ![c0_i32.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16896x4096 : Shape := ⟨2, ![16896, 4096]⟩
abbrev S4x4096x8192 : Shape := ⟨3, ![4, 4096, 8192]⟩
abbrev S1x8192 : Shape := ⟨2, ![1, 8192]⟩
abbrev S1x4096x8192 : Shape := ⟨3, ![1, 4096, 8192]⟩
abbrev S4096x8192 : Shape := ⟨2, ![4096, 8192]⟩
abbrev S16896x8192 : Shape := ⟨2, ![16896, 8192]⟩
abbrev S16896x5120 : Shape := ⟨2, ![16896, 5120]⟩
abbrev S16896x2048 : Shape := ⟨2, ![16896, 2048]⟩
abbrev S16896x1024 : Shape := ⟨2, ![16896, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4x4096x8192, .f32⟩
  | .hbm, ⟨2, _⟩ => ⟨S1x8192, .f32⟩
  | .hbm, ⟨3, _⟩ => ⟨S16896x4096, .f32⟩
  | .hbm, ⟨4, _⟩ => ⟨S1x4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S16896x8192, .f32⟩
  | .hbm, ⟨9, _⟩ => ⟨S16896x5120, .f32⟩
  | .hbm, ⟨10, _⟩ => ⟨S16896x2048, .f32⟩
  | .hbm, ⟨11, _⟩ => ⟨S16896x1024, .f32⟩
  | .hbm, ⟨12, _⟩ => ⟨S16896x8192, .f32⟩
  | .hbm, ⟨13, _⟩ => ⟨S16896x8192, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S16896x4096 : Shape := ⟨2, ![16896, 4096]⟩
abbrev S2x4096x8192 : Shape := ⟨3, ![2, 4096, 8192]⟩
abbrev S16896x8192 : Shape := ⟨2, ![16896, 8192]⟩
abbrev S1536x4096 : Shape := ⟨2, ![1536, 4096]⟩
abbrev S1x4096x256 : Shape := ⟨3, ![1, 4096, 256]⟩
abbrev S1536x256 : Shape := ⟨2, ![1536, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S2x4096x8192, .f32⟩
  | .hbm, ⟨2, _⟩ => ⟨S2x4096x8192, .f32⟩
  | .hbm, ⟨3, _⟩ => ⟨S16896x8192, .bf16⟩
  | .local _ .vmem, ⟨0, _⟩ => ⟨S1536x4096, .bf16⟩
  | .local _ .vmem, ⟨1, _⟩ => ⟨S1536x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1536x256, .bf16⟩
  | .local _ .vmem, ⟨7, _⟩ => ⟨S1536x256, .bf16⟩
  | .local _ .vmem, ⟨8, _⟩ => ⟨S4096x256, .bf16⟩
  | .local _ .vmem, ⟨9, _⟩ => ⟨S4096x256, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16896x4096 : Shape := ⟨2, ![16896, 4096]⟩
abbrev S2x4096x8192 : Shape := ⟨3, ![2, 4096, 8192]⟩
abbrev S1x4096x8192 : Shape := ⟨3, ![1, 4096, 8192]⟩
abbrev S4096x8192 : Shape := ⟨2, ![4096, 8192]⟩
abbrev S16896x8192 : Shape := ⟨2, ![16896, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S2x4096x8192, .f32⟩
  | .hbm, ⟨2, _⟩ => ⟨S2x4096x8192, .f32⟩
  | .hbm, ⟨3, _⟩ => ⟨S16896x4096, .f32⟩
  | .hbm, ⟨4, _⟩ => ⟨S1x4096x8192, .f32⟩
  | .hbm, ⟨5, _⟩ => ⟨S4096x8192, .f32⟩
  | .hbm, ⟨6, _⟩ => ⟨S16896x8192, .f32⟩
  | .hbm, ⟨7, _⟩ => ⟨S16896x8192, .f32⟩
  | .hbm, ⟨8, _⟩ => ⟨S16896x8192, .f32⟩
  | .hbm, ⟨9, _⟩ => ⟨S_, .f32⟩
  | .hbm, ⟨10, _⟩ => ⟨S16896x8192, .f32⟩
  | .hbm, ⟨11, _⟩ => ⟨S16896x8192, .f32⟩
  | .hbm, ⟨12, _⟩ => ⟨S_, .f32⟩
  | .hbm, ⟨13, _⟩ => ⟨S16896x8192, .f32⟩
  | .hbm, ⟨14, _⟩ => ⟨S16896x8192, .f32⟩
  | .hbm, ⟨15, _⟩ => ⟨S16896x8192, .f32⟩
  | .hbm, ⟨16, _⟩ => ⟨S1x4096x8192, .f32⟩
  | .hbm, ⟨17, _⟩ => ⟨S4096x8192, .f32⟩
  | .hbm, ⟨18, _⟩ => ⟨S16896x8192, .f32⟩
  | .hbm, ⟨19, _⟩ => ⟨S16896x8192, .f32⟩
  | .hbm, ⟨20, _⟩ => ⟨S16896x8192, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel4.lean ====
abbrev S16896x8192 : Shape := ⟨2, ![16896, 8192]⟩
abbrev S2x8192x4096 : Shape := ⟨3, ![2, 8192, 4096]⟩
abbrev S16896x4096 : Shape := ⟨2, ![16896, 4096]⟩
abbrev S48x1x4096 : Shape := ⟨3, ![48, 1, 4096]⟩
abbrev S512x8192 : Shape := ⟨2, ![512, 8192]⟩
abbrev S1x8192x512 : Shape := ⟨3, ![1, 8192, 512]⟩
abbrev S512x512 : Shape := ⟨2, ![512, 512]⟩
abbrev S1x1x512 : Shape := ⟨3, ![1, 1, 512]⟩
abbrev S8192x512 : Shape := ⟨2, ![8192, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16896x8192, .bf16⟩
  | .hbm, ⟨1, _⟩ => ⟨S2x8192x4096, .bf16⟩
  | .hbm, ⟨2, _⟩ => ⟨S16896x4096, .f32⟩
  | .hbm, ⟨3, _⟩ => ⟨S48x1x4096, .f32⟩
  | .hbm, ⟨4, _⟩ => ⟨S16896x4096, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S16896x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c5_i32 : BitVec 32 := 5#32
  let v20 : BitVec 32 := Scalar.addi v19 c5_i32
  let c0_i32_4 : BitVec 32 := 0#32
  let c0_i32_5 : BitVec 32 := 0#32
  ![v20.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16896x8192 : Shape := ⟨2, ![16896, 8192]⟩
abbrev S2x8192x4096 : Shape := ⟨3, ![2, 8192, 4096]⟩
abbrev S16896x4096 : Shape := ⟨2, ![16896, 4096]⟩
abbrev S48x1x4096 : Shape := ⟨3, ![48, 1, 4096]⟩
abbrev S1x8192x4096 : Shape := ⟨3, ![1, 8192, 4096]⟩
abbrev S8192x4096 : Shape := ⟨2, ![8192, 4096]⟩
abbrev S8x6x4096 : Shape := ⟨3, ![8, 6, 4096]⟩
abbrev S8x1x4096 : Shape := ⟨3, ![8, 1, 4096]⟩
abbrev S8x4096 : Shape := ⟨2, ![8, 4096]⟩
abbrev S1x4096 : Shape := ⟨2, ![1, 4096]⟩
abbrev S512x4096 : Shape := ⟨2, ![512, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16896x8192, .bf16⟩
  | .hbm, ⟨1, _⟩ => ⟨S2x8192x4096, .bf16⟩
  | .hbm, ⟨2, _⟩ => ⟨S16896x4096, .f32⟩
  | .hbm, ⟨3, _⟩ => ⟨S48x1x4096, .f32⟩
  | .hbm, ⟨4, _⟩ => ⟨S16896x8192, .f32⟩
  | .hbm, ⟨5, _⟩ => ⟨S1x8192x4096, .bf16⟩
  | .hbm, ⟨6, _⟩ => ⟨S8192x4096, .bf16⟩
  | .hbm, ⟨7, _⟩ => ⟨S8192x4096, .f32⟩
  | .hbm, ⟨8, _⟩ => ⟨S16896x4096, .f32⟩
  | .hbm, ⟨9, _⟩ => ⟨S8x6x4096, .f32⟩
  | .hbm, ⟨10, _⟩ => ⟨S8x1x4096, .f32⟩
  | .hbm, ⟨11, _⟩ => ⟨S8x4096, .f32⟩
  | .hbm, ⟨12, _⟩ => ⟨S1x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S1x4096, .f32⟩
  | .hbm, ⟨17, _⟩ => ⟨S512x4096, .f32⟩
  | .hbm, ⟨18, _⟩ => ⟨S16896x4096, .f32⟩
  | .hbm, ⟨19, _⟩ => ⟨S16896x4096, .f32⟩
  | .hbm, ⟨20, _⟩ => ⟨S16896x4096, .f32⟩
  | _, _ => ⟨S16896x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel5.lean ====
abbrev S16896x4096 : Shape := ⟨2, ![16896, 4096]⟩
abbrev S4x4096x4096 : Shape := ⟨3, ![4, 4096, 4096]⟩
abbrev S48x1x4096 : Shape := ⟨3, ![48, 1, 4096]⟩
abbrev S1536x4096 : Shape := ⟨2, ![1536, 4096]⟩
abbrev S1x4096x512 : Shape := ⟨3, ![1, 4096, 512]⟩
abbrev S1536x512 : Shape := ⟨2, ![1536, 512]⟩
abbrev S1x1x512 : Shape := ⟨3, ![1, 1, 512]⟩
abbrev S4096x512 : Shape := ⟨2, ![4096, 512]⟩
abbrev S1536x1 : Shape := ⟨2, ![1536, 1]⟩
abbrev S1x512 : Shape := ⟨2, ![1, 512]⟩

abbrev nBuf : Space → Nat
  | .hbm => 5
  | .vmem => 12
  | .smem => 0
  | _ => 0

abbrev bufTy : (tb : Table) → Fin (tcTables nBuf tb) → BufTy
  | .hbm, ⟨0, _⟩ => ⟨S16896x4096, .bf16⟩
  | .hbm, ⟨1, _⟩ => ⟨S4x4096x4096, .bf16⟩
  | .hbm, ⟨2, _⟩ => ⟨S16896x4096, .f32⟩
  | .hbm, ⟨3, _⟩ => ⟨S48x1x4096, .f32⟩
  | .hbm, ⟨4, _⟩ => ⟨S16896x4096, .f32⟩
  | .local _ .vmem, ⟨0, _⟩ => ⟨S1536x4096, .bf16⟩
  | .local _ .vmem, ⟨1, _⟩ => ⟨S1536x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1536x512, .f32⟩
  | .local _ .vmem, ⟨5, _⟩ => ⟨S1536x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1536x512, .f32⟩
  | .local _ .vmem, ⟨11, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1536_i32 : BitVec 32 := 1536#32
  let v0 : BitVec 32 := Scalar.muli arg0 c1536_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c2_i32_4 : BitVec 32 := 2#32
  let v20 : BitVec 32 := Scalar.addi v19 c2_i32_4
  let c0_i32_5 : BitVec 32 := 0#32
  let c0_i32_6 : BitVec 32 := 0#32
  ![v20.toNat, c0_i32_5.toNat, arg1.toNat]

def cc0_transform_4 (i : grid0.Coords) : Fin 3 → Nat :=
  let arg0 : BitVec 32 := BitVec.ofNat 32 (i 0).val
  let arg1 : BitVec 32 := BitVec.ofNat 32 (i 1).val
  let c1536_i32 : BitVec 32 := 1536#32
  let v0 : BitVec 32 := Scalar.muli arg0 c1536_i32
  let c1536_i32_0 : BitVec 32 := 1536#32
  let v1 : BitVec 32 := Scalar.addi v0 c1536_i32_0
  let c1_i32 : BitVec 32 := 1#32
  let v2 : BitVec 32 := Scalar.subi v1 c1_i32
  let c8192_i32 : BitVec 32 := 8192#32
  let v3 : BitVec 32 := Scalar.divsi v2 c8192_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8192_i32 c0_i32_2
  let v10 : BitVec 32 := Scalar.extui v9
  let c0_i32_3 : BitVec 32 := 0#32
  let v11 : BitVec 1 := Scalar.cmpi .slt c8192_i32 c0_i32_3
  let v12 : BitVec 32 := Scalar.extui v11
  let v13 : BitVec 32 := Scalar.subi v10 v12
  let v14 : BitVec 1 := Scalar.cmpi .ne v8 v13
  let v15 : BitVec 32 := Scalar.remsi v2 c8192_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c2_i32 : BitVec 32 := 2#32
  let v20 : BitVec 32 := Scalar.minsi v19 c2_i32
  let c6_i32 : BitVec 32 := 6#32
  let v21 : BitVec 32 := Scalar.muli v20 c6_i32
  let c2_i32_6 : BitVec 32 := 2#32
  let v22 : BitVec 32 := Scalar.addi v21 c2_i32_6
  let c0_i32_7 : BitVec 32 := 0#32
  let c0_i32_8 : BitVec 32 := 0#32
  ![v22.toNat, c0_i32_7.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16896x4096 : Shape := ⟨2, ![16896, 4096]⟩
abbrev S4x4096x4096 : Shape := ⟨3, ![4, 4096, 4096]⟩
abbrev S48x1x4096 : Shape := ⟨3, ![48, 1, 4096]⟩
abbrev S1x4096x4096 : Shape := ⟨3, ![1, 4096, 4096]⟩
abbrev S4096x4096 : Shape := ⟨2, ![4096, 4096]⟩
abbrev S8x6x4096 : Shape := ⟨3, ![8, 6, 4096]⟩
abbrev S8x1x4096 : Shape := ⟨3, ![8, 1, 4096]⟩
abbrev S8x4096 : Shape := ⟨2, ![8, 4096]⟩
abbrev S1x4096 : Shape := ⟨2, ![1, 4096]⟩
abbrev S8192x4096 : Shape := ⟨2, ![8192, 4096]⟩
abbrev S512x4096 : Shape := ⟨2, ![512, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4x4096x4096, .bf16⟩
  | .hbm, ⟨2, _⟩ => ⟨S16896x4096, .f32⟩
  | .hbm, ⟨3, _⟩ => ⟨S48x1x4096, .f32⟩
  | .hbm, ⟨4, _⟩ => ⟨S16896x4096, .f32⟩
  | .hbm, ⟨5, _⟩ => ⟨S1x4096x4096, .bf16⟩
  | .hbm, ⟨6, _⟩ => ⟨S4096x4096, .bf16⟩
  | .hbm, ⟨7, _⟩ => ⟨S4096x4096, .f32⟩
  | .hbm, ⟨8, _⟩ => ⟨S16896x4096, .f32⟩
  | .hbm, ⟨9, _⟩ => ⟨S8x6x4096, .f32⟩
  | .hbm, ⟨10, _⟩ => ⟨S8x1x4096, .f32⟩
  | .hbm, ⟨11, _⟩ => ⟨S8x4096, .f32⟩
  | .hbm, ⟨12, _⟩ => ⟨S1x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S1x4096, .f32⟩
  | .hbm, ⟨17, _⟩ => ⟨S512x4096, .f32⟩
  | .hbm, ⟨18, _⟩ => ⟨S16896x4096, .f32⟩
  | .hbm, ⟨19, _⟩ => ⟨S16896x4096, .f32⟩
  | .hbm, ⟨20, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel6.lean ====
abbrev S74 : Shape := ⟨1, ![74]⟩
abbrev S37888x4096 : Shape := ⟨2, ![37888, 4096]⟩
abbrev S2x8x4096x1536 : Shape := ⟨4, ![2, 8, 4096, 1536]⟩
abbrev S37888x1536 : Shape := ⟨2, ![37888, 1536]⟩
abbrev S512x4096 : Shape := ⟨2, ![512, 4096]⟩
abbrev S1x1x4096x512 : Shape := ⟨4, ![1, 1, 4096, 512]⟩
abbrev S1 : Shape := ⟨1, ![1]⟩
abbrev S512x512 : Shape := ⟨2, ![512, 512]⟩
abbrev S4096x512 : Shape := ⟨2, ![4096, 512]⟩

abbrev nBuf : Space → Nat
  | .hbm => 4
  | .vmem => 10
  | .smem => 2
  | _ => 0

abbrev bufTy : (tb : Table) → Fin (tcTables nBuf tb) → BufTy
  | .hbm, ⟨0, _⟩ => ⟨S37888x4096, .bf16⟩
  | .hbm, ⟨1, _⟩ => ⟨S2x8x4096x1536, .f32⟩
  | .hbm, ⟨2, _⟩ => ⟨S2x8x4096x1536, .f32⟩
  | .hbm, ⟨3, _⟩ => ⟨S37888x1536, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .smem, ⟨0, _⟩ => ⟨S74, .i32⟩
  | .local _ .smem, ⟨1, _⟩ => ⟨S74, .i32⟩
  | _, _ => ⟨S37888x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 74], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32_0 : BitVec 32 := 1#32
  let v6 : BitVec 32 := Scalar.subi arg1 c1_i32_0
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c1_i32 : BitVec 32 := 1#32
  let v2 : BitVec 1 := Scalar.cmpi .eq v1 c1_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c1_i32 : BitVec 32 := 1#32
  let v2 : BitVec 1 := Scalar.cmpi .eq v1 c1_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S74.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S74 : Shape := ⟨1, ![74]⟩
abbrev S37888x4096 : Shape := ⟨2, ![37888, 4096]⟩
abbrev S2x8x4096x1536 : Shape := ⟨4, ![2, 8, 4096, 1536]⟩
abbrev S74x512 : Shape := ⟨2, ![74, 512]⟩
abbrev S37888 : Shape := ⟨1, ![37888]⟩
abbrev S37888x1 : Shape := ⟨2, ![37888, 1]⟩
abbrev S_ : Shape := ⟨0, ![]⟩
abbrev S37888x1536 : Shape := ⟨2, ![37888, 1536]⟩
abbrev S1x1x4096x1536 : Shape := ⟨4, ![1, 1, 4096, 1536]⟩
abbrev S4096x1536 : Shape := ⟨2, ![4096, 1536]⟩

abbrev nBuf : Space → Nat
  | .hbm => 194
  | .vmem => 0
  | .smem => 0
  | _ => 0

abbrev hbmTy0_0 (i : Nat) : BufTy := match i % 128 with
  | 0 => ⟨S74, .i32⟩
  | 1 => ⟨S74, .i32⟩
  | 2 => ⟨S37888x4096, .bf16⟩
  | 3 => ⟨S2x8x4096x1536, .f32⟩
  | 4 => ⟨S2x8x4096x1536, .f32⟩
  | 5 => ⟨S74x512, .i32⟩
  | 6 => ⟨S37888, .i32⟩
  | 7 => ⟨S37888x1, .i32⟩
  | 8 => ⟨S74x512, .i32⟩
  | 9 => ⟨S37888, .i32⟩
  | 10 => ⟨S37888x1, .i32⟩
  | 11 => ⟨S_, .i32⟩
  | 12 => ⟨S37888x1, .i32⟩
  | 13 => ⟨S37888x1, .i1⟩
  | 14 => ⟨S37888x4096, .f32⟩
  | 15 => ⟨S_, .f32⟩
  | 16 => ⟨S37888x1536, .f32⟩
  | 17 => ⟨S1x1x4096x1536, .f32⟩
  | 18 => ⟨S4096x1536, .f32⟩
  | 19 => ⟨S37888x1536, .f32⟩
  | 20 => ⟨S37888x1536, .f32⟩
  | 21 => ⟨S37888x1536, .f32⟩
  | 22 => ⟨S_, .f32⟩
  | 23 => ⟨S37888x1536, .f32⟩
  | 24 => ⟨S37888x1536, .f32⟩
  | 25 => ⟨S_, .f32⟩
  | 26 => ⟨S37888x1536, .f32⟩
  | 27 => ⟨S37888x1536, .f32⟩
  | 28 => ⟨S37888x1536, .f32⟩
  | 29 => ⟨S1x1x4096x1536, .f32⟩
  | 30 => ⟨S4096x1536, .f32⟩
  | 31 => ⟨S37888x1536, .f32⟩
  | 32 => ⟨S37888x1536, .f32⟩
  | 33 => ⟨S_, .i32⟩
  | 34 => ⟨S37888x1, .i32⟩
  | 35 => ⟨S37888x1, .i1⟩
  | 36 => ⟨S37888x1, .i1⟩
  | 37 => ⟨S37888x1536, .i1⟩
  | 38 => ⟨S37888x1536, .f32⟩
  | 39 => ⟨S1x1x4096x1536, .f32⟩
  | 40 => ⟨S4096x1536, .f32⟩
  | 41 => ⟨S37888x1536, .f32⟩
  | 42 => ⟨S37888x1536, .f32⟩
  | 43 => ⟨S37888x1536, .f32⟩
  | 44 => ⟨S_, .f32⟩
  | 45 => ⟨S37888x1536, .f32⟩
  | 46 => ⟨S37888x1536, .f32⟩
  | 47 => ⟨S_, .f32⟩
  | 48 => ⟨S37888x1536, .f32⟩
  | 49 => ⟨S37888x1536, .f32⟩
  | 50 => ⟨S37888x1536, .f32⟩
  | 51 => ⟨S1x1x4096x1536, .f32⟩
  | 52 => ⟨S4096x1536, .f32⟩
  | 53 => ⟨S37888x1536, .f32⟩
  | 54 => ⟨S37888x1536, .f32⟩
  | 55 => ⟨S_, .i32⟩
  | 56 => ⟨S37888x1, .i32⟩
  | 57 => ⟨S37888x1, .i1⟩
  | 58 => ⟨S37888x1, .i1⟩
  | 59 => ⟨S37888x1536, .i1⟩
  | 60 => ⟨S37888x1536, .f32⟩
  | 61 => ⟨S1x1x4096x1536, .f32⟩
  | 62 => ⟨S4096x1536, .f32⟩
  | 63 => ⟨S37888x1536, .f32⟩
  | 64 => ⟨S37888x1536, .f32⟩
  | 65 => ⟨S37888x1536, .f32⟩
  | 66 => ⟨S_, .f32⟩
  | 67 => ⟨S37888x1536, .f32⟩
  | 68 => ⟨S37888x1536, .f32⟩
  | 69 => ⟨S_, .f32⟩
  | 70 => ⟨S37888x1536, .f32⟩
  | 71 => ⟨S37888x1536, .f32⟩
  | 72 => ⟨S37888x1536, .f32⟩
  | 73 => ⟨S1x1x4096x1536, .f32⟩
  | 74 => ⟨S4096x1536, .f32⟩
  | 75 => ⟨S37888x1536, .f32⟩
  | 76 => ⟨S37888x1536, .f32⟩
  | 77 => ⟨S_, .i32⟩
  | 78 => ⟨S37888x1, .i32⟩
  | 79 => ⟨S37888x1, .i1⟩
  | 80 => ⟨S37888x1, .i1⟩
  | 81 => ⟨S37888x1536, .i1⟩
  | 82 => ⟨S37888x1536, .f32⟩
  | 83 => ⟨S1x1x4096x1536, .f32⟩
  | 84 => ⟨S4096x1536, .f32⟩
  | 85 => ⟨S37888x1536, .f32⟩
  | 86 => ⟨S37888x1536, .f32⟩
  | 87 => ⟨S37888x1536, .f32⟩
  | 88 => ⟨S_, .f32⟩
  | 89 => ⟨S37888x1536, .f32⟩
  | 90 => ⟨S37888x1536, .f32⟩
  | 91 => ⟨S_, .f32⟩
  | 92 => ⟨S37888x1536, .f32⟩
  | 93 => ⟨S37888x1536, .f32⟩
  | 94 => ⟨S37888x1536, .f32⟩
  | 95 => ⟨S1x1x4096x1536, .f32⟩
  | 96 => ⟨S4096x1536, .f32⟩
  | 97 => ⟨S37888x1536, .f32⟩
  | 98 => ⟨S37888x1536, .f32⟩
  | 99 => ⟨S_, .i32⟩
  | 100 => ⟨S37888x1, .i32⟩
  | 101 => ⟨S37888x1, .i1⟩
  | 102 => ⟨S37888x1, .i1⟩
  | 103 => ⟨S37888x1536, .i1⟩
  | 104 => ⟨S37888x1536, .f32⟩
  | 105 => ⟨S1x1x4096x1536, .f32⟩
  | 106 => ⟨S4096x1536, .f32⟩
  | 107 => ⟨S37888x1536, .f32⟩
  | 108 => ⟨S37888x1536, .f32⟩
  | 109 => ⟨S37888x1536, .f32⟩
  | 110 => ⟨S_, .f32⟩
  | 111 => ⟨S37888x1536, .f32⟩
  | 112 => ⟨S37888x1536, .f32⟩
  | 113 => ⟨S_, .f32⟩
  | 114 => ⟨S37888x1536, .f32⟩
  | 115 => ⟨S37888x1536, .f32⟩
  | 116 => ⟨S37888x1536, .f32⟩
  | 117 => ⟨S1x1x4096x1536, .f32⟩
  | 118 => ⟨S4096x1536, .f32⟩
  | 119 => ⟨S37888x1536, .f32⟩
  | 120 => ⟨S37888x1536, .f32⟩
  | 121 => ⟨S_, .i32⟩
  | 122 => ⟨S37888x1, .i32⟩
  | 123 => ⟨S37888x1, .i1⟩
  | 124 => ⟨S37888x1, .i1⟩
  | 125 => ⟨S37888x1536, .i1⟩
  | 126 => ⟨S37888x1536, .f32⟩
  | 127 => ⟨S1x1x4096x1536, .f32⟩
  | _ => ⟨S74, .i32⟩

abbrev hbmTy0_1 (i : Nat) : BufTy := match i % 128 with
  | 0 => ⟨S4096x1536, .f32⟩
  | 1 => ⟨S37888x1536, .f32⟩
  | 2 => ⟨S37888x1536, .f32⟩
  | 3 => ⟨S37888x1536, .f32⟩
  | 4 => ⟨S_, .f32⟩
  | 5 => ⟨S37888x1536, .f32⟩
  | 6 => ⟨S37888x1536, .f32⟩
  | 7 => ⟨S_, .f32⟩
  | 8 => ⟨S37888x1536, .f32⟩
  | 9 => ⟨S37888x1536, .f32⟩
  | 10 => ⟨S37888x1536, .f32⟩
  | 11 => ⟨S1x1x4096x1536, .f32⟩
  | 12 => ⟨S4096x1536, .f32⟩
  | 13 => ⟨S37888x1536, .f32⟩
  | 14 => ⟨S37888x1536, .f32⟩
  | 15 => ⟨S_, .i32⟩
  | 16 => ⟨S37888x1, .i32⟩
  | 17 => ⟨S37888x1, .i1⟩
  | 18 => ⟨S37888x1, .i1⟩
  | 19 => ⟨S37888x1536, .i1⟩
  | 20 => ⟨S37888x1536, .f32⟩
  | 21 => ⟨S1x1x4096x1536, .f32⟩
  | 22 => ⟨S4096x1536, .f32⟩
  | 23 => ⟨S37888x1536, .f32⟩
  | 24 => ⟨S37888x1536, .f32⟩
  | 25 => ⟨S37888x1536, .f32⟩
  | 26 => ⟨S_, .f32⟩
  | 27 => ⟨S37888x1536, .f32⟩
  | 28 => ⟨S37888x1536, .f32⟩
  | 29 => ⟨S_, .f32⟩
  | 30 => ⟨S37888x1536, .f32⟩
  | 31 => ⟨S37888x1536, .f32⟩
  | 32 => ⟨S37888x1536, .f32⟩
  | 33 => ⟨S1x1x4096x1536, .f32⟩
  | 34 => ⟨S4096x1536, .f32⟩
  | 35 => ⟨S37888x1536, .f32⟩
  | 36 => ⟨S37888x1536, .f32⟩
  | 37 => ⟨S_, .i32⟩
  | 38 => ⟨S37888x1, .i32⟩
  | 39 => ⟨S37888x1, .i1⟩
  | 40 => ⟨S37888x1, .i1⟩
  | 41 => ⟨S37888x1536, .i1⟩
  | 42 => ⟨S37888x1536, .f32⟩
  | 43 => ⟨S1x1x4096x1536, .f32⟩
  | 44 => ⟨S4096x1536, .f32⟩
  | 45 => ⟨S37888x1536, .f32⟩
  | 46 => ⟨S37888x1536, .f32⟩
  | 47 => ⟨S37888x1536, .f32⟩
  | 48 => ⟨S_, .f32⟩
  | 49 => ⟨S37888x1536, .f32⟩
  | 50 => ⟨S37888x1536, .f32⟩
  | 51 => ⟨S_, .f32⟩
  | 52 => ⟨S37888x1536, .f32⟩
  | 53 => ⟨S37888x1536, .f32⟩
  | 54 => ⟨S37888x1536, .f32⟩
  | 55 => ⟨S1x1x4096x1536, .f32⟩
  | 56 => ⟨S4096x1536, .f32⟩
  | 57 => ⟨S37888x1536, .f32⟩
  | 58 => ⟨S37888x1536, .f32⟩
  | 59 => ⟨S_, .i32⟩
  | 60 => ⟨S37888x1, .i32⟩
  | 61 => ⟨S37888x1, .i1⟩
  | 62 => ⟨S37888x1, .i1⟩
  | 63 => ⟨S37888x1536, .i1⟩
  | 64 => ⟨S37888x1536, .f32⟩
  | 65 => ⟨S37888x1536, .bf16⟩
  | _ => ⟨S74, .i32⟩

abbrev hbmTy (i : Nat) : BufTy := match i / 128 with
  | 0 => hbmTy0_0 i
  | 1 => hbmTy0_1 i
  | _ => ⟨S74, .i32⟩

abbrev bufTy : (tb : Table) → Fin (tcTables nBuf tb) → BufTy
  | .hbm, ⟨i, _⟩ => hbmTy i
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call3_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call4_v0 : Ref sig .tc := ⟨.hbm, 64, rfl⟩
abbrev main_call4_v1 : Ref sig .tc := ⟨.hbm, 65, rfl⟩
abbrev main_call4_cst : Ref sig .tc := ⟨.hbm, 66, rfl⟩
abbrev main_call4_v2 : Ref sig .tc := ⟨.hbm, 67, rfl⟩
abbrev main_call4_v3 : Ref sig .tc := ⟨.hbm, 68, rfl⟩
abbrev main_call4_cst_0 : Ref sig .tc := ⟨.hbm, 69, rfl⟩
abbrev main_call4_v4 : Ref sig .tc := ⟨.hbm, 70, rfl⟩
abbrev main_call4_v5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_2 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call5_v0 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call6_v0 : Ref sig .tc := ⟨.hbm, 86, rfl⟩
abbrev main_call6_v1 : Ref sig .tc := ⟨.hbm, 87, rfl⟩
abbrev main_call6_cst : Ref sig .tc := ⟨.hbm, 88, rfl⟩
abbrev main_call6_v2 : Ref sig .tc := ⟨.hbm, 89, rfl⟩
abbrev main_call6_v3 : Ref sig .tc := ⟨.hbm, 90, rfl⟩
abbrev main_call6_cst_0 : Ref sig .tc := ⟨.hbm, 91, rfl⟩
abbrev main_call6_v4 : Ref sig .tc := ⟨.hbm, 92, rfl⟩
abbrev main_call6_v5 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_3 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_call7_v0 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call8_v0 : Ref sig .tc := ⟨.hbm, 108, rfl⟩
abbrev main_call8_v1 : Ref sig .tc := ⟨.hbm, 109, rfl⟩
abbrev main_call8_cst : Ref sig .tc := ⟨.hbm, 110, rfl⟩
abbrev main_call8_v2 : Ref sig .tc := ⟨.hbm, 111, rfl⟩
abbrev main_call8_v3 : Ref sig .tc := ⟨.hbm, 112, rfl⟩
abbrev main_call8_cst_0 : Ref sig .tc := ⟨.hbm, 113, rfl⟩
abbrev main_call8_v4 : Ref sig .tc := ⟨.hbm, 114, rfl⟩
abbrev main_call8_v5 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_4 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call9_v0 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_call10_v0 : Ref sig .tc := ⟨.hbm, 130, rfl⟩
abbrev main_call10_v1 : Ref sig .tc := ⟨.hbm, 131, rfl⟩
abbrev main_call10_cst : Ref sig .tc := ⟨.hbm, 132, rfl⟩
abbrev main_call10_v2 : Ref sig .tc := ⟨.hbm, 133, rfl⟩
abbrev main_call10_v3 : Ref sig .tc := ⟨.hbm, 134, rfl⟩
abbrev main_call10_cst_0 : Ref sig .tc := ⟨.hbm, 135, rfl⟩
abbrev main_call10_v4 : Ref sig .tc := ⟨.hbm, 136, rfl⟩
abbrev main_call10_v5 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_c_5 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_call11_v0 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_call12_v0 : Ref sig .tc := ⟨.hbm, 152, rfl⟩
abbrev main_call12_v1 : Ref sig .tc := ⟨.hbm, 153, rfl⟩
abbrev main_call12_cst : Ref sig .tc := ⟨.hbm, 154, rfl⟩
abbrev main_call12_v2 : Ref sig .tc := ⟨.hbm, 155, rfl⟩
abbrev main_call12_v3 : Ref sig .tc := ⟨.hbm, 156, rfl⟩
abbrev main_call12_cst_0 : Ref sig .tc := ⟨.hbm, 157, rfl⟩
abbrev main_call12_v4 : Ref sig .tc := ⟨.hbm, 158, rfl⟩
abbrev main_call12_v5 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_c_6 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_call13_v0 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_call14_v0 : Ref sig .tc := ⟨.hbm, 174, rfl⟩
abbrev main_call14_v1 : Ref sig .tc := ⟨.hbm, 175, rfl⟩
abbrev main_call14_cst : Ref sig .tc := ⟨.hbm, 176, rfl⟩
abbrev main_call14_v2 : Ref sig .tc := ⟨.hbm, 177, rfl⟩
abbrev main_call14_v3 : Ref sig .tc := ⟨.hbm, 178, rfl⟩
abbrev main_call14_cst_0 : Ref sig .tc := ⟨.hbm, 179, rfl⟩
abbrev main_call14_v4 : Ref sig .tc := ⟨.hbm, 180, rfl⟩
abbrev main_call14_v5 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_c_7 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_call15_v0 : Ref sig .tc := ⟨.hbm, 191, rfl⟩
abbrev main_v105 : Ref sig .tc := ⟨.hbm, 192, rfl⟩
abbrev main_v106 : Ref sig .tc := ⟨.hbm, 193, rfl⟩

abbrev nD : Nat := 1
abbrev τ : Topo := Topo.v7x

variable {F : FTy → Type} [FloatOps F]
-- ==== Kernel7.lean ====
abbrev S74 : Shape := ⟨1, ![74]⟩
abbrev S37888x1536 : Shape := ⟨2, ![37888, 1536]⟩
abbrev S2x8x1536x4096 : Shape := ⟨4, ![2, 8, 1536, 4096]⟩
abbrev S37888x4096 : Shape := ⟨2, ![37888, 4096]⟩
abbrev S512x1536 : Shape := ⟨2, ![512, 1536]⟩
abbrev S1x1x1536x2048 : Shape := ⟨4, ![1, 1, 1536, 2048]⟩
abbrev S1 : Shape := ⟨1, ![1]⟩
abbrev S512x2048 : Shape := ⟨2, ![512, 2048]⟩
abbrev S1536x2048 : Shape := ⟨2, ![1536, 2048]⟩

abbrev nBuf : Space → Nat
  | .hbm => 3
  | .vmem => 7
  | .smem => 2
  | _ => 0

abbrev bufTy : (tb : Table) → Fin (tcTables nBuf tb) → BufTy
  | .hbm, ⟨0, _⟩ => ⟨S37888x1536, .bf16⟩
  | .hbm, ⟨1, _⟩ => ⟨S2x8x1536x4096, .f32⟩
  | .hbm, ⟨2, _⟩ => ⟨S37888x4096, .f32⟩
  | .local _ .vmem, ⟨0, _⟩ => ⟨S512x1536, .bf16⟩
  | .local _ .vmem, ⟨1, _⟩ => ⟨S512x1536, .bf16⟩
  | .local _ .vmem, ⟨2, _⟩ => ⟨S1x1x1536x2048, .f32⟩
  | .local _ .vmem, ⟨3, _⟩ => ⟨S1x1x1536x2048, .f32⟩
  | .local _ .vmem, ⟨4, _⟩ => ⟨S512x2048, .f32⟩
  | .local _ .vmem, ⟨5, _⟩ => ⟨S512x2048, .f32⟩
  | .local _ .vmem, ⟨6, _⟩ => ⟨S1536x2048, .bf16⟩
  | .local _ .smem, ⟨0, _⟩ => ⟨S74, .i32⟩
  | .local _ .smem, ⟨1, _⟩ => ⟨S74, .i32⟩
  | _, _ => ⟨S37888x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 74], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32_0 : BitVec 32 := 1#32
  let v6 : BitVec 32 := Scalar.subi arg1 c1_i32_0
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c1_i32 : BitVec 32 := 1#32
  let v2 : BitVec 1 := Scalar.cmpi .eq v1 c1_i32
  let v15 : BitVec 32 := Scalar.extui v2
  let c0_i32_3 : BitVec 32 := 0#32
  let v16 : BitVec 1 := Scalar.cmpi .ne v15 c0_i32_3
  v16

def k0_cond3 (v1 : BitVec 32) : BitVec 1 :=
  let c1_i32 : BitVec 32 := 1#32
  let v2 : BitVec 1 := Scalar.cmpi .eq v1 c1_i32
  let v_true : BitVec 1 := 1#1
  let v17 : BitVec 1 := Scalar.xori v2 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1536x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S74 : Shape := ⟨1, ![74]⟩
abbrev S37888x1536 : Shape := ⟨2, ![37888, 1536]⟩
abbrev S2x8x1536x4096 : Shape := ⟨4, ![2, 8, 1536, 4096]⟩
abbrev S74x512 : Shape := ⟨2, ![74, 512]⟩
abbrev S37888 : Shape := ⟨1, ![37888]⟩
abbrev S37888x1 : Shape := ⟨2, ![37888, 1]⟩
abbrev S_ : Shape := ⟨0, ![]⟩
abbrev S37888x4096 : Shape := ⟨2, ![37888, 4096]⟩
abbrev S1x1x1536x4096 : Shape := ⟨4, ![1, 1, 1536, 4096]⟩
abbrev S1536x4096 : Shape := ⟨2, ![1536, 4096]⟩

abbrev nBuf : Space → Nat
  | .hbm => 88
  | .vmem => 0
  | .smem => 0
  | _ => 0

abbrev bufTy : (tb : Table) → Fin (tcTables nBuf tb) → BufTy
  | .hbm, ⟨0, _⟩ => ⟨S74, .i32⟩
  | .hbm, ⟨1, _⟩ => ⟨S74, .i32⟩
  | .hbm, ⟨2, _⟩ => ⟨S37888x1536, .bf16⟩
  | .hbm, ⟨3, _⟩ => ⟨S2x8x1536x4096, .f32⟩
  | .hbm, ⟨4, _⟩ => ⟨S74x512, .i32⟩
  | .hbm, ⟨5, _⟩ => ⟨S37888, .i32⟩
  | .hbm, ⟨6, _⟩ => ⟨S37888x1, .i32⟩
  | .hbm, ⟨7, _⟩ => ⟨S74x512, .i32⟩
  | .hbm, ⟨8, _⟩ => ⟨S37888, .i32⟩
  | .hbm, ⟨9, _⟩ => ⟨S37888x1, .i32⟩
  | .hbm, ⟨10, _⟩ => ⟨S_, .i32⟩
  | .hbm, ⟨11, _⟩ => ⟨S37888x1, .i32⟩
  | .hbm, ⟨12, _⟩ => ⟨S37888x1, .i1⟩
  | .hbm, ⟨13, _⟩ => ⟨S37888x1536, .f32⟩
  | .hbm, ⟨14, _⟩ => ⟨S_, .f32⟩
  | .hbm, ⟨15, _⟩ => ⟨S37888x4096, .f32⟩
  | .hbm, ⟨16, _⟩ => ⟨S_, .i32⟩
  | .hbm, ⟨17, _⟩ => ⟨S37888x1, .i32⟩
  | .hbm, ⟨18, _⟩ => ⟨S37888x1, .i1⟩
  | .hbm, ⟨19, _⟩ => ⟨S37888x1, .i1⟩
  | .hbm, ⟨20, _⟩ => ⟨S1x1x1536x4096, .f32⟩
  | .hbm, ⟨21, _⟩ => ⟨S1536x4096, .f32⟩
  | .hbm, ⟨22, _⟩ => ⟨S37888x4096, .f32⟩
  | .hbm, ⟨23, _⟩ => ⟨S37888x4096, .i1⟩
  | .hbm, ⟨24, _⟩ => ⟨S37888x4096, .f32⟩
  | .hbm, ⟨25, _⟩ => ⟨S_, .i32⟩
  | .hbm, ⟨26, _⟩ => ⟨S37888x1, .i32⟩
  | .hbm, ⟨27, _⟩ => ⟨S37888x1, .i1⟩
  | .hbm, ⟨28, _⟩ => ⟨S37888x1, .i1⟩
  | .hbm, ⟨29, _⟩ => ⟨S1x1x1536x4096, .f32⟩
  | .hbm, ⟨30, _⟩ => ⟨S1536x4096, .f32⟩
  | .hbm, ⟨31, _⟩ => ⟨S37888x4096, .f32⟩
  | .hbm, ⟨32, _⟩ => ⟨S37888x4096, .i1⟩
  | .hbm, ⟨33, _⟩ => ⟨S37888x4096, .f32⟩
  | .hbm, ⟨34, _⟩ => ⟨S_, .i32⟩
  | .hbm, ⟨35, _⟩ => ⟨S37888x1, .i32⟩
  | .hbm, ⟨36, _⟩ => ⟨S37888x1, .i1⟩
  | .hbm, ⟨37, _⟩ => ⟨S37888x1, .i1⟩
  | .hbm, ⟨38, _⟩ => ⟨S1x1x1536x4096, .f32⟩
  | .hbm, ⟨39, _⟩ => ⟨S1536x4096, .f32⟩
  | .hbm, ⟨40, _⟩ => ⟨S37888x4096, .f32⟩
  | .hbm, ⟨41, _⟩ => ⟨S37888x4096, .i1⟩
  | .hbm, ⟨42, _⟩ => ⟨S37888x4096, .f32⟩
  | .hbm, ⟨43, _⟩ => ⟨S_, .i32⟩
  | .hbm, ⟨44, _⟩ => ⟨S37888x1, .i32⟩
  | .hbm, ⟨45, _⟩ => ⟨S37888x1, .i1⟩
  | .hbm, ⟨46, _⟩ => ⟨S37888x1, .i1⟩
  | .hbm, ⟨47, _⟩ => ⟨S1x1x1536x4096, .f32⟩
  | .hbm, ⟨48, _⟩ => ⟨S1536x4096, .f32⟩
  | .hbm, ⟨49, _⟩ => ⟨S37888x4096, .f32⟩
  | .hbm, ⟨50, _⟩ => ⟨S37888x4096, .i1⟩
  | .hbm, ⟨51, _⟩ => ⟨S37888x4096, .f32⟩
  | .hbm, ⟨52, _⟩ => ⟨S_, .i32⟩
  | .hbm, ⟨53, _⟩ => ⟨S37888x1, .i32⟩
  | .hbm, ⟨54, _⟩ => ⟨S37888x1, .i1⟩
  | .hbm, ⟨55, _⟩ => ⟨S37888x1, .i1⟩
  | .hbm, ⟨56, _⟩ => ⟨S1x1x1536x4096, .f32⟩
  | .hbm, ⟨57, _⟩ => ⟨S1536x4096, .f32⟩
  | .hbm, ⟨58, _⟩ => ⟨S37888x4096, .f32⟩
  | .hbm, ⟨59, _⟩ => ⟨S37888x4096, .i1⟩
  | .hbm, ⟨60, _⟩ => ⟨S37888x4096, .f32⟩
  | .hbm, ⟨61, _⟩ => ⟨S_, .i32⟩
  | .hbm, ⟨62, _⟩ => ⟨S37888x1, .i32⟩
  | .hbm, ⟨63, _⟩ => ⟨S37888x1, .i1⟩
  | .hbm, ⟨64, _⟩ => ⟨S37888x1, .i1⟩
  | .hbm, ⟨65, _⟩ => ⟨S1x1x1536x4096, .f32⟩
  | .hbm, ⟨66, _⟩ => ⟨S1536x4096, .f32⟩
  | .hbm, ⟨67, _⟩ => ⟨S37888x4096, .f32⟩
  | .hbm, ⟨68, _⟩ => ⟨S37888x4096, .i1⟩
  | .hbm, ⟨69, _⟩ => ⟨S37888x4096, .f32⟩
  | .hbm, ⟨70, _⟩ => ⟨S_, .i32⟩
  | .hbm, ⟨71, _⟩ => ⟨S37888x1, .i32⟩
  | .hbm, ⟨72, _⟩ => ⟨S37888x1, .i1⟩
  | .hbm, ⟨73, _⟩ => ⟨S37888x1, .i1⟩
  | .hbm, ⟨74, _⟩ => ⟨S1x1x1536x4096, .f32⟩
  | .hbm, ⟨75, _⟩ => ⟨S1536x4096, .f32⟩
  | .hbm, ⟨76, _⟩ => ⟨S37888x4096, .f32⟩
  | .hbm, ⟨77, _⟩ => ⟨S37888x4096, .i1⟩
  | .hbm, ⟨78, _⟩ => ⟨S37888x4096, .f32⟩
  | .hbm, ⟨79, _⟩ => ⟨S_, .i32⟩
  | .hbm, ⟨80, _⟩ => ⟨S37888x1, .i32⟩
  | .hbm, ⟨81, _⟩ => ⟨S37888x1, .i1⟩
  | .hbm, ⟨82, _⟩ => ⟨S37888x1, .i1⟩
  | .hbm, ⟨83, _⟩ => ⟨S1x1x1536x4096, .f32⟩
  | .hbm, ⟨84, _⟩ => ⟨S1536x4096, .f32⟩
  | .hbm, ⟨85, _⟩ => ⟨S37888x4096, .f32⟩
  | .hbm, ⟨86, _⟩ => ⟨S37888x4096, .i1⟩
  | .hbm, ⟨87, _⟩ => ⟨S37888x4096, .f32⟩
  | _, _ => ⟨S74, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_v0 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_v0 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call3_v0 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call4_v0 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call5_v0 : Ref sig .tc := ⟨.hbm, 68, rfl⟩
abbrev main_v51 : Ref sig .tc := ⟨.hbm, 69, rfl⟩
abbrev main_c_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_call6_v0 : Ref sig .tc := ⟨.hbm, 77, rfl⟩
abbrev main_v58 : Ref sig .tc := ⟨.hbm, 78, rfl⟩
abbrev main_c_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call7_v0 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel8.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16896x4096 : Shape := ⟨2, ![16896, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S16896x4096 : Shape := ⟨2, ![16896, 4096]⟩
abbrev S4096 : Shape := ⟨1, ![4096]⟩
abbrev S48x1x4096 : Shape := ⟨3, ![48, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S1x4096, .f32⟩
  | .hbm, ⟨4, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c0_i32_4 : BitVec 32 := 0#32
  let v20 : BitVec 32 := Scalar.addi v19 c0_i32_4
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let v19 : BitVec 32 := Scalar.muli v18 c6_i32
  let c1_i32_4 : BitVec 32 := 1#32
  let v20 : BitVec 32 := Scalar.addi v19 c1_i32_4
  let c0_i32_5 : BitVec 32 := 0#32
  let c0_i32_6 : BitVec 32 := 0#32
  let c0_i32_7 : BitVec 32 := 0#32
  ![v20.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16896x4096 : Shape := ⟨2, ![16896, 4096]⟩
abbrev S4096 : Shape := ⟨1, ![4096]⟩
abbrev S48x1x4096 : Shape := ⟨3, ![48, 1, 4096]⟩
abbrev S8x6x4096 : Shape := ⟨3, ![8, 6, 4096]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S8x1x4096 : Shape := ⟨3, ![8, 1, 4096]⟩
abbrev S8x4096 : Shape := ⟨2, ![8, 4096]⟩
abbrev S8192x4096 : Shape := ⟨2, ![8192, 4096]⟩
abbrev S512x4096 : Shape := ⟨2, ![512, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S48x1x4096, .f32⟩
  | .hbm, ⟨3, _⟩ => ⟨S8x6x4096, .f32⟩
  | .hbm, ⟨4, _⟩ => ⟨S16896x4096, .f32⟩
  | .hbm, ⟨5, _⟩ => ⟨S_, .f32⟩
  | .hbm, ⟨6, _⟩ => ⟨S16896, .f32⟩
  | .hbm, ⟨7, _⟩ => ⟨S16896x1, .f32⟩
  | .hbm, ⟨8, _⟩ => ⟨S_, .f32⟩
  | .hbm, ⟨9, _⟩ => ⟨S16896x1, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S16896x1, .f32⟩
  | .hbm, ⟨15, _⟩ => ⟨S16896x4096, .f32⟩
  | .hbm, ⟨16, _⟩ => ⟨S16896x4096, .f32⟩
  | .hbm, ⟨17, _⟩ => ⟨S1x4096, .f32⟩
  | .hbm, ⟨18, _⟩ => ⟨S16896x4096, .f32⟩
  | .hbm, ⟨19, _⟩ => ⟨S16896x4096, .f32⟩
  | .hbm, ⟨20, _⟩ => ⟨S8x1x4096, .f32⟩
  | .hbm, ⟨21, _⟩ => ⟨S8x4096, .f32⟩
  | .hbm, ⟨22, _⟩ => ⟨S1x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S1x4096, .f32⟩
  | .hbm, ⟨27, _⟩ => ⟨S512x4096, .f32⟩
  | .hbm, ⟨28, _⟩ => ⟨S16896x4096, .f32⟩
  | .hbm, ⟨29, _⟩ => ⟨S_, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S8x1x4096, .f32⟩
  | .hbm, ⟨34, _⟩ => ⟨S8x4096, .f32⟩
  | .hbm, ⟨35, _⟩ => ⟨S1x4096, .f32⟩
  | .hbm, ⟨36, _⟩ => ⟨S8192x4096, .f32⟩
  | .hbm, ⟨37, _⟩ => ⟨S1x4096, .f32⟩
  | .hbm, ⟨38, _⟩ => ⟨S8192x4096, .f32⟩
  | .hbm, ⟨39, _⟩ => ⟨S1x4096, .f32⟩
  | .hbm, ⟨40, _⟩ => ⟨S512x4096, .f32⟩
  | .hbm, ⟨41, _⟩ => ⟨S16896x4096, .f32⟩
  | .hbm, ⟨42, _⟩ => ⟨S16896x4096, .f32⟩
  | .hbm, ⟨43, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel10.lean ====
abbrev S8x4096 : Shape := ⟨2, ![8, 4096]⟩
abbrev S4x4096x1024 : Shape := ⟨3, ![4, 4096, 1024]⟩
abbrev S4x8x1024 : Shape := ⟨3, ![4, 8, 1024]⟩
abbrev S1x4096x512 : Shape := ⟨3, ![1, 4096, 512]⟩
abbrev S1x8x512 : Shape := ⟨3, ![1, 8, 512]⟩
abbrev S4096x512 : Shape := ⟨2, ![4096, 512]⟩
abbrev S8x512 : Shape := ⟨2, ![8, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x4096, .f32⟩
  | .hbm, ⟨1, _⟩ => ⟨S4x4096x1024, .f32⟩
  | .hbm, ⟨2, _⟩ => ⟨S4x8x1024, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x8x512, .f32⟩
  | .local _ .vmem, ⟨4, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8x4096 : Shape := ⟨2, ![8, 4096]⟩
abbrev S4x4096x1024 : Shape := ⟨3, ![4, 4096, 1024]⟩
abbrev S_ : Shape := ⟨0, ![]⟩
abbrev S4x1024x8 : Shape := ⟨3, ![4, 1024, 8]⟩
abbrev S4x8x1024 : Shape := ⟨3, ![4, 8, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x1024, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S4x1024x8, .f32⟩
  | .hbm, ⟨12, _⟩ => ⟨S4x8x1024, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Kernel11.lean ====
abbrev S4x8x1024 : Shape := ⟨3, ![4, 8, 1024]⟩
abbrev S4x1024x24576 : Shape := ⟨3, ![4, 1024, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x8x1024 : Shape := ⟨3, ![1, 8, 1024]⟩
abbrev S1x1024x2048 : Shape := ⟨3, ![1, 1024, 2048]⟩
abbrev S1x1x2048 : Shape := ⟨3, ![1, 1, 2048]⟩
abbrev S1x8x2048 : Shape := ⟨3, ![1, 8, 2048]⟩
abbrev S8x1024 : Shape := ⟨2, ![8, 1024]⟩
abbrev S1024x2048 : Shape := ⟨2, ![1024, 2048]⟩
abbrev S8x2048 : Shape := ⟨2, ![8, 2048]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S4x8x1024, .f32⟩
  | .hbm, ⟨1, _⟩ => ⟨S4x1024x24576, .f32⟩
  | .hbm, ⟨2, _⟩ => ⟨S4x24576, .f32⟩
  | .hbm, ⟨3, _⟩ => ⟨S4x1x24576, .f32⟩
  | .hbm, ⟨4, _⟩ => ⟨S4x8x24576, .f32⟩
  | .local _ .vmem, ⟨0, _⟩ => ⟨S1x8x1024, .f32⟩
  | .local _ .vmem, ⟨1, _⟩ => ⟨S1x8x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x8x2048, .f32⟩
  | .local _ .vmem, ⟨7, _⟩ => ⟨S1x8x2048, .f32⟩
  | _, _ => ⟨S4x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4x8x1024 : Shape := ⟨3, ![4, 8, 1024]⟩
abbrev S4x1024x24576 : Shape := ⟨3, ![4, 1024, 24576]⟩
abbrev S4x24576 : Shape := ⟨2, ![4, 24576]⟩
abbrev S4x8x24576 : Shape := ⟨3, ![4, 8, 24576]⟩
abbrev S4x1x24576 : Shape := ⟨3, ![4, 1, 24576]⟩

abbrev nBuf : Space → Nat
  | .hbm => 7
  | .vmem => 0
  | .smem => 0
  | _ => 0

abbrev bufTy : (tb : Table) → Fin (tcTables nBuf tb) → BufTy
  | .hbm, ⟨0, _⟩ => ⟨S4x8x1024, .f32⟩
  | .hbm, ⟨1, _⟩ => ⟨S4x1024x24576, .f32⟩
  | .hbm, ⟨2, _⟩ => ⟨S4x24576, .f32⟩
  | .hbm, ⟨3, _⟩ => ⟨S4x8x24576, .f32⟩
  | .hbm, ⟨4, _⟩ => ⟨S4x1x24576, .f32⟩
  | .hbm, ⟨5, _⟩ => ⟨S4x8x24576, .f32⟩
  | .hbm, ⟨6, _⟩ => ⟨S4x8x24576, .f32⟩
  | _, _ => ⟨S4x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16896x8192 : Shape := ⟨2, ![16896, 8192]⟩
abbrev S1024 : Shape := ⟨1, ![1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S16896x1024 : Shape := ⟨2, ![16896, 1024]⟩
abbrev S256x1024 : Shape := ⟨2, ![256, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 12
  | .vmem => 10
  | .smem => 0
  | _ => 0

abbrev bufTy : (tb : Table) → Fin (tcTables nBuf tb) → BufTy
  | .hbm, ⟨0, _⟩ => ⟨S16896x8192, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1024, .f32⟩
  | .hbm, ⟨5, _⟩ => ⟨S128x8, .f32⟩
  | .hbm, ⟨6, _⟩ => ⟨S128x8x128, .f32⟩
  | .hbm, ⟨7, _⟩ => ⟨S128x1024, .f32⟩
  | .hbm, ⟨8, _⟩ => ⟨S1x1024, .f32⟩
  | .hbm, ⟨9, _⟩ => ⟨S8x128x128, .bf16⟩
  | .hbm, ⟨10, _⟩ => ⟨S1x1024, .f32⟩
  | .hbm, ⟨11, _⟩ => ⟨S16896x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x128x128, .bf16⟩
  | .local _ .vmem, ⟨6, _⟩ => ⟨S128x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | _, _ => ⟨S16896x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S16896x8192 : Shape := ⟨2, ![16896, 8192]⟩
abbrev S1024 : Shape := ⟨1, ![1024]⟩
abbrev S8x128x128 : Shape := ⟨3, ![8, 128, 128]⟩
abbrev S8x128 : Shape := ⟨2, ![8, 128]⟩
abbrev S16896x1024 : Shape := ⟨2, ![16896, 1024]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S132x128x8x128 : Shape := ⟨4, ![132, 128, 8, 128]⟩
abbrev S8x132x128x128 : Shape := ⟨4, ![8, 132, 128, 128]⟩
abbrev S128x8 : Shape := ⟨2, ![128, 8]⟩
abbrev S1x128x8x1 : Shape := ⟨4, ![1, 128, 8, 1]⟩

abbrev nBuf : Space → Nat
  | .hbm => 85
  | .vmem => 0
  | .smem => 0
  | _ => 0

abbrev bufTy : (tb : Table) → Fin (tcTables nBuf tb) → BufTy
  | .hbm, ⟨0, _⟩ => ⟨S16896x8192, .bf16⟩
  | .hbm, ⟨1, _⟩ => ⟨S1024, .f32⟩
  | .hbm, ⟨2, _⟩ => ⟨S8x128x128, .f32⟩
  | .hbm, ⟨3, _⟩ => ⟨S8x128, .f32⟩
  | .hbm, ⟨4, _⟩ => ⟨S1024, .f32⟩
  | .hbm, ⟨5, _⟩ => ⟨S16896x1024, .bf16⟩
  | .hbm, ⟨6, _⟩ => ⟨S16896x1024, .f32⟩
  | .hbm, ⟨7, _⟩ => ⟨S16896x1024, .f32⟩
  | .hbm, ⟨8, _⟩ => ⟨S16896x1024, .f32⟩
  | .hbm, ⟨9, _⟩ => ⟨S_, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S_, .f32⟩
  | .hbm, ⟨14, _⟩ => ⟨S16896x1024, .f32⟩
  | .hbm, ⟨15, _⟩ => ⟨S16896x1024, .f32⟩
  | .hbm, ⟨16, _⟩ => ⟨S16896x1024, .f32⟩
  | .hbm, ⟨17, _⟩ => ⟨S_, .f32⟩
  | .hbm, ⟨18, _⟩ => ⟨S16896x1024, .f32⟩
  | .hbm, ⟨19, _⟩ => ⟨S16896x1024, .f32⟩
  | .hbm, ⟨20, _⟩ => ⟨S_, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S16896x1024, .bf16⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S_, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S_, .f32⟩
  | .hbm, ⟨33, _⟩ => ⟨S16896x1024, .f32⟩
  | .hbm, ⟨34, _⟩ => ⟨S16896x1024, .f32⟩
  | .hbm, ⟨35, _⟩ => ⟨S16896x1024, .f32⟩
  | .hbm, ⟨36, _⟩ => ⟨S_, .f32⟩
  | .hbm, ⟨37, _⟩ => ⟨S16896x1024, .f32⟩
  | .hbm, ⟨38, _⟩ => ⟨S16896x1024, .f32⟩
  | .hbm, ⟨39, _⟩ => ⟨S_, .f32⟩
  | .hbm, ⟨40, _⟩ => ⟨S16896x1024, .f32⟩
  | .hbm, ⟨41, _⟩ => ⟨S16896x1024, .f32⟩
  | .hbm, ⟨42, _⟩ => ⟨S16896x1024, .f32⟩
  | .hbm, ⟨43, _⟩ => ⟨S16896x1024, .f32⟩
  | .hbm, ⟨44, _⟩ => ⟨S_, .f32⟩
  | .hbm, ⟨45, _⟩ => ⟨S16896, .f32⟩
  | .hbm, ⟨46, _⟩ => ⟨S16896x1, .f32⟩
  | .hbm, ⟨47, _⟩ => ⟨S_, .f32⟩
  | .hbm, ⟨48, _⟩ => ⟨S16896x1, .f32⟩
  | .hbm, ⟨49, _⟩ => ⟨S16896x1, .f32⟩
  | .hbm, ⟨50, _⟩ => ⟨S_, .f32⟩
  | .hbm, ⟨51, _⟩ => ⟨S16896x1, .f32⟩
  | .hbm, ⟨52, _⟩ => ⟨S16896x1, .f32⟩
  | .hbm, ⟨53, _⟩ => ⟨S16896x1, .f32⟩
  | .hbm, ⟨54, _⟩ => ⟨S16896x1024, .f32⟩
  | .hbm, ⟨55, _⟩ => ⟨S16896x1024, .f32⟩
  | .hbm, ⟨56, _⟩ => ⟨S1x1024, .f32⟩
  | .hbm, ⟨57, _⟩ => ⟨S16896x1024, .f32⟩
  | .hbm, ⟨58, _⟩ => ⟨S16896x1024, .f32⟩
  | .hbm, ⟨59, _⟩ => ⟨S132x128x8x128, .f32⟩
  | .hbm, ⟨60, _⟩ => ⟨S8x132x128x128, .f32⟩
  | .hbm, ⟨61, _⟩ => ⟨S132x128x8x128, .f32⟩
  | .hbm, ⟨62, _⟩ => ⟨S128x8, .f32⟩
  | .hbm, ⟨63, _⟩ => ⟨S1x128x8x1, .f32⟩
  | .hbm, ⟨64, _⟩ => ⟨S132x128x8x128, .f32⟩
  | .hbm, ⟨65, _⟩ => ⟨S132x128x8x128, .f32⟩
  | .hbm, ⟨66, _⟩ => ⟨S16896x1024, .f32⟩
  | .hbm, ⟨67, _⟩ => ⟨S16896x1024, .f32⟩
  | .hbm, ⟨68, _⟩ => ⟨S16896x1024, .f32⟩
  | .hbm, ⟨69, _⟩ => ⟨S_, .f32⟩
  | .hbm, ⟨70, _⟩ => ⟨S16896, .f32⟩
  | .hbm, ⟨71, _⟩ => ⟨S16896x1, .f32⟩
  | .hbm, ⟨72, _⟩ => ⟨S_, .f32⟩
  | .hbm, ⟨73, _⟩ => ⟨S16896x1, .f32⟩
  | .hbm, ⟨74, _⟩ => ⟨S16896x1, .f32⟩
  | .hbm, ⟨75, _⟩ => ⟨S_, .f32⟩
  | .hbm, ⟨76, _⟩ => ⟨S16896x1, .f32⟩
  | .hbm, ⟨77, _⟩ => ⟨S16896x1, .f32⟩
  | .hbm, ⟨78, _⟩ => ⟨S16896x1, .f32⟩
  | .hbm, ⟨79, _⟩ => ⟨S16896x1024, .f32⟩
  | .hbm, ⟨80, _⟩ => ⟨S16896x1024, .f32⟩
  | .hbm, ⟨81, _⟩ => ⟨S1x1024, .f32⟩
  | .hbm, ⟨82, _⟩ => ⟨S16896x1024, .f32⟩
  | .hbm, ⟨83, _⟩ => ⟨S16896x1024, .f32⟩
  | .hbm, ⟨84, _⟩ => ⟨S16896x1024, .bf16⟩
  | _, _ => ⟨S16896x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Kernel13.lean ====
abbrev S16896x1024 : Shape := ⟨2, ![16896, 1024]⟩
abbrev S16384x1024 : Shape := ⟨2, ![16384, 1024]⟩
abbrev S512x1024 : Shape := ⟨2, ![512, 1024]⟩
abbrev S16384x2048 : Shape := ⟨2, ![16384, 2048]⟩
abbrev S512x2048 : Shape := ⟨2, ![512, 2048]⟩
abbrev S1024 : Shape := ⟨1, ![1024]⟩
abbrev S2048 : Shape := ⟨1, ![2048]⟩
abbrev S1x1024 : Shape := ⟨2, ![1, 1024]⟩
abbrev S1x2048 : Shape := ⟨2, ![1, 2048]⟩
abbrev S16896x4096 : Shape := ⟨2, ![16896, 4096]⟩
abbrev S256x1024 : Shape := ⟨2, ![256, 1024]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S16896x1024, .bf16⟩
  | .hbm, ⟨1, _⟩ => ⟨S16384x1024, .bf16⟩
  | .hbm, ⟨2, _⟩ => ⟨S512x1024, .bf16⟩
  | .hbm, ⟨3, _⟩ => ⟨S16384x2048, .bf16⟩
  | .hbm, ⟨4, _⟩ => ⟨S512x2048, .bf16⟩
  | .hbm, ⟨5, _⟩ => ⟨S1024, .f32⟩
  | .hbm, ⟨6, _⟩ => ⟨S2048, .f32⟩
  | .hbm, ⟨7, _⟩ => ⟨S1x1024, .f32⟩
  | .hbm, ⟨8, _⟩ => ⟨S1x2048, .f32⟩
  | .hbm, ⟨9, _⟩ => ⟨S16896x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x1024, .f32⟩
  | .local _ .vmem, ⟨11, _⟩ => ⟨S1x2048, .f32⟩
  | .local _ .vmem, ⟨12, _⟩ => ⟨S256x4096, .bf16⟩
  | .local _ .vmem, ⟨13, _⟩ => ⟨S256x4096, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S16896x1024 : Shape := ⟨2, ![16896, 1024]⟩
abbrev S16384x1024 : Shape := ⟨2, ![16384, 1024]⟩
abbrev S512x1024 : Shape := ⟨2, ![512, 1024]⟩
abbrev S16384x2048 : Shape := ⟨2, ![16384, 2048]⟩
abbrev S512x2048 : Shape := ⟨2, ![512, 2048]⟩
abbrev S1024 : Shape := ⟨1, ![1024]⟩
abbrev S2048 : Shape := ⟨1, ![2048]⟩
abbrev S16896x2048 : Shape := ⟨2, ![16896, 2048]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S1x2048 : Shape := ⟨2, ![1, 2048]⟩
abbrev S16896x4096 : Shape := ⟨2, ![16896, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16384x1024, .bf16⟩
  | .hbm, ⟨2, _⟩ => ⟨S512x1024, .bf16⟩
  | .hbm, ⟨3, _⟩ => ⟨S16384x2048, .bf16⟩
  | .hbm, ⟨4, _⟩ => ⟨S512x2048, .bf16⟩
  | .hbm, ⟨5, _⟩ => ⟨S1024, .f32⟩
  | .hbm, ⟨6, _⟩ => ⟨S2048, .f32⟩
  | .hbm, ⟨7, _⟩ => ⟨S16896x1024, .bf16⟩
  | .hbm, ⟨8, _⟩ => ⟨S16896x1024, .f32⟩
  | .hbm, ⟨9, _⟩ => ⟨S16896x2048, .bf16⟩
  | .hbm, ⟨10, _⟩ => ⟨S16896x2048, .f32⟩
  | .hbm, ⟨11, _⟩ => ⟨S16896x1024, .f32⟩
  | .hbm, ⟨12, _⟩ => ⟨S_, .f32⟩
  | .hbm, ⟨13, _⟩ => ⟨S16896, .f32⟩
  | .hbm, ⟨14, _⟩ => ⟨S16896x1, .f32⟩
  | .hbm, ⟨15, _⟩ => ⟨S_, .f32⟩
  | .hbm, ⟨16, _⟩ => ⟨S16896x1, .f32⟩
  | .hbm, ⟨17, _⟩ => ⟨S16896x1, .f32⟩
  | .hbm, ⟨18, _⟩ => ⟨S_, .f32⟩
  | .hbm, ⟨19, _⟩ => ⟨S16896x1, .f32⟩
  | .hbm, ⟨20, _⟩ => ⟨S16896x1, .f32⟩
  | .hbm, ⟨21, _⟩ => ⟨S16896x1, .f32⟩
  | .hbm, ⟨22, _⟩ => ⟨S16896x1024, .f32⟩
  | .hbm, ⟨23, _⟩ => ⟨S16896x1024, .f32⟩
  | .hbm, ⟨24, _⟩ => ⟨S1x1024, .f32⟩
  | .hbm, ⟨25, _⟩ => ⟨S16896x1024, .f32⟩
  | .hbm, ⟨26, _⟩ => ⟨S16896x1024, .f32⟩
  | .hbm, ⟨27, _⟩ => ⟨S16896x1024, .bf16⟩
  | .hbm, ⟨28, _⟩ => ⟨S16896x2048, .f32⟩
  | .hbm, ⟨29, _⟩ => ⟨S_, .f32⟩
  | .hbm, ⟨30, _⟩ => ⟨S16896, .f32⟩
  | .hbm, ⟨31, _⟩ => ⟨S16896x1, .f32⟩
  | .hbm, ⟨32, _⟩ => ⟨S_, .f32⟩
  | .hbm, ⟨33, _⟩ => ⟨S16896x1, .f32⟩
  | .hbm, ⟨34, _⟩ => ⟨S16896x1, .f32⟩
  | .hbm, ⟨35, _⟩ => ⟨S_, .f32⟩
  | .hbm, ⟨36, _⟩ => ⟨S16896x1, .f32⟩
  | .hbm, ⟨37, _⟩ => ⟨S16896x1, .f32⟩
  | .hbm, ⟨38, _⟩ => ⟨S16896x1, .f32⟩
  | .hbm, ⟨39, _⟩ => ⟨S16896x2048, .f32⟩
  | .hbm, ⟨40, _⟩ => ⟨S16896x2048, .f32⟩
  | .hbm, ⟨41, _⟩ => ⟨S1x2048, .f32⟩
  | .hbm, ⟨42, _⟩ => ⟨S16896x2048, .f32⟩
  | .hbm, ⟨43, _⟩ => ⟨S16896x2048, .f32⟩
  | .hbm, ⟨44, _⟩ => ⟨S16896x2048, .bf16⟩
  | .hbm, ⟨45, _⟩ => ⟨S16896x4096, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Step.lean ====
/- One grid point's arithmetic for one query head: the running maximum and the rescaled accumulator, each read at an
   index. The four heads of a point compute the same two functions. Hand-written. -/
module

public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.KernelIdeal.Step

open Cert.KernelIdeal Cert.KernelIdeal.Gen
open scoped BigOperators

/-- Column block `i` of 128 lies inside a score block of 2816 columns. -/
theorem slices_block (i : Fin 22) : S512x2816.Slices ![0, 128 * i.val] S512x128 := by
  revert i; decide

/-- Column block `i` of a block of scores. -/
def chunk (s : FVec Ideal S512x2816 .f32) (i : Fin 22) : FVec Ideal S512x128 .f32 :=
  extractStridedSlice S512x128 ![0, 128 * i.val] s (slices_block i)

/-- The scores' exponentials against the running maximum `mn`, column block by column block. -/
def pexp (s : FVec Ideal S512x2816 .f32) (mn : FVec Ideal S512x128 .f32) : FVec Ideal S512x2816 .bf16 :=
  concatenate S512x2816 1
    (List.ofFn fun i : Fin 22 => ⟨S512x128, truncf .bf16 (exp2 (subf (chunk s i) mn)) bitsLt_bf16_f32⟩)
    concatenates_S512x128_S512x128_S512x128_S512x128_S512x128_S512x128_S512x128_S512x128_S512x128_S512x128_S512x128_S512x128_S512x128_S512x128_S512x128_S512x128_S512x128_S512x128_S512x128_S512x128_S512x128_S512x128_S512x2816_d1

/-- The accumulator after the point, from the scores, the maximum after (`mn`) and before (`mp`), the values and the
    accumulator before. -/
def accS (s : FVec Ideal S512x2816 .f32) (mn mp : FVec Ideal S512x128 .f32) (vm : FVec Ideal S2816x256 .bf16)
    (ap : FVec Ideal S512x256 .f32) : FVec Ideal S512x256 .f32 :=
  k0_pay77 vm (exp2 (subf mp mn)) (pexp s mn) ap

end Cert.KernelIdeal.Step

end
-- ==== Proof.Point.lean ====
/- What one grid point leaves in the two carried scratches and in the output block, head by head: the stored pieces
   are read back, and each is the function of Step.lean at that head's rows. Hand-written. -/
module

public import proofs.«01_k».proof.Proof.Step
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Step

variable (m : (ℓ : Loc nD τ sig) → Buf (Elt Ideal) ℓ)

/-- Pieces that hold the index are read before the pieces stored earlier. -/
theorem canon_append_of_covered {Val : EltTy → Type} {S : Shape} {e : EltTy} [∀ e, Nonempty (Val e)]
    (L' : List (View.Piece Val S e)) : ∀ (L : List (View.Piece Val S e)) (y : S.Idx) (_ : ∃ p ∈ L, y ∈ p.1.set),
      View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_of_covered L' L y ?_
      obtain ⟨q, hq, hy⟩ := h
      rcases List.mem_cons.mp hq with rfl | hq
      · exact absurd hy hm
      · exact ⟨q, hq, hy⟩

theorem inbQ (g : Fin 4) : ∀ a : Fin 2, (![0, 128 * g.val] : Fin 2 → ℕ) a + (![512, 128] : Fin 2 → ℕ) a ≤ S512x512.size a := by
  revert g; decide

theorem inbM (g : Fin 4) : ∀ a : Fin 2, (![512 * g.val, 0] : Fin 2 → ℕ) a + (![512, 128] : Fin 2 → ℕ) a ≤ S2048x128.size a := by
  revert g; decide

theorem inbA (g : Fin 4) : ∀ a : Fin 2, (![512 * g.val, 0] : Fin 2 → ℕ) a + (![512, 256] : Fin 2 → ℕ) a ≤ S2048x256.size a := by
  revert g; decide

/-- The rows of head `g` in a buffer of running maxima. -/
def mRows (P : Vec Ideal S2048x128 .f32) (g : Fin 4) : FVec Ideal S512x128 .f32 :=
  View.ld P (Rect.unit ![512 * g.val, 0] ![512, 128] (inbM g))

/-- The rows of head `g` in a buffer of accumulators. -/
def aRows (P : Vec Ideal S2048x256 .f32) (g : Fin 4) : FVec Ideal S512x256 .f32 :=
  View.ld P (Rect.unit ![512 * g.val, 0] ![512, 256] (inbA g))

/-- Head `g`'s scores at grid point `t`. -/
def sc (c : Dev nD) (t : Fin cfg0.N) (g : Fin 4) : FVec Ideal S512x2816 .f32 :=
  k0_pay10 (iblk m c 1 t) (View.ld (iblk m c 0 t) (Rect.unit ![0, 128 * g.val] ![512, 128] (inbQ g)))

/-- The running maximum after the point, from the buffer `P` before it. -/
def mNew (c : Dev nD) (t : Fin cfg0.N) (g : Fin 4) (P : Vec Ideal S2048x128 .f32) : FVec Ideal S512x128 .f32 :=
  k0_pay71 (sc m c t g) (mRows P g)

/-- The accumulator after the point, from the two buffers `P`, `Q` before it. -/
def aNew (c : Dev nD) (t : Fin cfg0.N) (g : Fin 4) (P : Vec Ideal S2048x128 .f32) (Q : Vec Ideal S2048x256 .f32) :
    FVec Ideal S512x256 .f32 :=
  accS (sc m c t g) (mNew m c t g P) (mRows P g) (k0_pay9 (iblk m c 2 t)) (aRows Q g)

theorem pay48_eq (x : FVec Ideal S512x128 .f32) : k0_pay48 x = x := shapeCast_self x _
theorem pay78_eq (x : FVec Ideal S512x128 .f32) : k0_pay78 x = x := shapeCast_self x _
theorem pay121_eq (x : FVec Ideal S512x128 .f32) : k0_pay121 x = x := shapeCast_self x _
theorem pay156_eq (x : FVec Ideal S512x128 .f32) : k0_pay156 x = x := shapeCast_self x _

/-- The first head's running maximum is the second head's function. -/
theorem max0 (K : Vec Ideal S1x2816x128 .bf16) (q : Vec Ideal S512x128 .bf16) (p : Vec Ideal S512x128 .f32) :
    k0_pay36 (k0_pay10 K q) (k0_pay14 K q) (k0_pay15 K q) (k0_pay16 K q) (k0_pay17 K q) (k0_pay18 K q) (k0_pay19 K q) (k0_pay20 K q) (k0_pay21 K q) (k0_pay22 K q) (k0_pay23 K q) (k0_pay24 K q) (k0_pay25 K q) (k0_pay26 K q) (k0_pay27 K q) (k0_pay28 K q) (k0_pay29 K q) (k0_pay30 K q) (k0_pay31 K q) (k0_pay32 K q) (k0_pay33 K q) p
      = k0_pay71 (k0_pay10 K q) p := rfl

/-- So is the third head's. -/
theorem max2 (s : FVec Ideal S512x2816 .f32) (p : Vec Ideal S512x128 .f32) :
    k0_pay102 (k0_pay98 s) (k0_pay99 s) (k0_pay100 s) (k0_pay101 s) p = k0_pay71 s p := rfl

/-- So is the fourth head's. -/
theorem max3 (s : FVec Ideal S512x2816 .f32) (p : Vec Ideal S512x128 .f32) :
    k0_pay144 s (k0_pay122 s) (k0_pay123 s) (k0_pay124 s) (k0_pay125 s) (k0_pay126 s) (k0_pay127 s) (k0_pay128 s) (k0_pay129 s) (k0_pay130 s) (k0_pay131 s) (k0_pay132 s) (k0_pay133 s) (k0_pay134 s) (k0_pay135 s) (k0_pay136 s) (k0_pay137 s) (k0_pay138 s) (k0_pay139 s) (k0_pay140 s) (k0_pay141 s) p
      = k0_pay71 s p := rfl

/-- The second head's accumulator is `accS`. -/
theorem acc1 (s : FVec Ideal S512x2816 .f32) (p : Vec Ideal S512x128 .f32) (V : FVec Ideal S2816x256 .bf16) (ap : Vec Ideal S512x256 .f32) :
    k0_pay77 V (k0_pay72 s p) (k0_pay76 (k0_pay52 s) (k0_pay53 s) (k0_pay54 s) (k0_pay55 s) (k0_pay56 s) (k0_pay57 s)
      (k0_pay58 s) (k0_pay59 s) (k0_pay60 s) (k0_pay61 s) (k0_pay62 s) (k0_pay63 s) (k0_pay64 s) (k0_pay65 s) (k0_pay66
      s) (k0_pay67 s) (k0_pay68 s) (k0_pay69 s) (k0_pay70 s) (k0_pay71 s p) (k0_pay73 s p) (k0_pay74 s p) (k0_pay75 s p))
      ap
      = accS s (k0_pay71 s p) p V ap := rfl

/-- The first head's. -/
theorem acc0 (K : Vec Ideal S1x2816x128 .bf16) (q : Vec Ideal S512x128 .bf16) (p : Vec Ideal S512x128 .f32)
    (V : FVec Ideal S2816x256 .bf16) (ap : Vec Ideal S512x256 .f32) :
    k0_pay47 V (k0_pay23 K q) (k0_pay24 K q) (k0_pay25 K q) (k0_pay26 K q) (k0_pay27 K q) (k0_pay28 K q) (k0_pay29 K q)
      (k0_pay30 K q) (k0_pay31 K q) (k0_pay32 K q) (k0_pay33 K q) (k0_pay34 (k0_pay10 K q)) (k0_pay35 (k0_pay10 K q))
      (k0_pay36 (k0_pay10 K q) (k0_pay14 K q) (k0_pay15 K q) (k0_pay16 K q) (k0_pay17 K q) (k0_pay18 K q) (k0_pay19 K q)
      (k0_pay20 K q) (k0_pay21 K q) (k0_pay22 K q) (k0_pay23 K q) (k0_pay24 K q) (k0_pay25 K q) (k0_pay26 K q) (k0_pay27
      K q) (k0_pay28 K q) (k0_pay29 K q) (k0_pay30 K q) (k0_pay31 K q) (k0_pay32 K q) (k0_pay33 K q) p) (k0_pay37
      (k0_pay10 K q) (k0_pay14 K q) (k0_pay15 K q) (k0_pay16 K q) (k0_pay17 K q) (k0_pay18 K q) (k0_pay19 K q) (k0_pay20
      K q) (k0_pay21 K q) (k0_pay22 K q) (k0_pay23 K q) (k0_pay24 K q) (k0_pay25 K q) (k0_pay26 K q) (k0_pay27 K q)
      (k0_pay28 K q) (k0_pay29 K q) (k0_pay30 K q) (k0_pay31 K q) (k0_pay32 K q) (k0_pay33 K q) p) (k0_pay38 (k0_pay10 K
      q) (k0_pay14 K q) (k0_pay15 K q) (k0_pay16 K q) (k0_pay17 K q) (k0_pay18 K q) (k0_pay19 K q) (k0_pay20 K q)
      (k0_pay21 K q) (k0_pay22 K q) (k0_pay23 K q) (k0_pay24 K q) (k0_pay25 K q) (k0_pay26 K q) (k0_pay27 K q) (k0_pay28
      K q) (k0_pay29 K q) (k0_pay30 K q) (k0_pay31 K q) (k0_pay32 K q) (k0_pay33 K q) p) (k0_pay39 (k0_pay10 K q)
      (k0_pay14 K q) (k0_pay15 K q) (k0_pay16 K q) (k0_pay17 K q) (k0_pay18 K q) (k0_pay19 K q) (k0_pay20 K q) (k0_pay21
      K q) (k0_pay22 K q) (k0_pay23 K q) (k0_pay24 K q) (k0_pay25 K q) (k0_pay26 K q) (k0_pay27 K q) (k0_pay28 K q)
      (k0_pay29 K q) (k0_pay30 K q) (k0_pay31 K q) (k0_pay32 K q) (k0_pay33 K q) p) (k0_pay40 (k0_pay10 K q) (k0_pay14 K
      q) (k0_pay15 K q) (k0_pay16 K q) (k0_pay17 K q) (k0_pay18 K q) (k0_pay19 K q) (k0_pay20 K q) (k0_pay21 K q)
      (k0_pay22 K q) (k0_pay23 K q) (k0_pay24 K q) (k0_pay25 K q) (k0_pay26 K q) (k0_pay27 K q) (k0_pay28 K q) (k0_pay29
      K q) (k0_pay30 K q) (k0_pay31 K q) (k0_pay32 K q) (k0_pay33 K q) p) (k0_pay41 (k0_pay10 K q) (k0_pay14 K q)
      (k0_pay15 K q) (k0_pay16 K q) (k0_pay17 K q) (k0_pay18 K q) (k0_pay19 K q) (k0_pay20 K q) (k0_pay21 K q) (k0_pay22
      K q) (k0_pay23 K q) (k0_pay24 K q) (k0_pay25 K q) (k0_pay26 K q) (k0_pay27 K q) (k0_pay28 K q) (k0_pay29 K q)
      (k0_pay30 K q) (k0_pay31 K q) (k0_pay32 K q) (k0_pay33 K q) p) (k0_pay42 (k0_pay10 K q) (k0_pay14 K q) (k0_pay15 K
      q) (k0_pay16 K q) (k0_pay17 K q) (k0_pay18 K q) (k0_pay19 K q) (k0_pay20 K q) (k0_pay21 K q) (k0_pay22 K q)
      (k0_pay23 K q) (k0_pay24 K q) (k0_pay25 K q) (k0_pay26 K q) (k0_pay27 K q) (k0_pay28 K q) (k0_pay29 K q) (k0_pay30
      K q) (k0_pay31 K q) (k0_pay32 K q) (k0_pay33 K q) p) (k0_pay43 (k0_pay10 K q) (k0_pay14 K q) (k0_pay15 K q)
      (k0_pay16 K q) (k0_pay17 K q) (k0_pay18 K q) (k0_pay19 K q) (k0_pay20 K q) (k0_pay21 K q) (k0_pay22 K q) (k0_pay23
      K q) (k0_pay24 K q) (k0_pay25 K q) (k0_pay26 K q) (k0_pay27 K q) (k0_pay28 K q) (k0_pay29 K q) (k0_pay30 K q)
      (k0_pay31 K q) (k0_pay32 K q) (k0_pay33 K q) p) (k0_pay44 (k0_pay10 K q) (k0_pay14 K q) (k0_pay15 K q) (k0_pay16 K
      q) (k0_pay17 K q) (k0_pay18 K q) (k0_pay19 K q) (k0_pay20 K q) (k0_pay21 K q) (k0_pay22 K q) (k0_pay23 K q)
      (k0_pay24 K q) (k0_pay25 K q) (k0_pay26 K q) (k0_pay27 K q) (k0_pay28 K q) (k0_pay29 K q) (k0_pay30 K q) (k0_pay31
      K q) (k0_pay32 K q) (k0_pay33 K q) p) (k0_pay45 (k0_pay10 K q) (k0_pay14 K q) (k0_pay15 K q) (k0_pay16 K q)
      (k0_pay17 K q) (k0_pay18 K q) (k0_pay19 K q) (k0_pay20 K q) (k0_pay21 K q) (k0_pay22 K q) (k0_pay23 K q) (k0_pay24
      K q) (k0_pay25 K q) (k0_pay26 K q) (k0_pay27 K q) (k0_pay28 K q) (k0_pay29 K q) (k0_pay30 K q) (k0_pay31 K q)
      (k0_pay32 K q) (k0_pay33 K q) p) (k0_pay46 (k0_pay10 K q) (k0_pay14 K q) (k0_pay15 K q) (k0_pay16 K q) (k0_pay17 K
      q) (k0_pay18 K q) (k0_pay19 K q) (k0_pay20 K q) (k0_pay21 K q) (k0_pay22 K q) (k0_pay23 K q) (k0_pay24 K q)
      (k0_pay25 K q) (k0_pay26 K q) (k0_pay27 K q) (k0_pay28 K q) (k0_pay29 K q) (k0_pay30 K q) (k0_pay31 K q) (k0_pay32
      K q) (k0_pay33 K q) p) ap
      = accS (k0_pay10 K q) (k0_pay71 (k0_pay10 K q) p) p V ap := by
  simp only [k0_pay37, k0_pay38, k0_pay39, k0_pay40, k0_pay41, k0_pay42, k0_pay43, k0_pay44, k0_pay45, k0_pay46, max0]
  generalize hm : k0_pay71 (k0_pay10 K q) p = mn
  rfl

/-- The third head's. -/
theorem acc2 (s : FVec Ideal S512x2816 .f32) (p : Vec Ideal S512x128 .f32) (V : FVec Ideal S2816x256 .bf16) (ap : Vec Ideal S512x256 .f32) :
    k0_pay120 V (k0_pay95 s) (k0_pay96 s) (k0_pay97 s) (k0_pay98 s) (k0_pay99 s) (k0_pay100 s) (k0_pay102 (k0_pay98 s)
      (k0_pay99 s) (k0_pay100 s) (k0_pay101 s) p) (k0_pay103 (k0_pay98 s) (k0_pay99 s) (k0_pay100 s) (k0_pay101 s) p)
      (k0_pay104 (k0_pay79 s) (k0_pay98 s) (k0_pay99 s) (k0_pay100 s) (k0_pay101 s) p) (k0_pay105 (k0_pay80 s) (k0_pay98
      s) (k0_pay99 s) (k0_pay100 s) (k0_pay101 s) p) (k0_pay106 (k0_pay81 s) (k0_pay98 s) (k0_pay99 s) (k0_pay100 s)
      (k0_pay101 s) p) (k0_pay107 (k0_pay82 s) (k0_pay98 s) (k0_pay99 s) (k0_pay100 s) (k0_pay101 s) p) (k0_pay108
      (k0_pay83 s) (k0_pay98 s) (k0_pay99 s) (k0_pay100 s) (k0_pay101 s) p) (k0_pay109 (k0_pay84 s) (k0_pay98 s)
      (k0_pay99 s) (k0_pay100 s) (k0_pay101 s) p) (k0_pay110 (k0_pay85 s) (k0_pay98 s) (k0_pay99 s) (k0_pay100 s)
      (k0_pay101 s) p) (k0_pay111 (k0_pay86 s) (k0_pay98 s) (k0_pay99 s) (k0_pay100 s) (k0_pay101 s) p) (k0_pay112
      (k0_pay87 s) (k0_pay98 s) (k0_pay99 s) (k0_pay100 s) (k0_pay101 s) p) (k0_pay113 (k0_pay88 s) (k0_pay98 s)
      (k0_pay99 s) (k0_pay100 s) (k0_pay101 s) p) (k0_pay114 (k0_pay89 s) (k0_pay98 s) (k0_pay99 s) (k0_pay100 s)
      (k0_pay101 s) p) (k0_pay115 (k0_pay90 s) (k0_pay98 s) (k0_pay99 s) (k0_pay100 s) (k0_pay101 s) p) (k0_pay116
      (k0_pay91 s) (k0_pay98 s) (k0_pay99 s) (k0_pay100 s) (k0_pay101 s) p) (k0_pay117 (k0_pay92 s) (k0_pay98 s)
      (k0_pay99 s) (k0_pay100 s) (k0_pay101 s) p) (k0_pay118 (k0_pay93 s) (k0_pay98 s) (k0_pay99 s) (k0_pay100 s)
      (k0_pay101 s) p) (k0_pay119 (k0_pay94 s) (k0_pay98 s) (k0_pay99 s) (k0_pay100 s) (k0_pay101 s) p) ap
      = accS s (k0_pay71 s p) p V ap := by
  simp only [k0_pay103, k0_pay104, k0_pay105, k0_pay106, k0_pay107, k0_pay108, k0_pay109, k0_pay110, k0_pay111, k0_pay112, k0_pay113, k0_pay114, k0_pay115, k0_pay116, k0_pay117, k0_pay118, k0_pay119, max2]
  generalize hm : k0_pay71 s p = mn
  rfl

/-- The fourth head's. -/
theorem acc3 (s : FVec Ideal S512x2816 .f32) (p : Vec Ideal S512x128 .f32) (V : FVec Ideal S2816x256 .bf16) (ap : Vec Ideal S512x256 .f32) :
    k0_pay155 V (k0_pay131 s) (k0_pay132 s) (k0_pay133 s) (k0_pay134 s) (k0_pay135 s) (k0_pay136 s) (k0_pay137 s)
      (k0_pay138 s) (k0_pay139 s) (k0_pay140 s) (k0_pay141 s) (k0_pay142 s) (k0_pay143 s) (k0_pay144 s (k0_pay122 s)
      (k0_pay123 s) (k0_pay124 s) (k0_pay125 s) (k0_pay126 s) (k0_pay127 s) (k0_pay128 s) (k0_pay129 s) (k0_pay130 s)
      (k0_pay131 s) (k0_pay132 s) (k0_pay133 s) (k0_pay134 s) (k0_pay135 s) (k0_pay136 s) (k0_pay137 s) (k0_pay138 s)
      (k0_pay139 s) (k0_pay140 s) (k0_pay141 s) p) (k0_pay145 s (k0_pay122 s) (k0_pay123 s) (k0_pay124 s) (k0_pay125 s)
      (k0_pay126 s) (k0_pay127 s) (k0_pay128 s) (k0_pay129 s) (k0_pay130 s) (k0_pay131 s) (k0_pay132 s) (k0_pay133 s)
      (k0_pay134 s) (k0_pay135 s) (k0_pay136 s) (k0_pay137 s) (k0_pay138 s) (k0_pay139 s) (k0_pay140 s) (k0_pay141 s) p)
      (k0_pay146 s (k0_pay122 s) (k0_pay123 s) (k0_pay124 s) (k0_pay125 s) (k0_pay126 s) (k0_pay127 s) (k0_pay128 s)
      (k0_pay129 s) (k0_pay130 s) (k0_pay131 s) (k0_pay132 s) (k0_pay133 s) (k0_pay134 s) (k0_pay135 s) (k0_pay136 s)
      (k0_pay137 s) (k0_pay138 s) (k0_pay139 s) (k0_pay140 s) (k0_pay141 s) p) (k0_pay147 s (k0_pay122 s) (k0_pay123 s)
      (k0_pay124 s) (k0_pay125 s) (k0_pay126 s) (k0_pay127 s) (k0_pay128 s) (k0_pay129 s) (k0_pay130 s) (k0_pay131 s)
      (k0_pay132 s) (k0_pay133 s) (k0_pay134 s) (k0_pay135 s) (k0_pay136 s) (k0_pay137 s) (k0_pay138 s) (k0_pay139 s)
      (k0_pay140 s) (k0_pay141 s) p) (k0_pay148 s (k0_pay122 s) (k0_pay123 s) (k0_pay124 s) (k0_pay125 s) (k0_pay126 s)
      (k0_pay127 s) (k0_pay128 s) (k0_pay129 s) (k0_pay130 s) (k0_pay131 s) (k0_pay132 s) (k0_pay133 s) (k0_pay134 s)
      (k0_pay135 s) (k0_pay136 s) (k0_pay137 s) (k0_pay138 s) (k0_pay139 s) (k0_pay140 s) (k0_pay141 s) p) (k0_pay149 s
      (k0_pay122 s) (k0_pay123 s) (k0_pay124 s) (k0_pay125 s) (k0_pay126 s) (k0_pay127 s) (k0_pay128 s) (k0_pay129 s)
      (k0_pay130 s) (k0_pay131 s) (k0_pay132 s) (k0_pay133 s) (k0_pay134 s) (k0_pay135 s) (k0_pay136 s) (k0_pay137 s)
      (k0_pay138 s) (k0_pay139 s) (k0_pay140 s) (k0_pay141 s) p) (k0_pay150 s (k0_pay122 s) (k0_pay123 s) (k0_pay124 s)
      (k0_pay125 s) (k0_pay126 s) (k0_pay127 s) (k0_pay128 s) (k0_pay129 s) (k0_pay130 s) (k0_pay131 s) (k0_pay132 s)
      (k0_pay133 s) (k0_pay134 s) (k0_pay135 s) (k0_pay136 s) (k0_pay137 s) (k0_pay138 s) (k0_pay139 s) (k0_pay140 s)
      (k0_pay141 s) p) (k0_pay151 s (k0_pay122 s) (k0_pay123 s) (k0_pay124 s) (k0_pay125 s) (k0_pay126 s) (k0_pay127 s)
      (k0_pay128 s) (k0_pay129 s) (k0_pay130 s) (k0_pay131 s) (k0_pay132 s) (k0_pay133 s) (k0_pay134 s) (k0_pay135 s)
      (k0_pay136 s) (k0_pay137 s) (k0_pay138 s) (k0_pay139 s) (k0_pay140 s) (k0_pay141 s) p) (k0_pay152 s (k0_pay122 s)
      (k0_pay123 s) (k0_pay124 s) (k0_pay125 s) (k0_pay126 s) (k0_pay127 s) (k0_pay128 s) (k0_pay129 s) (k0_pay130 s)
      (k0_pay131 s) (k0_pay132 s) (k0_pay133 s) (k0_pay134 s) (k0_pay135 s) (k0_pay136 s) (k0_pay137 s) (k0_pay138 s)
      (k0_pay139 s) (k0_pay140 s) (k0_pay141 s) p) (k0_pay153 s (k0_pay122 s) (k0_pay123 s) (k0_pay124 s) (k0_pay125 s)
      (k0_pay126 s) (k0_pay127 s) (k0_pay128 s) (k0_pay129 s) (k0_pay130 s) (k0_pay131 s) (k0_pay132 s) (k0_pay133 s)
      (k0_pay134 s) (k0_pay135 s) (k0_pay136 s) (k0_pay137 s) (k0_pay138 s) (k0_pay139 s) (k0_pay140 s) (k0_pay141 s) p)
      (k0_pay154 s (k0_pay122 s) (k0_pay123 s) (k0_pay124 s) (k0_pay125 s) (k0_pay126 s) (k0_pay127 s) (k0_pay128 s)
      (k0_pay129 s) (k0_pay130 s) (k0_pay131 s) (k0_pay132 s) (k0_pay133 s) (k0_pay134 s) (k0_pay135 s) (k0_pay136 s)
      (k0_pay137 s) (k0_pay138 s) (k0_pay139 s) (k0_pay140 s) (k0_pay141 s) p) ap
      = accS s (k0_pay71 s p) p V ap := by
  simp only [k0_pay145, k0_pay146, k0_pay147, k0_pay148, k0_pay149, k0_pay150, k0_pay151, k0_pay152, k0_pay153, k0_pay154, max3]
  generalize hm : k0_pay71 s p = mn
  rfl

/-- The grid point before. -/
abbrev prevLt (t : Fin cfg0.N) : t.val - 1 < cfg0.N := lt_of_le_of_lt (Nat.sub_le _ _) t.isLt

/-- After a later point of a run the maxima's scratch holds, in head `g`'s rows, `mNew` of what the point before left. -/
theorem m_step (c : Dev nD) (t : Fin cfg0.N) (h0 : ¬t.val % 3 = 0) (g : Fin 4) (y : S2048x128.Idx)
    (z : S512x128.Idx) (hy0 : (y 0).val = 512 * g.val + (z 0).val) (hy1 : (y 1).val = (z 1).val) :
    (outsAt0 m c t.val t.isLt).2.1 y = mNew m c t g (outsAt0 m c (t.val - 1) (prevLt t)).2.1 z := by
  have hzl : (z 0).val < 512 := (z 0).isLt
  by_cases h1 : t.val % 3 = 2
  on_goal 1 => rw [outsAt0_C m c t h0 h1]
  on_goal 2 => rw [outsAt0_B m c t h0 h1]
  all_goals
    dsimp only
    frame_out
    simp only [read_unread_whole]
    canon_tiles x h
  all_goals
    first
    | (obtain rfl : g = 3 := by omega
       obtain rfl : x = z := by blk_ext
       rw [pay156_eq]; exact congrFun (by rfl) x)
    | (obtain rfl : g = 2 := by omega
       obtain rfl : x = z := by blk_ext
       rw [pay121_eq]; exact congrFun (by rfl) x)
    | (obtain rfl : g = 1 := by omega
       obtain rfl : x = z := by blk_ext
       rw [pay78_eq]; exact congrFun (by rfl) x)
    | (obtain rfl : g = 0 := by omega
       obtain rfl : x = z := by blk_ext
       rw [pay48_eq]; exact congrFun (by rfl) x)

end Cert.KernelIdeal.Value

end
-- ==== Proof.Online.lean ====
/- The softmax of one query over a running prefix of the keys, over the extended reals: the state a row of the
   carried scratch is in, the step one tile of keys makes, and the quotient taken at the end. Hand-written. -/
module

public import Idealize.ShloMosaic.PureOps.Ideal
public import Idealize.ShloMosaic.PureOps.Ideal.Laws

@[expose] public section

noncomputable section

namespace Cert.Online

open Idealize.ShloMosaic
open scoped BigOperators

/-- A nonnegative real factor goes under a finite sum of extended reals. -/
theorem coe_mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `2 ^ x` of a real, as a real. -/
def w (x : ℝ) : ℝ := Real.rpow 2 x

theorem w_pos (x : ℝ) : 0 < w x := Real.rpow_pos_of_pos (by norm_num) x

theorem w_add (x y : ℝ) : w (x + y) = w x * w y := Real.rpow_add (by norm_num) x y

/-- The power of two of a difference of reals is a real one. -/
theorem exp2_sub (x y : ℝ) : Ideal.exp2 ((x : EReal) - (y : EReal)) = (w (x - y) : EReal) := by
  rw [← EReal.coe_sub]; rfl

/-- The state of one query's row after the first `n` keys: either nothing has been seen (the running bound is
    `⊥` in every lane and the accumulators are zero), or the running bound is one real `r` in every lane and
    accumulator `d` holds the sum of `2 ^ (S κ - r) * V κ d` over the keys seen. -/
def State {δ : Type} (S : ℕ → ℝ) (V : ℕ → δ → EReal) (n : ℕ) (mrow : Fin 128 → EReal) (arow : δ → EReal) : Prop :=
  (n = 0 ∧ (∀ l, mrow l = ⊥) ∧ ∀ d, arow d = 0) ∨
    ∃ r : ℝ, (∀ l, mrow l = r) ∧ ∀ d, arow d = ∑ κ ∈ Finset.range n, (w (S κ - r) : EReal) * V κ d

/-- The state of equal rows. -/
theorem State.congr {δ : Type} {S : ℕ → ℝ} {V : ℕ → δ → EReal} {n n' : ℕ} {mrow mrow' : Fin 128 → EReal} {arow arow' : δ → EReal}
    (h : State S V n mrow arow) (hn : n = n') (hm : ∀ l, mrow' l = mrow l) (ha : ∀ d, arow' d = arow d) :
    State S V n' mrow' arow' := by
  obtain rfl := funext hm
  obtain rfl := funext ha
  exact hn ▸ h

/-- One tile of `T` keys: the bound becomes its maximum with a real `x`, the accumulators are rescaled by the power of
    two of the bounds' difference and gain the tile's terms. Whatever real `x` is, the state moves on by `T` keys. -/
theorem State.step {δ : Type} {S : ℕ → ℝ} {V : ℕ → δ → EReal} {n T : ℕ} {mrow mrow' : Fin 128 → EReal} {arow arow' : δ → EReal}
    (ln : δ → Fin 128) (lk : Fin T → Fin 128)
    (h : State S V n mrow arow) (x : ℝ) (hm : ∀ l, mrow' l = max (mrow l) (x : EReal))
    (ha : ∀ d, arow' d = Ideal.exp2 (mrow (ln d) - mrow' (ln d)) * arow d
      + ∑ j : Fin T, Ideal.exp2 ((S (n + j.val) : EReal) - mrow' (lk j)) * V (n + j.val) d) :
    State S V (n + T) mrow' arow' := by
  rcases h with ⟨rfl, hb, h0⟩ | ⟨r, hr, hacc⟩
  · refine Or.inr ⟨x, fun l => by rw [hm, hb]; exact max_eq_right bot_le, fun d => ?_⟩
    have e : ∀ l, mrow' l = (x : EReal) := fun l => by rw [hm, hb]; exact max_eq_right bot_le
    rw [ha, h0, mul_zero, zero_add, Finset.sum_range_add, Finset.sum_range_zero, zero_add, Finset.sum_range]
    exact Finset.sum_congr rfl fun j _ => by rw [e, exp2_sub]
  · have e : ∀ l, mrow' l = ((max r x : ℝ) : EReal) := fun l => by
      rw [hm, hr]; exact (EReal.coe_strictMono.monotone.map_max).symm
    refine Or.inr ⟨max r x, e, fun d => ?_⟩
    rw [ha, hacc, hr, e, exp2_sub, coe_mul_sum _ _ (w_pos _).le, Finset.sum_range_add,
      Finset.sum_range (f := fun i => (w (S (n + i) - max r x) : EReal) * V (n + i) d)]
    refine congrArg₂ (· + ·) (Finset.sum_congr rfl fun κ _ => ?_) (Finset.sum_congr rfl fun j _ => by rw [e, exp2_sub])
    rw [← mul_assoc, ← EReal.coe_mul, ← w_add]
    congr 3; ring

/-- The quotient at the end: with the accumulator `d` over `n > 0` keys, and a second accumulator `e` over the same keys
    with ones as its values, their quotient is the sum of the values weighted by the normalised powers of two — taken
    relative to any real `b` whatever. -/
theorem State.quot {δ : Type} {S : ℕ → ℝ} {V : ℕ → δ → EReal} {n : ℕ} {mrow : Fin 128 → EReal} {arow : δ → EReal}
    (h : State S V n mrow arow) (hn : 0 < n) (d e : δ) (h1 : ∀ κ < n, V κ e = 1) (b : ℝ) :
    Ideal.div (arow d) (arow e)
      = ∑ κ ∈ Finset.range n, V κ d * Ideal.div (w (S κ - b) : EReal) (∑ κ' ∈ Finset.range n, (w (S κ' - b) : EReal)) := by
  rcases h with ⟨rfl, -⟩ | ⟨r, hr, hacc⟩
  · exact absurd hn (lt_irrefl 0)
  have hne : (Finset.range n).Nonempty := ⟨0, Finset.mem_range.mpr hn⟩
  have hpos : ∀ y : ℝ, 0 < ∑ κ ∈ Finset.range n, w (S κ - y) := fun y => Finset.sum_pos (fun κ _ => w_pos _) hne
  have hone : arow e = ((∑ κ ∈ Finset.range n, w (S κ - r) : ℝ) : EReal) := by
    rw [hacc, coe_sum]
    exact Finset.sum_congr rfl fun κ hκ => by rw [h1 κ (Finset.mem_range.mp hκ), mul_one]
  have hdiv : ∀ (y : EReal) (z : ℝ), 0 < z → Ideal.div y (z : EReal) = ((z⁻¹ : ℝ) : EReal) * y := fun y z hz => by
    unfold Ideal.div
    rw [if_neg (by exact_mod_cast hz.ne'), mul_comm, ← EReal.coe_inv]
  rw [hone, hdiv _ _ (hpos r), hacc, coe_mul_sum _ _ (inv_nonneg.mpr (hpos r).le), ← coe_sum]
  refine Finset.sum_congr rfl fun κ _ => ?_
  rw [hdiv _ _ (hpos b), ← EReal.coe_mul, ← mul_assoc, ← EReal.coe_mul, mul_comm (V κ d)]
  congr 2
  have hs : ∀ κ, w (S κ - r) = w (b - r) * w (S κ - b) := fun κ => by rw [← w_add]; congr 1; ring
  simp only [hs, ← Finset.mul_sum]
  have := (hpos b).ne'
  have := (w_pos (b - r)).ne'
  field_simp

end Cert.Online

end
-- ==== Proof.StepRead.lean ====
/- The functions of Step.lean read at an index. Hand-written. -/
module

public import proofs.«01_k».proof.Proof.Step
public import proofs.«01_k».proof.Proof.Online

@[expose] public section

set_option maxRecDepth 16384

noncomputable section

open Idealize.ShloMosaic Idealize.ShloMosaic.TcCoe Idealize.SL.Sem

namespace Cert.KernelIdeal.Step

open Cert.KernelIdeal Cert.KernelIdeal.Gen
open scoped BigOperators

/-- Being a real number, not an infinity. -/
def Real' (x : EReal) : Prop := ∃ a : ℝ, x = (a : EReal)

theorem Real'.max {x y : EReal} (hx : Real' x) (hy : Real' y) : Real' (max x y) := by
  obtain ⟨a, rfl⟩ := hx
  obtain ⟨b, rfl⟩ := hy
  exact ⟨_, (EReal.coe_strictMono.monotone.map_max).symm⟩

theorem Real'.mul {x y : EReal} (hx : Real' x) (hy : Real' y) : Real' (x * y) := by
  obtain ⟨a, rfl⟩ := hx
  obtain ⟨b, rfl⟩ := hy
  exact ⟨_, (EReal.coe_mul a b).symm⟩

theorem Real'.sum {ι : Type*} (s : Finset ι) (f : ι → EReal) (h : ∀ i ∈ s, Real' (f i)) : Real' (∑ i ∈ s, f i) := by
  classical
  induction s using Finset.induction_on with
  | empty => exact ⟨0, by simp⟩
  | insert i s hi ih =>
    rw [Finset.sum_insert hi]
    obtain ⟨a, ha⟩ := h i (by simp)
    obtain ⟨b, hb⟩ := ih fun j hj => h j (by simp [hj])
    exact ⟨a + b, by rw [ha, hb, EReal.coe_add]⟩

/-- The maximum from `-∞` over a nonempty finite set of reals is a real. -/
theorem Real'.fold {ι : Type*} (s : Finset ι) (f : ι → EReal) (hs : s.Nonempty) (h : ∀ i ∈ s, Real' (f i)) :
    Real' (s.fold Max.max ⊥ f) := by
  classical
  induction s using Finset.induction_on with
  | empty => simp at hs
  | insert i s hi ih =>
    rw [Finset.fold_insert hi]
    rcases s.eq_empty_or_nonempty with rfl | hne
    · simpa using h i (by simp)
    · exact (h i (by simp)).max (ih hne fun j hj => h j (by simp [hj]))

/-- The row maxima of real entries, laid along the lanes and joined with the old maxima. -/
theorem of_max (M : FVec Ideal S512x128 .f32) (mp : FVec Ideal S512x128 .f32) (r : Fin 512)
    (hM : ∀ k : Fin 128, Real' (M (ix2 r k))) :
    ∃ x : ℝ, ∀ l : Fin 128, maximumf mp (broadcastTo S512x128 (shapeCast S512x1
      (multiReduction (F := Ideal) (φ := .f32) .maximumf [1] S512 M 0xFF800000#32 reduces_S512x128_S512 (.inl rfl) rfl)
      shapeCasts_S512_S512x1) broadcasts_S512x1_S512x128) (ix2 r l) = max (mp (ix2 r l)) (x : EReal) := by
  have h : Real' (Finset.fold max (Ideal.ofBits FTy.f32 4286578688#32) (fun x => M (ix2 r x)) Finset.univ) := by
    rw [show Ideal.ofBits FTy.f32 4286578688#32 = (⊥ : EReal) from by simp [Ideal.ofBits, Ideal.ieee]]
    exact Real'.fold _ _ ⟨(⟨0, by decide⟩ : Fin 128), Finset.mem_univ _⟩ fun k _ => hM k
  obtain ⟨x, hx⟩ := h
  refine ⟨x, fun l => ?_⟩
  rw [← hx]
  pointwise

/-- The new running maximum in row `r` is the old one and one real, where the row's scores are real. -/
theorem max_read (s : FVec Ideal S512x2816 .f32) (mp : FVec Ideal S512x128 .f32) (r : Fin 512)
    (hs : ∀ j : Fin 2816, Real' (s (ix2 r j))) :
    ∃ x : ℝ, ∀ l : Fin 128, k0_pay71 s mp (ix2 r l) = max (mp (ix2 r l)) (x : EReal) := by
  have hc : ∀ (i : Fin 22) (k : Fin 128), Real' (chunk s i (ix2 r k)) := fun i k => by
    have e : chunk s i (ix2 r k) = s (ix2 r ⟨128 * i.val + k.val, by omega⟩) := by
      unfold chunk; pointwise
    rw [e]; exact hs _
  unfold k0_pay71
  refine of_max _ mp r fun k => ?_
  exact (((((((((((((((((((((hc 0 k).max (hc 1 k)).max (hc 2 k)).max (hc 3 k)).max (hc 4 k)).max (hc 5 k)).max (hc 6 k)).max
    (hc 7 k)).max (hc 8 k)).max (hc 9 k)).max (hc 10 k)).max (hc 11 k)).max (hc 12 k)).max (hc 13 k)).max (hc 14 k)).max
      (hc 15 k)).max (hc 16 k)).max (hc 17 k)).max (hc 18 k)).max (hc 19 k)).max (hc 20 k)).max (hc 21 k)

/-- The exponentials, read at an index. -/
theorem pexp_read (s : FVec Ideal S512x2816 .f32) (mn : FVec Ideal S512x128 .f32) (r : Fin 512) (j : Fin 2816) :
    pexp s mn (ix2 r j) = Ideal.exp2 (s (ix2 r j) - mn (ix2 r ⟨j.val % 128, by omega⟩)) := by
  unfold pexp
  refine (concatenate_ofFn_apply (t := S512x2816) (s₁ := S512x128) 1
    (fun i : Fin 22 => truncf .bf16 (exp2 (subf (chunk s i) mn)) bitsLt_bf16_f32) _ rfl 128 rfl (ix2 r j)
    ⟨j.val / 128, by omega⟩ rfl (ix2 r ⟨j.val % 128, by omega⟩) rfl (fun b hb => ?_)).trans ?_
  · fin_cases b
    · rfl
    · exact absurd rfl hb
  · have e : chunk s ⟨j.val / 128, by omega⟩ (ix2 r ⟨j.val % 128, by omega⟩) = s (ix2 r j) := by
      unfold chunk
      pointwise
      blk_ext
    show Ideal.exp2 (chunk s ⟨j.val / 128, by omega⟩ (ix2 r ⟨j.val % 128, by omega⟩) - _) = _
    rw [e]

/-- The new accumulator. -/
theorem acc_read (s : FVec Ideal S512x2816 .f32) (mn mp : FVec Ideal S512x128 .f32) (vm : FVec Ideal S2816x256 .bf16)
    (ap : FVec Ideal S512x256 .f32) (r : Fin 512) (d : Fin 256) :
    accS s mn mp vm ap (ix2 r d)
      = Ideal.exp2 (mp (ix2 r ⟨d.val % 128, by omega⟩) - mn (ix2 r ⟨d.val % 128, by omega⟩)) * ap (ix2 r d)
        + ∑ j : Fin 2816, Ideal.exp2 (s (ix2 r j) - mn (ix2 r ⟨j.val % 128, by omega⟩)) * vm (ix2 j d) := by
  pointwise [accS, k0_pay77]
  simp only [pexp_read]
  congr 2
  split
  · rename_i h
    have e : (⟨d.val, h⟩ : Fin 128) = ⟨d.val % 128, by omega⟩ := Fin.ext (Nat.mod_eq_of_lt h).symm
    rw [e]; rfl
  · rename_i h
    have e : (⟨d.val - 128, by omega⟩ : Fin 128) = ⟨d.val % 128, by omega⟩ := Fin.ext (by simp; omega)
    rw [e]; rfl

/-- A score. -/
theorem score_read (K : Vec Ideal S1x2816x128 .bf16) (q : Vec Ideal S512x128 .bf16) (r : Fin 512) (j : Fin 2816) :
    k0_pay10 K q (ix2 r j) = ∑ e : Fin 128, q (ix2 r e) * K (ix3 0 j e) := by
  pointwise [k0_pay10, k0_pay8]

end Cert.KernelIdeal.Step

end
-- ==== Proof.Blocks.lean ====
/- The blocks a grid point reads, over the arguments: its scores and its values. Hand-written. -/
module

public import proofs.«01_k».proof.Proof.Point
public import proofs.«01_k».proof.Proof.StepRead
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Step
open scoped BigOperators

variable (m : (ℓ : Loc nD τ sig) → Buf (Elt Ideal) ℓ)

/-- The block each window takes at a grid point. -/
theorem idx : ∀ t : Fin grid0.N,
    win0_0.index t = ![(t.val / 192) * 16 + t.val / 3 % 16, t.val / 48 % 4]
    ∧ win0_1.index t = ![t.val / 192, t.val % 3, t.val / 48 % 4]
    ∧ win0_2.index t = ![t.val / 192, t.val % 3, t.val / 48 % 4]
    ∧ win0_3.index t = ![(t.val / 192) * 16 + t.val / 3 % 16, t.val / 48 % 4] := by
  decide +kernel

/-- The score of the query in row `R` and head `C` with key `κ` of batch `b`. -/
def scoreE (Q : Vec Ideal S16896x2048 .bf16) (K : Vec Ideal S2x8448x512 .bf16) (b : Fin 2) (R : Fin 16384) (C : Fin 16)
    (κ : ℕ) : EReal :=
  ∑ e : Fin 128, Q (ix2 (⟨R.val, by omega⟩ : Fin 16896) (⟨C.val * 128 + e.val, by omega⟩ : Fin 2048))
    * K (ix3 b (⟨κ % 8448, Nat.mod_lt _ (by decide)⟩ : Fin 8448) (⟨C.val / 4 * 128 + e.val, by omega⟩ : Fin 512))

/-- Entry `d` of key `κ`'s value in batch `b` and key head `h`. -/
def valE (W : Vec Ideal S2x8448x1024 .bf16) (b : Fin 2) (h : Fin 4) (κ : ℕ) (d : Fin 256) : EReal :=
  W (ix3 b (⟨κ % 8448, Nat.mod_lt _ (by decide)⟩ : Fin 8448) (⟨h.val * 256 + d.val, by omega⟩ : Fin 1024))

/-- Grid point `3 u + j` of row block `u`: the batch, the head `g` of the block, the row, the key head. -/
def bOf (u : Fin 128) : Fin 2 := ⟨u.val / 64, by omega⟩
def hOf (u : Fin 128) : Fin 4 := ⟨u.val / 16 % 4, by omega⟩
def cOf (u : Fin 128) (g : Fin 4) : Fin 16 := ⟨u.val / 16 % 4 * 4 + g.val, by omega⟩
def rOf (u : Fin 128) (r : Fin 512) : Fin 16384 := ⟨(u.val / 64 * 16 + u.val % 16) * 512 + r.val, by omega⟩

/-- A rectangle of a buffer, read at an index. -/
theorem ld_read {n k a b : ℕ} {φ : EltTy} (P : Vec Ideal ⟨2, ![n, k]⟩ φ) (o p : ℕ)
    (h : ∀ i : Fin 2, (![o, p] : Fin 2 → ℕ) i + (![a, b] : Fin 2 → ℕ) i ≤ (⟨2, ![n, k]⟩ : Shape).size i)
    (x : Fin a) (y : Fin b) (hx : o + x.val < n) (hy : p + y.val < k) :
    View.ld P (Rect.unit ![o, p] ![a, b] h) (ix2 x y) = P (ix2 (⟨o + x.val, hx⟩ : Fin n) (⟨p + y.val, hy⟩ : Fin k)) := by
  refine congrArg P ?_
  funext i
  fin_cases i
  · exact Fin.ext (by simp [Rect.idx_unit_val, ix2])
  · exact Fin.ext (by simp [Rect.idx_unit_val, ix2])

/-- The rows of a head, read at an index. -/
theorem mRows_read (P : Vec Ideal S2048x128 .f32) (g : Fin 4) (r : Fin 512) (l : Fin 128) :
    mRows P g (ix2 r l) = P (ix2 (⟨512 * g.val + r.val, by omega⟩ : Fin 2048) l) := by
  unfold mRows
  rw [ld_read P (512 * g.val) 0 (inbM g) r l (by omega) (by omega)]
  simp

/-- The rows of a head in the accumulators. -/
theorem aRows_read (P : Vec Ideal S2048x256 .f32) (g : Fin 4) (r : Fin 512) (d : Fin 256) :
    aRows P g (ix2 r d) = P (ix2 (⟨512 * g.val + r.val, by omega⟩ : Fin 2048) d) := by
  unfold aRows
  rw [ld_read P (512 * g.val) 0 (inbA g) r d (by omega) (by omega)]
  simp

/-- The scores a point computes are those of the arguments. -/
theorem sc_read (c : Dev nD) (t : Fin cfg0.N) (u : Fin 128) (j : ℕ) (hj : j < 3) (ht : t.val = 3 * u.val + j) (g : Fin 4)
    (r : Fin 512) (i : Fin 2816) :
    sc m c t g (ix2 r i) = scoreE (m ((c : Thread nD τ).loc main_arg0)) (m ((c : Thread nD τ).loc main_arg1)) (bOf u) (rOf u r)
      (cOf u g) (j * 2816 + i.val) := by
  unfold sc scoreE
  rw [score_read]
  have h1 : (bOf u).val = u.val / 64 := rfl
  have h2 : (cOf u g).val = u.val / 16 % 4 * 4 + g.val := rfl
  have h3 : (rOf u r).val = (u.val / 64 * 16 + u.val % 16) * 512 + r.val := rfl
  refine Finset.sum_congr rfl fun e _ => congrArg₂ (· * ·) ?_ ?_
  · rw [ld_read (iblk m c 0 t) 0 (128 * g.val) (inbQ g) r e (by omega) (by omega)]
    blk_ext [iblk, V, idx t] <;> omega
  · blk_ext [iblk, V, idx t] <;> omega

/-- The values a point reads are those of the argument. -/
theorem vm_read (c : Dev nD) (t : Fin cfg0.N) (u : Fin 128) (j : ℕ) (hj : j < 3) (ht : t.val = 3 * u.val + j)
    (i : Fin 2816) (d : Fin 256) :
    k0_pay9 (iblk m c 2 t) (ix2 i d) = valE (m ((c : Thread nD τ).loc main_arg2)) (bOf u) (hOf u) (j * 2816 + i.val) d := by
  unfold valE
  have h1 : (bOf u).val = u.val / 64 := rfl
  have h2 : (hOf u).val = u.val / 16 % 4 := rfl
  pointwise [k0_pay9]
  blk_ext [iblk, V, idx t] <;> omega

end Cert.KernelIdeal.Value

end
-- ==== Proof.PointS.lean ====
module
public import proofs.«01_k».proof.Proof.Point
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Step
variable (m : (ℓ : Loc nD τ sig) → Buf (Elt Ideal) ℓ)

/-- … and the accumulators' scratch `aNew`. -/
theorem a_step (c : Dev nD) (t : Fin cfg0.N) (h0 : ¬t.val % 3 = 0) (g : Fin 4) (y : S2048x256.Idx)
    (z : S512x256.Idx) (hy0 : (y 0).val = 512 * g.val + (z 0).val) (hy1 : (y 1).val = (z 1).val) :
    (outsAt0 m c t.val t.isLt).2.2 y
      = aNew m c t g (outsAt0 m c (t.val - 1) (prevLt t)).2.1 (outsAt0 m c (t.val - 1) (prevLt t)).2.2 z := by
  have hzl : (z 0).val < 512 := (z 0).isLt
  by_cases h1 : t.val % 3 = 2
  on_goal 1 => rw [outsAt0_C m c t h0 h1]
  on_goal 2 => rw [outsAt0_B m c t h0 h1]
  all_goals
    dsimp only
    frame_out
    simp only [read_unread_whole]
    canon_tiles x h
  all_goals
    first
    | (obtain rfl : g = 3 := by omega
       obtain rfl : x = z := by blk_ext
       rw [acc3]; exact congrFun (by rfl) x)
    | (obtain rfl : g = 2 := by omega
       obtain rfl : x = z := by blk_ext
       rw [acc2]; exact congrFun (by rfl) x)
    | (obtain rfl : g = 1 := by omega
       obtain rfl : x = z := by blk_ext
       rw [acc1]; exact congrFun (by rfl) x)
    | (obtain rfl : g = 0 := by omega
       obtain rfl : x = z := by blk_ext
       rw [acc0]; exact congrFun (by rfl) x)

end Cert.KernelIdeal.Value

end
-- ==== Proof.PointA.lean ====
module
public import proofs.«01_k».proof.Proof.Point
@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.KernelIdeal.Step
variable (m : (ℓ : Loc nD τ sig) → Buf (Elt Ideal) ℓ)

/-- After the first point of a run: the same, over the buffers just filled with `-∞` and with zeros. -/
theorem m_first (c : Dev nD) (t : Fin cfg0.N) (h0 : t.val % 3 = 0) (g : Fin 4) (y : S2048x128.Idx)
    (z : S512x128.Idx) (hy0 : (y 0).val = 512 * g.val + (z 0).val) (hy1 : (y 1).val = (z 1).val) :
    (outsAt0 m c t.val t.isLt).2.1 y = mNew m c t g (k0_pay6 (F := Ideal)) z := by
  have hzl : (z 0).val < 512 := (z 0).isLt
  rw [outsAt0_A m c t h0 (by omega)]
  dsimp only
  frame_open
  simp (disch := decide) only [↓View.readCov_skip, ↓View.readCov_cons_toLoadRect, ↓View.readCov_fill]
  frame_out
  refine (canon_append_of_covered [_] [_, _, _, _] y (View.cover_of_tiled_head _ _ _ (by rfl) y)).trans ?_
  canon_tiles x h
  all_goals
    first
    | (obtain rfl : g = 3 := by omega
       obtain rfl : x = z := by blk_ext
       rw [pay156_eq]; exact congrFun (by rfl) x)
    | (obtain rfl : g = 2 := by omega
       obtain rfl : x = z := by blk_ext
       rw [pay121_eq]; exact congrFun (by rfl) x)
    | (obtain rfl : g = 1 := by omega
       obtain rfl : x = z := by blk_ext
       rw [pay78_eq]; exact congrFun (by rfl) x)
    | (obtain rfl : g = 0 := by omega
       obtain rfl : x = z := by blk_ext
       rw [pay48_eq]; exact congrFun (by rfl) x)

/-- … and for the accumulators. -/
theorem a_first (c : Dev nD) (t : Fin cfg0.N) (h0 : t.val % 3 = 0) (g : Fin 4) (y : S2048x256.Idx)
    (z : S512x256.Idx) (hy0 : (y 0).val = 512 * g.val + (z 0).val) (hy1 : (y 1).val = (z 1).val) :
    (outsAt0 m c t.val t.isLt).2.2 y = aNew m c t g (k0_pay6 (F := Ideal)) (k0_pay7 (F := Ideal)) z := by
  have hzl : (z 0).val < 512 := (z 0).isLt
  rw [outsAt0_A m c t h0 (by omega)]
  dsimp only
  frame_open
  simp (disch := decide) only [↓View.readCov_skip, ↓View.readCov_cons_toLoadRect, ↓View.readCov_fill]
  frame_out
  refine (canon_append_of_covered [_] [_, _, _, _] y (View.cover_of_tiled_head _ _ _ (by rfl) y)).trans ?_
  canon_tiles x h
  all_goals
    first
    | (obtain rfl : g = 3 := by omega
       obtain rfl : x = z := by blk_ext
       rw [acc3]; exact congrFun (by rfl) x)
    | (obtain rfl : g = 2 := by omega
       obtain rfl : x = z := by blk_ext
       rw [acc2]; exact congrFun (by rfl) x)
    | (obtain rfl : g = 1 := by omega
       obtain rfl : x = z := by blk_ext
       rw [acc1]; exact congrFun (by rfl) x)
    | (obtain rfl : g = 0 := by omega
       obtain rfl : x = z := by blk_ext
       rw [acc0]; exact congrFun (by rfl) x)

/-- The left half of the columns of a buffer the stores `L` have filled, loaded back. -/
abbrev ldL (v : View sig .tc .vmem S2048x256 .f32) (L : List (View.Piece (Elt Ideal) S2048x256 .f32)) : FVec Ideal S2048x128 .f32 :=
  v.readCov L (Rect.unit (s := S2048x256) ![0, 0] S2048x128.size inb_S2048x256_S2048x128_0_0).toLoadRect

/-- The right half. -/
abbrev ldR (v : View sig .tc .vmem S2048x256 .f32) (L : List (View.Piece (Elt Ideal) S2048x256 .f32)) : FVec Ideal S2048x128 .f32 :=
  v.readCov L (Rect.unit (s := S2048x256) ![0, 128] S2048x128.size inb_S2048x256_S2048x128_0_128).toLoadRect

/-- The four stores of the output block, each a quotient of two column halves of one accumulator buffer `canon L`. -/
theorem out_tiles (v : View sig .tc .vmem S2048x256 .f32) (L : List (View.Piece (Elt Ideal) S2048x256 .f32)) (g : Fin 4) (y : S512x512.Idx) (a b : S2048x256.Idx)
    (ha0 : (a 0).val = 512 * g.val + (y 0).val) (ha1 : 128 * g.val + (a 1).val = (y 1).val) (ha2 : (a 1).val < 128)
    (hb0 : (b 0).val = (a 0).val) (hb1 : (b 1).val = 128 + (a 1).val) :
    View.canon
      ([⟨Rect.unit ![0, 384] ![512, 128] inb_S512x512_S512x128_0_384,
          k0_pay5 (F := Ideal) (ldL v L)
            (ldR v L)⟩,
        ⟨Rect.unit ![0, 256] ![512, 128] inb_S512x512_S512x128_0_256,
          k0_pay4 (F := Ideal) (ldL v L)
            (ldR v L)⟩,
        ⟨Rect.unit ![0, 128] ![512, 128] inb_S512x512_S512x128_0_128,
          k0_pay3 (F := Ideal) (ldL v L)
            (ldR v L)⟩,
        ⟨Rect.unit ![0, 0] ![512, 128] inb_S512x512_S512x128_0_0,
          k0_pay2 (F := Ideal) (ldL v L)
            (ldR v L)⟩]
        : List (View.Piece (Elt Ideal) S512x512 .bf16)) y
      = Ideal.div (View.canon L a) (View.canon L b) := by
  have hy0 : (y 0).val < 512 := (y 0).isLt
  have hy1 : (y 1).val < 512 := (y 1).isLt
  simp only [ldL, ldR, View.readCov_eq_canon']
  canon_tiles x h
  on_goal 1 => unfold k0_pay5; obtain rfl : g = 3 := by omega
  on_goal 2 => unfold k0_pay4; obtain rfl : g = 2 := by omega
  on_goal 3 => unfold k0_pay3; obtain rfl : g = 1 := by omega
  on_goal 4 => unfold k0_pay2; obtain rfl : g = 0 := by omega
  all_goals
    unfold k0_pay1
    refine congrArg₂ Ideal.div (congrArg _ ?_) (congrArg _ ?_)
    all_goals
      funext k
      apply Fin.ext
      rw [show ∀ (r : Rect S2048x256) (i : r.shape.Idx) (k : Fin 2), ((r.toLoadRect.idx i k).val = r.off k + r.stride k * (i k).val) from fun _ _ _ => rfl]
      fin_cases k
    all_goals first
      | (show 0 + 1 * (_ + (x 0).val) = _; simp; omega)
      | (show 128 + 1 * (_ + (x 1).val) = _; simp; omega)
      | (show 0 + 1 * (_ + (x 1).val) = _; simp; omega)

/-- The last point of a run stores, in head `g`'s columns, the accumulator's left half over its right half. -/
theorem out_last (c : Dev nD) (t : Fin cfg0.N) (h1 : t.val % 3 = 2) (g : Fin 4) (y : S512x512.Idx) (a b : S2048x256.Idx)
    (ha0 : (a 0).val = 512 * g.val + (y 0).val) (ha1 : 128 * g.val + (a 1).val = (y 1).val) (ha2 : (a 1).val < 128)
    (hb0 : (b 0).val = (a 0).val) (hb1 : (b 1).val = 128 + (a 1).val) :
    (outsAt0 m c t.val t.isLt).1 y
      = Ideal.div ((outsAt0 m c t.val t.isLt).2.2 a) ((outsAt0 m c t.val t.isLt).2.2 b) := by
  rw [outsAt0_C m c t (by omega) h1]
  dsimp only
  frame_out
  exact out_tiles _ _ g y a b ha0 ha1 ha2 hb0 hb1

end Cert.KernelIdeal.Value

end
-- ==== Proof.Chain.lean ====
/- One query's row of the carried scratch, along the three points of its row block: after each it is the online softmax's
   state over the keys seen so far; the output block is the quotient at the end. Hand-written. -/
module

public import proofs.«01_k».proof.Proof.Blocks
public import proofs.«01_k».proof.Proof.PointS
public import proofs.«01_k».proof.Proof.PointA

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Step Cert.Online
open scoped BigOperators

variable (m : (ℓ : Loc nD τ sig) → Buf (Elt Ideal) ℓ)

/-- The scores of a row, over the arguments. -/
abbrev scoresOf (c : Dev nD) (b : Fin 2) (R : Fin 16384) (C : Fin 16) (κ : ℕ) : EReal :=
  scoreE (m ((c : Thread nD τ).loc main_arg0)) (m ((c : Thread nD τ).loc main_arg1)) b R C κ

/-- The values of a key head, over the argument. -/
abbrev valuesOf (c : Dev nD) (b : Fin 2) (h : Fin 4) (κ : ℕ) (d : Fin 256) : EReal :=
  valE (m ((c : Thread nD τ).loc main_arg2)) b h κ d

/-- A point moves a row's state on by its 2816 keys, whatever buffers `P`, `Q` the state was read from. -/
theorem core (c : Dev nD) (t : Fin cfg0.N) (u : Fin 128) (j : ℕ) (hj : j < 3) (ht : t.val = 3 * u.val + j) (g : Fin 4)
    (r : Fin 512) (S : ℕ → ℝ) (hS : ∀ κ, scoresOf m c (bOf u) (rOf u r) (cOf u g) κ = (S κ : EReal))
    (P : Vec Ideal S2048x128 .f32) (Q : Vec Ideal S2048x256 .f32)
    (h : State S (valuesOf m c (bOf u) (hOf u)) (j * 2816)
      (fun l => mRows P g (ix2 r l)) (fun d => aRows Q g (ix2 r d))) :
    State S (valuesOf m c (bOf u) (hOf u)) (j * 2816 + 2816)
      (fun l => mNew m c t g P (ix2 r l)) (fun d => aNew m c t g P Q (ix2 r d)) := by
  have hs : ∀ i : Fin 2816, sc m c t g (ix2 r i) = (S (j * 2816 + i.val) : EReal) := fun i => by
    rw [sc_read m c t u j hj ht g r i]; exact hS _
  obtain ⟨x, hx⟩ := max_read (sc m c t g) (mRows P g) r fun i => ⟨_, hs i⟩
  refine h.step (fun d => ⟨d.val % 128, by omega⟩) (fun i => ⟨i.val % 128, by omega⟩) x hx fun d => ?_
  refine (acc_read (sc m c t g) (mNew m c t g P) (mRows P g) (k0_pay9 (iblk m c 2 t)) (aRows Q g) r d).trans ?_
  refine congrArg₂ (· + ·) rfl (Finset.sum_congr rfl fun i _ => ?_)
  rw [hs i, vm_read m c t u j hj ht i d]

/-- The running maxima start at `-∞`. -/
theorem bound0 (y : S2048x128.Idx) : k0_pay6 (F := Ideal) y = (⊥ : EReal) := by
  pointwise [k0_pay6]
  simp [Ideal.ofBits, Ideal.ieee]

/-- The accumulators start at zero. -/
theorem acc0_zero (y : S2048x256.Idx) : k0_pay7 (F := Ideal) y = (0 : EReal) := by
  pointwise [k0_pay7]

/-- The state of row `r` of head `g` after point `3 u + j`. -/
theorem chain (c : Dev nD) (u : Fin 128) (g : Fin 4) (r : Fin 512) (S : ℕ → ℝ)
    (hS : ∀ κ, scoresOf m c (bOf u) (rOf u r) (cOf u g) κ = (S κ : EReal)) :
    ∀ (j : ℕ) (hj : j < 3) (hN : 3 * u.val + j < cfg0.N),
      State S (valuesOf m c (bOf u) (hOf u)) (j * 2816 + 2816)
        (fun l => (outsAt0 m c (3 * u.val + j) hN).2.1 (ix2 (⟨512 * g.val + r.val, by omega⟩ : Fin 2048) l))
        (fun d => (outsAt0 m c (3 * u.val + j) hN).2.2 (ix2 (⟨512 * g.val + r.val, by omega⟩ : Fin 2048) d)) := by
  intro j
  induction j with
  | zero =>
    intro hj hN
    have h0 : (⟨3 * u.val + 0, hN⟩ : Fin cfg0.N).val % 3 = 0 := by show (3 * u.val + 0) % 3 = 0; omega
    have hc := core m c ⟨3 * u.val + 0, hN⟩ u 0 hj rfl g r S hS (k0_pay6 (F := Ideal)) (k0_pay7 (F := Ideal))
      (Or.inl ⟨rfl, fun l => (mRows_read _ g r l).trans (bound0 _), fun d => (aRows_read _ g r d).trans (acc0_zero _)⟩)
    exact hc.congr rfl (fun l => m_first m c ⟨3 * u.val + 0, hN⟩ h0 g _ (ix2 r l) rfl rfl)
      fun d => a_first m c ⟨3 * u.val + 0, hN⟩ h0 g _ (ix2 r d) rfl rfl
  | succ j ih =>
    intro hj hN
    have h0 : ¬(⟨3 * u.val + (j + 1), hN⟩ : Fin cfg0.N).val % 3 = 0 := by show ¬(3 * u.val + (j + 1)) % 3 = 0; omega
    have hp := ih (by omega) (by omega)
    have hc := core m c ⟨3 * u.val + (j + 1), hN⟩ u (j + 1) hj rfl g r S hS
      (outsAt0 m c (3 * u.val + j) (by omega)).2.1 (outsAt0 m c (3 * u.val + j) (by omega)).2.2
      (hp.congr (by omega) (fun l => mRows_read _ g r l) fun d => aRows_read _ g r d)
    exact hc.congr rfl (fun l => m_step m c ⟨3 * u.val + (j + 1), hN⟩ h0 g _ (ix2 r l) rfl rfl)
      fun d => a_step m c ⟨3 * u.val + (j + 1), hN⟩ h0 g _ (ix2 r d) rfl rfl

/-- The output block of row block `u`: the values weighted by the normalised powers of two of the scores, taken relative
    to any real `b`, where the scores are real and the last 128 value columns are ones. -/
theorem out_read (c : Dev nD) (u : Fin 128) (g : Fin 4) (r : Fin 512) (d : Fin 128) (S : ℕ → ℝ)
    (hS : ∀ κ, scoresOf m c (bOf u) (rOf u r) (cOf u g) κ = (S κ : EReal))
    (h1 : ∀ κ < 8448, valuesOf m c (bOf u) (hOf u) κ ⟨128 + d.val, by omega⟩ = 1) (b : ℝ) (hN : 3 * u.val + 2 < cfg0.N) :
    (outsAt0 m c (3 * u.val + 2) hN).1 (ix2 r (⟨128 * g.val + d.val, by omega⟩ : Fin 512))
      = ∑ κ ∈ Finset.range 8448, valuesOf m c (bOf u) (hOf u) κ ⟨d.val, by omega⟩
          * Ideal.div (w (S κ - b) : EReal) (∑ κ' ∈ Finset.range 8448, (w (S κ' - b) : EReal)) := by
  have hd : (⟨3 * u.val + 2, hN⟩ : Fin cfg0.N).val % 3 = 2 := by show (3 * u.val + 2) % 3 = 2; omega
  refine (out_last m c ⟨3 * u.val + 2, hN⟩ hd g _ (ix2 (⟨512 * g.val + r.val, by omega⟩ : Fin 2048) (⟨d.val, by omega⟩ : Fin 256))
    (ix2 (⟨512 * g.val + r.val, by omega⟩ : Fin 2048) (⟨128 + d.val, by omega⟩ : Fin 256)) rfl rfl d.isLt rfl rfl).trans ?_
  exact ((chain m c u g r S hS 2 (by decide) hN).congr (n' := 8448) (by norm_num) (fun _ => rfl) fun _ => rfl).quot (by decide) (⟨d.val, by omega⟩ : Fin 256) ⟨128 + d.val, by omega⟩ h1 b

end Cert.KernelIdeal.Value

end
-- ==== Proof.Ref.lean ====
/- The reference at an index: the values of a key head weighted by the normalised powers of two of the scores. Hand-written. -/
module

public import proofs.«01_k».proof.Proof.Gen.ReferenceIdeal.Read
public import proofs.«01_k».proof.Proof.Blocks

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read
open Cert.KernelIdeal.Step Cert.KernelIdeal.Value Cert.Online
open scoped BigOperators

/-- The reference's scores. -/
theorem score_ref (Q : Vec Ideal S16896x2048 .bf16) (K : Vec Ideal S2x8448x512 .bf16) (b : Fin 2) (h g : Fin 4) (q : Fin 8192)
    (κ : Fin 8448) (R : Fin 16384) (hR : R.val = b.val * 8192 + q.val) (C : Fin 16) (hC : C.val = h.val * 4 + g.val) :
    val_main_v9 (F := Ideal) Q K (ix5 b h g q κ) = scoreE Q K b R C κ.val := by
  unfold scoreE
  rw [val_main_v9_apply, val_main_v8_apply]
  refine Finset.sum_congr rfl fun e _ => ?_
  rw [val_main_v4_apply, val_main_v2_apply, val_main_v3_apply, val_main_v1_apply, val_main_v0_apply, mul_comm]
  refine congrArg₂ (· * ·) (congrArg Q ?_) (congrArg K ?_)
  · funext a
    fin_cases a
    · refine Fin.ext ?_
      simp [ix5, ix2]
      omega
    · refine Fin.ext ?_
      simp [ix5, ix2]
      omega
  · funext a
    fin_cases a
    · refine Fin.ext ?_
      simp [ix5, ix3]
      omega
    · refine Fin.ext ?_
      simp [ix5, ix3]
      omega
    · refine Fin.ext ?_
      simp [ix5, ix3]
      omega

/-- Where the queries and keys are real, so are the scores, -/
theorem score_real (Q : Vec Ideal S16896x2048 .bf16) (K : Vec Ideal S2x8448x512 .bf16) (hQ : ∀ i, Real' (Q i)) (hK : ∀ i, Real' (K i))
    (b : Fin 2) (R : Fin 16384) (C : Fin 16) (κ : ℕ) : Real' (scoreE Q K b R C κ) :=
  Real'.sum _ _ fun _ _ => (hQ _).mul (hK _)

/-- and their greatest. -/
theorem max_real (Q : Vec Ideal S16896x2048 .bf16) (K : Vec Ideal S2x8448x512 .bf16) (hQ : ∀ i, Real' (Q i)) (hK : ∀ i, Real' (K i))
    (i : S2x4x4x8192.Idx) : Real' (val_main_v10 (F := Ideal) Q K i) := by
  have h9 : ∀ i, Real' (val_main_v9 (F := Ideal) Q K i) := fun i => by
    rw [val_main_v9_apply, val_main_v8_apply]
    refine Real'.sum _ _ fun e _ => ?_
    rw [val_main_v4_apply, val_main_v2_apply, val_main_v3_apply, val_main_v1_apply, val_main_v0_apply]
    exact (hK _).mul (hQ _)
  unfold val_main_v10
  generalize val_main_v9 (F := Ideal) Q K = x at h9
  have e : val_main_cst (F := Ideal) (Shape.Idx.first h_S_) = (⊥ : EReal) := by
    show Ideal.ofBits FTy.f32 0xFF800000#32 = ⊥
    simp [Ideal.ofBits, Ideal.ieee]
  have hr : S2x4x4x8192x8448.Reduces [4] S2x4x4x8192 := by decide
  obtain ⟨a, ha⟩ := Real'.fold (Finset.univ : Finset (Fin 8448)) (x ∘ hr.lift i) ⟨⟨0, by decide⟩, Finset.mem_univ _⟩
    fun k _ => h9 _
  refine ⟨a, (Host.reduce_eq_fold_single (max : EReal → EReal → EReal) x _
    reducesTo_S2x4x4x8192x8448_S2x4x4x8192_d4 hr h_S_ i).trans ?_⟩
  rw [e]
  exact ha

/-- The reference at row `q` of batch `b`, head `g` of key head `h`, lane `d`. -/
theorem ref_read (Q : Vec Ideal S16896x2048 .bf16) (K : Vec Ideal S2x8448x512 .bf16) (W : Vec Ideal S2x8448x1024 .bf16)
    (hQ : ∀ i, Real' (Q i)) (hK : ∀ i, Real' (K i)) (b : Fin 2) (h g : Fin 4) (q : Fin 8192) (d : Fin 128)
    (R : Fin 16384) (hR : R.val = b.val * 8192 + q.val) (C : Fin 16) (hC : C.val = h.val * 4 + g.val)
    (S : ℕ → ℝ) (hS : ∀ κ, scoreE Q K b R C κ = (S κ : EReal)) (y : Fin 2048) (hy : y.val = C.val * 128 + d.val) :
    ∃ x : ℝ, val_main_v23 (F := Ideal) Q K W (ix2 R y)
      = ∑ κ ∈ Finset.range 8448, valE W b h κ ⟨d.val, by omega⟩
          * Ideal.div (w (S κ - x) : EReal) (∑ κ' ∈ Finset.range 8448, (w (S κ' - x) : EReal)) := by
  obtain ⟨x, hx⟩ := max_real Q K hQ hK (ix4 b h g q)
  refine ⟨x, ?_⟩
  have h15 : ∀ κ : Fin 8448, val_main_v15 (F := Ideal) Q K (ix5 b h g q κ) = (w (S κ.val - x) : EReal) := fun κ => by
    rw [val_main_v15_apply, val_main_v14_apply, val_main_cst_0_apply, val_main_v13_apply, val_main_v12_apply,
      val_main_v11_apply, score_ref Q K b h g q κ R hR C hC, hS]
    have e : idx_main_v11 (idx_main_v12 (ix5 b h g q κ)) = ix4 b h g q := by
      funext a; fin_cases a <;> rfl
    rw [e, hx]
    have e2 : FloatOps.ofBits (F := Ideal) .f32 0x40000000#32 = ((2 : ℝ) : EReal) := by
      show Ideal.ofBits FTy.f32 0x40000000#32 = _
      simp [Ideal.ofBits, Ideal.ieee]
      rw [← EReal.coe_mul]
      norm_num
    rw [e2]
    show Ideal.pow ((2 : ℝ) : EReal) ((S κ.val : EReal) - (x : EReal)) = _
    rw [← EReal.coe_sub]
    rfl
  have h16 : val_main_v16 (F := Ideal) Q K (ix4 b h g q) = ∑ κ' ∈ Finset.range 8448, (w (S κ' - x) : EReal) := by
    rw [val_main_v16_apply, val_main_cst_1_apply, Finset.sum_range]
    have e0 : FloatOps.ofBits (F := Ideal) .f32 0x00000000#32 = (0 : EReal) := Ideal.ofBits_zero_f32
    rw [e0, zero_add]
    refine Finset.sum_congr rfl fun κ _ => ?_
    have e : idx_main_v16 (ix4 b h g q) κ = ix5 b h g q κ := by
      funext a; fin_cases a <;> rfl
    rw [e, h15]
  rw [val_main_v23_apply, val_main_v22_apply, val_main_v21_apply]
  show val_main_v20 (F := Ideal) Q K W _ = _
  have e : idx_main_v21 (idx_main_v22 (ix2 R y)) = ix5 b h d g q := by
    funext a
    fin_cases a <;> refine Fin.ext ?_ <;> simp [ix5, ix2] <;> omega
  rw [e, val_main_v20_apply, Finset.sum_range]
  refine Finset.sum_congr rfl fun κ _ => congrArg₂ (· * ·) ?_ ?_
  · rw [val_main_v7_apply, val_main_v6_apply, val_main_v5_apply]
    refine congrArg W ?_
    funext a
    fin_cases a <;> refine Fin.ext ?_ <;> simp [ix5, ix3] <;> omega
  · have e : ridx_main_v20 (ix5 b h d g q) κ = ix5 b h g q κ := by
      funext a; fin_cases a <;> rfl
    have e' : idx_main_v17 (idx_main_v18 (ix5 b h g q κ)) = ix4 b h g q := by
      funext a; fin_cases a <;> rfl
    rw [e, val_main_v19_apply, val_main_v18_apply, val_main_v17_apply, e', h15, h16]
    rfl

end Cert.ReferenceIdeal.Value

end
-- ==== Proof.Final.lean ====
/- The array the run leaves is the reference's. Hand-written. -/
module

public import proofs.«01_k».proof.Proof.Chain
public import proofs.«01_k».proof.Proof.Ref

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Step Cert.Online

variable (m : (ℓ : Loc nD τ sig) → Buf (Elt Ideal) ℓ)

/-- What grid point `t` leaves at `(r, s)` of its output block is the reference there. -/
theorem out_ref (c : Dev nD) (hQ : ∀ i, Real' (m ((c : Thread nD τ).loc main_arg0) i)) (hK : ∀ i, Real' (m ((c : Thread nD τ).loc main_arg1) i))
    (h1 : ∀ (b : Fin 2) (h : Fin 4) (κ : ℕ) (d : Fin 128), valuesOf m c b h κ ⟨128 + d.val, by omega⟩ = 1)
    (t : Fin cfg0.N) (ht : t.val % 3 = 2) (r s : Fin 512) (R : Fin 16384) (y : Fin 2048)
    (hR : R.val = (t.val / 192 * 16 + t.val / 3 % 16) * 512 + r.val) (hy : y.val = t.val / 48 % 4 * 512 + s.val) :
    (outsAt0 m c t.val t.isLt).1 (ix2 r s)
      = Cert.ReferenceIdeal.Read.val_main_v23 (F := Ideal) (m ((c : Thread nD τ).loc main_arg0)) (m ((c : Thread nD τ).loc main_arg1))
          (m ((c : Thread nD τ).loc main_arg2)) (ix2 R y) := by
  have hN : t.val < 384 := lt_of_lt_of_eq t.isLt N_0
  obtain ⟨u, hu⟩ : ∃ u : Fin 128, u.val = t.val / 3 := ⟨⟨t.val / 3, by omega⟩, rfl⟩
  obtain ⟨g, hg⟩ : ∃ g : Fin 4, g.val = s.val / 128 := ⟨⟨s.val / 128, by omega⟩, rfl⟩
  obtain ⟨d, hd⟩ : ∃ d : Fin 128, d.val = s.val % 128 := ⟨⟨s.val % 128, by omega⟩, rfl⟩
  have hb : (bOf u).val = u.val / 64 := rfl
  have hh : (hOf u).val = u.val / 16 % 4 := rfl
  have hc : (cOf u g).val = u.val / 16 % 4 * 4 + g.val := rfl
  have hr : (rOf u r).val = (u.val / 64 * 16 + u.val % 16) * 512 + r.val := rfl
  obtain rfl : R = rOf u r := Fin.ext (by omega)
  obtain ⟨S, hS⟩ : ∃ S : ℕ → ℝ, ∀ κ, scoresOf m c (bOf u) (rOf u r) (cOf u g) κ = (S κ : EReal) :=
    ⟨_, fun κ => (Cert.ReferenceIdeal.Value.score_real _ _ hQ hK (bOf u) (rOf u r) (cOf u g) κ).choose_spec⟩
  obtain ⟨x, hx⟩ := Cert.ReferenceIdeal.Value.ref_read _ _ (m ((c : Thread nD τ).loc main_arg2)) hQ hK (bOf u) (hOf u) g
    ⟨u.val % 16 * 512 + r.val, by omega⟩ d (rOf u r) (by simp only [hb, hr]; omega) (cOf u g) (by omega) S hS y (by omega)
  rw [hx]
  have ho := out_read m c u g r d S hS (fun κ _ => h1 _ _ κ d) x (lt_of_lt_of_eq (by omega) N_0.symm)
  rw [← ho]
  have e1 : ∀ (n : ℕ) (h : n < cfg0.N), n = t.val → (outsAt0 m c n h).1 = (outsAt0 m c t.val t.isLt).1 := fun n h e => by
    subst e; rfl
  rw [e1 (3 * u.val + 2) _ (by omega)]
  refine congrArg (fun s' : Fin 512 => (outsAt0 m c t.val t.isLt).1 (ix2 r s')) (Fin.ext ?_)
  show s.val = 128 * g.val + d.val
  omega

/-- The array the run leaves. -/
theorem final (c : Dev nD) (hQ : ∀ i, Real' (m ((c : Thread nD τ).loc main_arg0) i)) (hK : ∀ i, Real' (m ((c : Thread nD τ).loc main_arg1) i))
    (h1 : ∀ (b : Fin 2) (h : Fin 4) (κ : ℕ) (d : Fin 128), valuesOf m c b h κ ⟨128 + d.val, by omega⟩ = 1) :
    (dats m 0 c).arrAt 3 cfg0.N
      = Cert.ReferenceIdeal.Read.val_main_v23 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  have ht : t.val % 3 = 2 := (flush0_3 t).mp hf
  have hN : t.val < 384 := lt_of_lt_of_eq t.isLt N_0
  blk_simp
  rw [after0_3]
  obtain ⟨r, hr⟩ : ∃ r : Fin 512, r = y 0 := ⟨_, rfl⟩
  obtain ⟨s, hs⟩ : ∃ s : Fin 512, s = y 1 := ⟨_, rfl⟩
  have ey : y = ix2 r s := by
    funext a; fin_cases a
    · exact hr.symm
    · exact hs.symm
  rw [ey]
  refine (out_ref m c hQ hK h1 t ht r s ⟨(t.val / 192 * 16 + t.val / 3 % 16) * 512 + r.val, by omega⟩
    ⟨t.val / 48 % 4 * 512 + s.val, by omega⟩ rfl rfl).trans ?_
  blk_ext [idx t]

end Cert.KernelIdeal.Value

end
-- ==== Proof.Pre.lean ====
/- What the precondition says of the arguments: the queries and keys are real numbers and the last 128 value columns of
   each key head are ones. Hand-written. -/
module

public import proofs.«01_k».proof.Pre_finite_ones
public import proofs.«01_k».proof.Proof.Blocks
public import Idealize.ShloMosaic.PureOps.Ideal.Laws

@[expose] public section

set_option maxRecDepth 16384

noncomputable section

open Idealize.ShloMosaic

namespace Cert.Pre_finite_ones

open Cert.KernelIdeal.Step Cert.KernelIdeal.Value

/-- The predicate's side conditions hold. -/
instance facts : Facts where
  shapeCasts_S2x8448x1024_S2x8448x4x256 := by decide
  slices_S2x8448x4x256_S2x8448x4x128_0_0_0_128 := by decide
  bitsLt_bf16_f32 := by decide
  bcast_S_S16896x2048 := by decide
  bcast_S_S2x8448x512 := by decide
  bcast_S_S2x8448x4x128 := by decide

/-- An extended real of absolute value below `+∞` is a real. -/
theorem real_of_abs_lt (x : EReal) (h : max x (-x) < ⊤) : Real' x := by
  induction x using EReal.rec with
  | bot => simp at h
  | coe a => exact ⟨a, rfl⟩
  | top => simp at h

variable (Q : Vec Ideal S16896x2048 .bf16) (K : Vec Ideal S2x8448x512 .bf16) (W : Vec Ideal S2x8448x1024 .bf16)

/-- A comparison bit that is set. -/
theorem of_bit (p : Prop) [Decidable p] (h : BitVec.ofBool (decide p) = 1#1) : p := by
  by_contra hp
  simp [hp] at h

/-- The queries are reals. -/
theorem queries (h : (fn (F := Ideal) Q K W).1 = fun _ => 1#1) (i : S16896x2048.Idx) : Real' (Q i) := by
  have e := congrFun h i
  refine real_of_abs_lt _ ?_
  have e' : Ideal.ofBits FTy.f32 0x7F800000#32 = (⊤ : EReal) := by simp [Ideal.ofBits, Ideal.ieee]
  rw [← e']
  exact of_bit _ e

/-- The keys are reals. -/
theorem keys (h : (fn (F := Ideal) Q K W).2.1 = fun _ => 1#1) (i : S2x8448x512.Idx) : Real' (K i) := by
  have e := congrFun h i
  refine real_of_abs_lt _ ?_
  have e' : Ideal.ofBits FTy.f32 0x7F800000#32 = (⊤ : EReal) := by simp [Ideal.ofBits, Ideal.ieee]
  rw [← e']
  exact of_bit _ e

/-- The last 128 value columns of each head are ones. -/
theorem ones (h : (fn (F := Ideal) Q K W).2.2 = fun _ => 1#1) (b : Fin 2) (g : Fin 4) (κ : ℕ) (d : Fin 128) :
    valE W b g κ ⟨128 + d.val, by omega⟩ = 1 := by
  have e := congrFun h (ix4 b (⟨κ % 8448, Nat.mod_lt _ (by decide)⟩ : Fin 8448) g d)
  have e' : Ideal.ofBits FTy.f32 0x3F800000#32 = (1 : EReal) := by
    simp [Ideal.ofBits, Ideal.ieee]
    rw [← EReal.coe_mul]
    norm_num
  rw [← e']
  refine Eq.trans ?_ (of_bit _ e)
  unfold valE
  pointwise
  blk_ext

end Cert.Pre_finite_ones

end
-- ==== Proof.InProj.lean ====
/- The input projection: what a grid point leaves in its output block, and the array the run leaves against the
   reference. Hand-written. -/
module

public import proofs.«01_k».proof.Proof.Gen.Kernel2Ideal.Frame
public import proofs.«01_k».proof.Proof.Gen.Reference2Ideal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference2Ideal.Value

open Cert.Reference2Ideal Cert.Reference2Ideal.Gen Cert.Reference2Ideal.Read
open scoped BigOperators

/-- The weights' column that a result column is made of. -/
def src (C : Fin 8192) : Fin 8192 :=
  if C.val < 5120 then C else if C.val < 6144 then ⟨(C.val + 2048) % 8192, Nat.mod_lt _ (by decide)⟩ else ⟨C.val - 1024, by omega⟩

/-- The three column groups joined, at an index. -/
theorem join_read (x6 : Vec Ideal S16896x5120 .f32) (x8 : Vec Ideal S16896x1024 .f32) (x7 : Vec Ideal S16896x2048 .f32)
    (R : Fin 16896) (C : Fin 8192) :
    concatenate S16896x8192 1 [⟨S16896x5120, x6⟩, ⟨S16896x1024, x8⟩, ⟨S16896x2048, x7⟩]
        concatenates_S16896x5120_S16896x1024_S16896x2048_S16896x8192_d1 (ix2 R C)
      = if h : C.val < 5120 then x6 (ix2 R ⟨C.val, h⟩)
        else if h' : C.val - 5120 < 1024 then x8 (ix2 R ⟨C.val - 5120, h'⟩)
        else x7 (ix2 R ⟨C.val - 5120 - 1024, by omega⟩) := by
  pointwise []

/-- The reference at an index. -/
theorem ref_read (A : Vec Ideal S16896x4096 .bf16) (W : Vec Ideal S4x4096x8192 .f32) (S : Vec Ideal S1x8192 .f32)
    (R : Fin 16896) (C : Fin 8192) :
    val_main_v10 (F := Ideal) A W S (ix2 R C)
      = ∑ k : Fin 4096, A (ix2 R k) * (W (ix3 0 k (src C)) * S (ix2 0 (src C))) := by
  have h5 : ∀ D : Fin 8192, val_main_v5 (F := Ideal) A W S (ix2 R D)
      = ∑ k : Fin 4096, A (ix2 R k) * (W (ix3 0 k D) * S (ix2 0 D)) := fun D => by
    rw [val_main_v5_apply]
    refine Finset.sum_congr rfl fun k _ => ?_
    rw [val_main_v0_apply, val_main_v4_apply, val_main_v3_apply, val_main_v2_apply, val_main_v1_apply]
    refine congrArg₂ (· * ·) (congrArg A ?_) (congrArg₂ (· * ·) (congrArg W ?_) (congrArg S ?_))
    · funext a
      fin_cases a <;> rfl
    · funext a
      fin_cases a <;> refine Fin.ext ?_ <;> simp [ix2, ix3] <;> omega
    · funext a
      fin_cases a <;> rfl
  rw [val_main_v10_apply]
  unfold val_main_v9
  refine Eq.trans (join_read _ _ _ R C) ?_
  rw [← h5]
  by_cases h : C.val < 5120
  · rw [dif_pos h, val_main_v6_apply]
    refine congrArg _ (funext fun a => ?_)
    fin_cases a <;> refine Fin.ext ?_ <;> simp [ix2, src, h]
  · rw [dif_neg h]
    by_cases h' : C.val - 5120 < 1024
    · rw [dif_pos h', val_main_v8_apply]
      refine congrArg _ (funext fun a => ?_)
      fin_cases a <;> refine Fin.ext ?_ <;> simp [ix2, src, h, show C.val < 6144 by omega] <;> omega
    · rw [dif_neg h', val_main_v7_apply]
      refine congrArg _ (funext fun a => ?_)
      fin_cases a <;> refine Fin.ext ?_ <;> simp [ix2, src, h, show ¬C.val < 6144 by omega] <;> omega

end Cert.Reference2Ideal.Value

namespace Cert.Kernel2Ideal.Value

open Cert.Kernel2Ideal Cert.Kernel2Ideal.Gen
open scoped BigOperators

variable (m : (ℓ : Loc nD τ sig) → Buf (Elt Ideal) ℓ)

/-- The weights' column block that an output column block is made of. -/
def colBlock (q : ℕ) : ℕ := if q < 10 then q else if q < 12 then q + 4 else q - 2

/-- The block each window takes at a grid point. -/
theorem idx : ∀ t : Fin grid0.N,
    win0_0.index t = ![t.val % 11, 0]
    ∧ win0_1.index t = ![0, 0, colBlock (t.val / 11)]
    ∧ win0_2.index t = ![0, colBlock (t.val / 11)]
    ∧ win0_3.index t = ![t.val % 11, t.val / 11] := by
  decide +kernel

theorem colBlock_lt (q : ℕ) (h : q < 16) : colBlock q < 16 := by
  unfold colBlock; split_ifs <;> omega

/-- The grid point before. -/
abbrev prevLt (t : Fin cfg0.N) : t.val - 1 < cfg0.N := lt_of_le_of_lt (Nat.sub_le _ _) t.isLt

/-- The scaled weights' scratch after the first point of a column block. -/
theorem w_first (c : Dev nD) (t : Fin cfg0.N) (h0 : t.val % 11 = 0) :
    (outsAt0 m c t.val t.isLt).2 = k0_pay1 (iblk m c 1 t) (iblk m c 2 t) := by
  rw [outsAt0_A m c t h0]
  dsimp only
  frame_out

/-- The output block after the first point of a column block. -/
theorem out_first (c : Dev nD) (t : Fin cfg0.N) (h0 : t.val % 11 = 0) :
    (outsAt0 m c t.val t.isLt).1 = k0_pay2 (iblk m c 0 t) (outsAt0 m c t.val t.isLt).2 := by
  rw [w_first m c t h0, outsAt0_A m c t h0]
  dsimp only
  frame_out

/-- Later points keep the scaled weights. -/
theorem w_step (c : Dev nD) (t : Fin cfg0.N) (h0 : ¬t.val % 11 = 0) :
    (outsAt0 m c t.val t.isLt).2 = (outsAt0 m c (t.val - 1) (prevLt t)).2 := by
  rw [outsAt0_B m c t h0]
  rfl

/-- The output block after a later point. -/
theorem out_step (c : Dev nD) (t : Fin cfg0.N) (h0 : ¬t.val % 11 = 0) :
    (outsAt0 m c t.val t.isLt).1 = k0_pay2 (iblk m c 0 t) (outsAt0 m c t.val t.isLt).2 := by
  rw [w_step m c t h0, outsAt0_B m c t h0]
  dsimp only
  frame_out
  simp only [read_unread_whole]

/-- The output block after any point. -/
theorem out_any (c : Dev nD) (t : Fin cfg0.N) :
    (outsAt0 m c t.val t.isLt).1 = k0_pay2 (iblk m c 0 t) (outsAt0 m c t.val t.isLt).2 := by
  by_cases h0 : t.val % 11 = 0
  · exact out_first m c t h0
  · exact out_step m c t h0

/-- Column `l` of the weights' block for output column block `q`. -/
def colOf (q : ℕ) (l : Fin 512) : Fin 8192 := ⟨(colBlock q * 512 + l.val) % 8192, Nat.mod_lt _ (by decide)⟩

/-- A weight times its column's scale. -/
def scaled (W : Vec Ideal S4x4096x8192 .f32) (S : Vec Ideal S1x8192 .f32) (k : Fin 4096) (C : Fin 8192) : EReal :=
  W (ix3 0 k C) * S (ix2 0 C)

/-- The scaled weights that a point makes: those of its column block. -/
theorem load (c : Dev nD) (t : Fin cfg0.N) (k : Fin 4096) (l : Fin 512) :
    k0_pay1 (iblk m c 1 t) (iblk m c 2 t) (ix2 k l)
      = scaled (m ((c : Thread nD τ).loc main_arg1)) (m ((c : Thread nD τ).loc main_arg2)) k (colOf (t.val / 11) l) := by
  have hN : t.val < 176 := lt_of_lt_of_eq t.isLt N_0
  have hb := colBlock_lt (t.val / 11) (by omega)
  have hc : (colOf (t.val / 11) l).val = colBlock (t.val / 11) * 512 + l.val := Nat.mod_eq_of_lt (by omega)
  unfold scaled
  pointwise [k0_pay1]
  refine congrArg₂ (· * ·) ?_ ?_
  · blk_ext [iblk, V, idx t] <;> omega
  · blk_ext [iblk, V, idx t] <;> omega

/-- The scratch holds the scaled weights of the point's column block. -/
theorem carried (c : Dev nD) : ∀ (n : ℕ) (hn : n < cfg0.N) (k : Fin 4096) (l : Fin 512),
    (outsAt0 m c n hn).2 (ix2 k l)
      = scaled (m ((c : Thread nD τ).loc main_arg1)) (m ((c : Thread nD τ).loc main_arg2)) k (colOf (n / 11) l) := by
  intro n
  induction n with
  | zero =>
    intro hn k l
    exact (congrFun (w_first m c ⟨0, hn⟩ rfl) _).trans (load m c ⟨0, hn⟩ k l)
  | succ n ih =>
    intro hn k l
    by_cases h : (n + 1) % 11 = 0
    · exact (congrFun (w_first m c ⟨n + 1, hn⟩ h) _).trans (load m c ⟨n + 1, hn⟩ k l)
    · have i1 := ih (by omega) k l
      rw [show (n + 1) / 11 = n / 11 by omega]
      exact (congrFun (w_step m c ⟨n + 1, hn⟩ h) _).trans i1

/-- The output block at an index, over the blocks it reads. -/
theorem pay_read (a : Vec Ideal S1536x4096 .bf16) (b : Vec Ideal S4096x512 .bf16) (r : Fin 1536) (l : Fin 512) :
    k0_pay2 a b (ix2 r l) = ∑ k : Fin 4096, a (ix2 r k) * b (ix2 k l) := by
  pointwise [k0_pay2]

/-- The weights' column of a result column, block by block. -/
theorem src_col (q : ℕ) (hq : q < 16) (l : Fin 512) (C : Fin 8192) (hC : C.val = q * 512 + l.val) :
    Cert.Reference2Ideal.Value.src C = colOf q l := by
  refine Fin.ext ?_
  have hb := colBlock_lt q hq
  have hc : (colOf q l).val = colBlock q * 512 + l.val := Nat.mod_eq_of_lt (by omega)
  rw [hc]
  unfold Cert.Reference2Ideal.Value.src colBlock
  split_ifs <;> first | omega | (dsimp only; omega)

/-- The run leaves its result array as the grid's points fill it, and its arguments as they were. -/
theorem run_out (g : Dev nD → PrngReg) :
    θ_run defs (onTc (τ := τ) (main (F := Ideal))) ⟨m, fun _ => 0, g⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1 3, ?_, ?_, ?_⟩) (run_main m g)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

/-- The array the run leaves is the reference's. -/
theorem final (c : Dev nD) :
    (dats m 0 c).arrAt 3 cfg0.N
      = Cert.Reference2Ideal.Read.val_main_v10 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  have hN : t.val < 176 := lt_of_lt_of_eq t.isLt N_0
  blk_simp
  rw [after0_3, out_any]
  obtain ⟨r, hr⟩ : ∃ r : Fin 1536, r = y 0 := ⟨_, rfl⟩
  obtain ⟨l, hl⟩ : ∃ l : Fin 512, l = y 1 := ⟨_, rfl⟩
  have ey : y = ix2 r l := by
    funext a; fin_cases a
    · exact hr.symm
    · exact hl.symm
  rw [ey, pay_read]
  have ha : ∀ k : Fin 4096, iblk m c 0 t (ix2 r k)
      = (m ((c : Thread nD τ).loc main_arg0)) (ix2 (⟨t.val % 11 * 1536 + r.val, by omega⟩ : Fin 16896) k) := fun k => by
    blk_ext [iblk, V, idx t]
  have hs := src_col (t.val / 11) (by omega) l (⟨t.val / 11 * 512 + l.val, by omega⟩ : Fin 8192) rfl
  simp only [ha, carried m c t.val t.isLt _ l]
  rw [← hs]
  unfold scaled
  refine (Cert.Reference2Ideal.Value.ref_read _ _ _ _ _).symm.trans ?_
  blk_ext [idx t] <;> omega

end Cert.Kernel2Ideal.Value

end
-- ==== Proof.Swiglu.lean ====
/- The gated feed-forward's first half: what a grid point leaves in its output block, and the array the run leaves against
   the reference. Hand-written. -/
module

public import proofs.«01_k».proof.Proof.Gen.Kernel3Ideal.Value
public import proofs.«01_k».proof.Proof.Gen.Reference3Ideal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen
open scoped BigOperators

variable (m : (ℓ : Loc nD τ sig) → Buf (Elt Ideal) ℓ)

/-- The block each window takes at a grid point. -/
theorem idx : ∀ t : Fin grid0.N,
    win0_0.index t = ![t.val % 11, 0]
    ∧ win0_1.index t = ![0, 0, t.val / 11]
    ∧ win0_2.index t = ![0, 0, t.val / 11]
    ∧ win0_3.index t = ![t.val % 11, t.val / 11] := by
  decide +kernel

/-- The grid point before. -/
abbrev prevLt (t : Fin cfg0.N) : t.val - 1 < cfg0.N := lt_of_le_of_lt (Nat.sub_le _ _) t.isLt

/-- The first weights' scratch after the first point of a column block, -/
theorem w1_first (c : Dev nD) (t : Fin cfg0.N) (h0 : t.val % 11 = 0) :
    (outsAt0 m c t.val t.isLt).2.1 = k0_pay1 (iblk m c 1 t) := by
  rw [outsAt0_A m c t h0]
  dsimp only
  frame_out

/-- and the second's. -/
theorem w3_first (c : Dev nD) (t : Fin cfg0.N) (h0 : t.val % 11 = 0) :
    (outsAt0 m c t.val t.isLt).2.2 = k0_pay2 (iblk m c 2 t) := by
  rw [outsAt0_A m c t h0]
  dsimp only
  frame_out

/-- The output block after the first point of a column block. -/
theorem out_first (c : Dev nD) (t : Fin cfg0.N) (h0 : t.val % 11 = 0) :
    (outsAt0 m c t.val t.isLt).1 = k0_pay3 (iblk m c 0 t) (outsAt0 m c t.val t.isLt).2.1 (outsAt0 m c t.val t.isLt).2.2 := by
  rw [w1_first m c t h0, w3_first m c t h0, outsAt0_A m c t h0]
  dsimp only
  frame_out

/-- Later points keep the first weights, -/
theorem w1_step (c : Dev nD) (t : Fin cfg0.N) (h0 : ¬t.val % 11 = 0) :
    (outsAt0 m c t.val t.isLt).2.1 = (outsAt0 m c (t.val - 1) (prevLt t)).2.1 := by
  rw [outsAt0_B m c t h0]
  rfl

/-- and the second. -/
theorem w3_step (c : Dev nD) (t : Fin cfg0.N) (h0 : ¬t.val % 11 = 0) :
    (outsAt0 m c t.val t.isLt).2.2 = (outsAt0 m c (t.val - 1) (prevLt t)).2.2 := by
  rw [outsAt0_B m c t h0]
  rfl

/-- The output block after a later point. -/
theorem out_step (c : Dev nD) (t : Fin cfg0.N) (h0 : ¬t.val % 11 = 0) :
    (outsAt0 m c t.val t.isLt).1 = k0_pay3 (iblk m c 0 t) (outsAt0 m c t.val t.isLt).2.1 (outsAt0 m c t.val t.isLt).2.2 := by
  rw [w1_step m c t h0, w3_step m c t h0, outsAt0_B m c t h0]
  dsimp only
  frame_out
  simp only [read_unread_whole]

/-- The output block after any point. -/
theorem out_any (c : Dev nD) (t : Fin cfg0.N) :
    (outsAt0 m c t.val t.isLt).1 = k0_pay3 (iblk m c 0 t) (outsAt0 m c t.val t.isLt).2.1 (outsAt0 m c t.val t.isLt).2.2 := by
  by_cases h0 : t.val % 11 = 0
  · exact out_first m c t h0
  · exact out_step m c t h0

/-- Column `l` of column block `q`. -/
def colOf (q : ℕ) (l : Fin 256) : Fin 8192 := ⟨(q * 256 + l.val) % 8192, Nat.mod_lt _ (by decide)⟩

/-- The weights that a point loads, cast: those of its column block; the first, -/
theorem load1 (c : Dev nD) (t : Fin cfg0.N) (k : Fin 4096) (l : Fin 256) :
    k0_pay1 (iblk m c 1 t) (ix2 k l) = (m ((c : Thread nD τ).loc main_arg1)) (ix3 0 k (colOf (t.val / 11) l)) := by
  have hN : t.val < 352 := lt_of_lt_of_eq t.isLt N_0
  have hc : (colOf (t.val / 11) l).val = t.val / 11 * 256 + l.val := Nat.mod_eq_of_lt (by omega)
  pointwise [k0_pay1]
  blk_ext [iblk, V, idx t] <;> omega

/-- and the second. -/
theorem load3 (c : Dev nD) (t : Fin cfg0.N) (k : Fin 4096) (l : Fin 256) :
    k0_pay2 (iblk m c 2 t) (ix2 k l) = (m ((c : Thread nD τ).loc main_arg2)) (ix3 0 k (colOf (t.val / 11) l)) := by
  have hN : t.val < 352 := lt_of_lt_of_eq t.isLt N_0
  have hc : (colOf (t.val / 11) l).val = t.val / 11 * 256 + l.val := Nat.mod_eq_of_lt (by omega)
  pointwise [k0_pay2]
  blk_ext [iblk, V, idx t] <;> omega

/-- The scratches hold the weights of the point's column block. -/
theorem carried (c : Dev nD) : ∀ (n : ℕ) (hn : n < cfg0.N) (k : Fin 4096) (l : Fin 256),
    (outsAt0 m c n hn).2.1 (ix2 k l) = (m ((c : Thread nD τ).loc main_arg1)) (ix3 0 k (colOf (n / 11) l))
    ∧ (outsAt0 m c n hn).2.2 (ix2 k l) = (m ((c : Thread nD τ).loc main_arg2)) (ix3 0 k (colOf (n / 11) l)) := by
  intro n
  induction n with
  | zero =>
    intro hn k l
    exact ⟨(congrFun (w1_first m c ⟨0, hn⟩ rfl) _).trans (load1 m c ⟨0, hn⟩ k l),
      (congrFun (w3_first m c ⟨0, hn⟩ rfl) _).trans (load3 m c ⟨0, hn⟩ k l)⟩
  | succ n ih =>
    intro hn k l
    by_cases h : (n + 1) % 11 = 0
    · exact ⟨(congrFun (w1_first m c ⟨n + 1, hn⟩ h) _).trans (load1 m c ⟨n + 1, hn⟩ k l),
        (congrFun (w3_first m c ⟨n + 1, hn⟩ h) _).trans (load3 m c ⟨n + 1, hn⟩ k l)⟩
    · obtain ⟨i1, i3⟩ := ih (by omega) k l
      rw [show (n + 1) / 11 = n / 11 by omega]
      exact ⟨(congrFun (w1_step m c ⟨n + 1, hn⟩ h) _).trans i1, (congrFun (w3_step m c ⟨n + 1, hn⟩ h) _).trans i3⟩

/-- The output block at an index, over the blocks it reads. -/
theorem pay_read (a : Vec Ideal S1536x4096 .bf16) (b1 b3 : Vec Ideal S4096x256 .bf16) (r : Fin 1536) (l : Fin 256) :
    k0_pay3 a b1 b3 (ix2 r l)
      = (∑ k : Fin 4096, a (ix2 r k) * b1 (ix2 k l)) * Ideal.logistic (∑ k : Fin 4096, a (ix2 r k) * b1 (ix2 k l))
        * ∑ k : Fin 4096, a (ix2 r k) * b3 (ix2 k l) := by
  pointwise [k0_pay3]

end Cert.Kernel3Ideal.Value

namespace Cert.Reference3Ideal.Value

open Cert.Reference3Ideal Cert.Reference3Ideal.Gen Cert.Reference3Ideal.Read
open scoped BigOperators

/-- The reference at an index. -/
theorem ref_read (A : Vec Ideal S16896x4096 .bf16) (W1 W3 : Vec Ideal S2x4096x8192 .f32) (R : Fin 16896) (C : Fin 8192) :
    val_main_v9 (F := Ideal) A W1 W3 (ix2 R C)
      = (∑ k : Fin 4096, A (ix2 R k) * W1 (ix3 0 k C)) * Ideal.logistic (∑ k : Fin 4096, A (ix2 R k) * W1 (ix3 0 k C))
        * ∑ k : Fin 4096, A (ix2 R k) * W3 (ix3 0 k C) := by
  have e1 : FloatOps.ofBits (F := Ideal) .f32 0x3F800000#32 = (1 : EReal) := Ideal.ofBits_one_f32
  have h3 : val_main_v3 (F := Ideal) A W1 (ix2 R C) = ∑ k : Fin 4096, A (ix2 R k) * W1 (ix3 0 k C) := by
    rw [val_main_v3_apply]
    refine Finset.sum_congr rfl fun k _ => ?_
    rw [val_main_v0_apply, val_main_v2_apply, val_main_v1_apply]
    refine congrArg₂ (· * ·) (congrArg A ?_) (congrArg W1 ?_)
    · funext a
      fin_cases a <;> rfl
    · funext a
      fin_cases a <;> refine Fin.ext ?_ <;> simp [ix2, ix3] <;> omega
  have h7 : val_main_v7 (F := Ideal) A W3 (ix2 R C) = ∑ k : Fin 4096, A (ix2 R k) * W3 (ix3 0 k C) := by
    rw [val_main_v7_apply]
    refine Finset.sum_congr rfl fun k _ => ?_
    rw [val_main_v0_apply, val_main_v6_apply, val_main_v5_apply]
    refine congrArg₂ (· * ·) (congrArg A ?_) (congrArg W3 ?_)
    · funext a
      fin_cases a <;> rfl
    · funext a
      fin_cases a <;> refine Fin.ext ?_ <;> simp [ix2, ix3] <;> omega
  rw [val_main_v9_apply, val_main_v8_apply, val_main_v4_apply, val_main_call0_v5_apply, val_main_call0_v4_apply,
    val_main_call0_cst_0_apply, val_main_call0_v3_apply, val_main_call0_v2_apply, val_main_call0_cst_apply,
    val_main_call0_v1_apply, val_main_call0_v0_apply, h3, h7, e1]
  rfl

end Cert.Reference3Ideal.Value

namespace Cert.Kernel3Ideal.Value

open Cert.Kernel3Ideal Cert.Kernel3Ideal.Gen

variable (m : (ℓ : Loc nD τ sig) → Buf (Elt Ideal) ℓ)

/-- The array the run leaves is the reference's. -/
theorem final (c : Dev nD) :
    (dats m 0 c).arrAt 3 cfg0.N
      = Cert.Reference3Ideal.Read.val_main_v9 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  have hN : t.val < 352 := lt_of_lt_of_eq t.isLt N_0
  blk_simp
  rw [after0_3, out_any]
  obtain ⟨r, hr⟩ : ∃ r : Fin 1536, r = y 0 := ⟨_, rfl⟩
  obtain ⟨l, hl⟩ : ∃ l : Fin 256, l = y 1 := ⟨_, rfl⟩
  have ey : y = ix2 r l := by
    funext a; fin_cases a
    · exact hr.symm
    · exact hl.symm
  rw [ey, pay_read]
  have hc : (colOf (t.val / 11) l).val = t.val / 11 * 256 + l.val := Nat.mod_eq_of_lt (by omega)
  have ha : ∀ k : Fin 4096, iblk m c 0 t (ix2 r k)
      = (m ((c : Thread nD τ).loc main_arg0)) (ix2 (⟨t.val % 11 * 1536 + r.val, by omega⟩ : Fin 16896) k) := fun k => by
    blk_ext [iblk, V, idx t]
  simp only [ha, (carried m c t.val t.isLt _ l).1, (carried m c t.val t.isLt _ l).2]
  refine (Cert.Reference3Ideal.Value.ref_read _ _ _ _ _).symm.trans ?_
  blk_ext [idx t] <;> omega

end Cert.Kernel3Ideal.Value

end
-- ==== Proof.Residual.lean ====
/- The gated feed-forward's second half with the gated residual: what a grid point leaves in its output block, and the
   array the run leaves against the reference. Hand-written. -/
module

public import proofs.«01_k».proof.Proof.Gen.Kernel4Ideal.Value
public import proofs.«01_k».proof.Proof.Gen.Reference4Ideal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference4Ideal.Value

open Cert.Reference4Ideal Cert.Reference4Ideal.Gen Cert.Reference4Ideal.Read
open scoped BigOperators

/-- The gate's row for sequence `s`. -/
abbrev gateRow (s : Fin 8) : Fin 48 := ⟨s.val * 6 + 5, by omega⟩

/-- The sequence that a row belongs to; the context rows count as the third. -/
abbrev segOf (R : Fin 16896) : Fin 8 := ⟨R.val / 8192, by omega⟩

/-- The gates of the eight sequences, at an index. -/
theorem gate_read (G : Vec Ideal S48x1x4096 .f32) (s : Fin 8) (C : Fin 4096) :
    val_main_v7 (F := Ideal) G (ix2 s C) = G (ix3 (gateRow s) 0 C) := by
  rw [val_main_v7_apply, val_main_v6_apply, val_main_v5_apply]
  refine congrArg G (funext fun a => ?_)
  fin_cases a <;> refine Fin.ext ?_ <;> simp [ix2, ix3] <;> omega

/-- The three groups of rows joined, at an index. -/
theorem join_read (x y : Vec Ideal S8192x4096 .f32) (z : Vec Ideal S512x4096 .f32) (R : Fin 16896) (C : Fin 4096) :
    concatenate S16896x4096 0 [⟨S8192x4096, x⟩, ⟨S8192x4096, y⟩, ⟨S512x4096, z⟩]
        concatenates_S8192x4096_S8192x4096_S512x4096_S16896x4096_d0 (ix2 R C)
      = if h : R.val < 8192 then x (ix2 ⟨R.val, h⟩ C)
        else if h' : R.val - 8192 < 8192 then y (ix2 ⟨R.val - 8192, h'⟩ C)
        else z (ix2 ⟨R.val - 8192 - 8192, by omega⟩ C) := by
  pointwise []

/-- The gate of each row, at an index. -/
theorem rows_read (G : Vec Ideal S48x1x4096 .f32) (R : Fin 16896) (C : Fin 4096) :
    val_main_v14 (F := Ideal) G (ix2 R C) = G (ix3 (gateRow (segOf R)) 0 C) := by
  rw [← gate_read G (segOf R) C]
  unfold val_main_v14
  refine Eq.trans (join_read _ _ _ R C) ?_
  by_cases h : R.val < 8192
  · rw [dif_pos h, val_main_v9_apply, val_main_v8_apply]
    refine congrArg _ (funext fun a => ?_)
    fin_cases a <;> refine Fin.ext ?_ <;> simp [ix2] <;> omega
  · rw [dif_neg h]
    by_cases h' : R.val - 8192 < 8192
    · rw [dif_pos h', val_main_v11_apply, val_main_v10_apply]
      refine congrArg _ (funext fun a => ?_)
      fin_cases a <;> refine Fin.ext ?_ <;> simp [ix2] <;> omega
    · rw [dif_neg h', val_main_v13_apply, val_main_v12_apply]
      refine congrArg _ (funext fun a => ?_)
      fin_cases a <;> refine Fin.ext ?_ <;> simp [ix2] <;> omega

/-- The reference at an index. -/
theorem ref_read (A : Vec Ideal S16896x8192 .bf16) (W : Vec Ideal S2x8192x4096 .bf16) (X : Vec Ideal S16896x4096 .f32)
    (G : Vec Ideal S48x1x4096 .f32) (R : Fin 16896) (C : Fin 4096) :
    val_main_v16 (F := Ideal) A W X G (ix2 R C)
      = X (ix2 R C) + G (ix3 (gateRow (segOf R)) 0 C) * ∑ k : Fin 8192, A (ix2 R k) * W (ix3 0 k C) := by
  have h4 : val_main_v4 (F := Ideal) A W (ix2 R C) = ∑ k : Fin 8192, A (ix2 R k) * W (ix3 0 k C) := by
    rw [val_main_v4_apply]
    refine Finset.sum_congr rfl fun k _ => ?_
    rw [val_main_v0_apply, val_main_v3_apply, val_main_v2_apply, val_main_v1_apply]
    refine congrArg₂ (· * ·) (congrArg A ?_) (congrArg W ?_)
    · funext a
      fin_cases a <;> rfl
    · funext a
      fin_cases a <;> refine Fin.ext ?_ <;> simp [ix2, ix3] <;> omega
  rw [val_main_v16_apply, val_main_v15_apply, rows_read, h4]
  rfl

end Cert.Reference4Ideal.Value

namespace Cert.Kernel4Ideal.Value

open Cert.Kernel4Ideal Cert.Kernel4Ideal.Gen
open Cert.Reference4Ideal.Value (gateRow segOf ref_read)
open scoped BigOperators

variable (m : (ℓ : Loc nD τ sig) → Buf (Elt Ideal) ℓ)

/-- The block each window takes at a grid point. -/
theorem idx : ∀ t : Fin grid0.N,
    win0_0.index t = ![t.val / 8, 0]
    ∧ win0_1.index t = ![0, 0, t.val % 8]
    ∧ win0_2.index t = ![t.val / 8, t.val % 8]
    ∧ win0_3.index t = ![t.val / 8 / 16 * 6 + 5, 0, t.val % 8]
    ∧ win0_4.index t = ![t.val / 8, t.val % 8] := by
  decide +kernel

/-- The output block at an index, over the blocks it reads. -/
theorem pay_read (a : Vec Ideal S512x8192 .bf16) (w : Vec Ideal S1x8192x512 .bf16) (x : Vec Ideal S512x512 .f32)
    (g : Vec Ideal S1x1x512 .f32) (r l : Fin 512) :
    k0_pay1 a w x g (ix2 r l)
      = x (ix2 r l) + g (ix3 0 0 l) * ∑ k : Fin 8192, a (ix2 r k) * w (ix3 0 k l) := by
  pointwise [k0_pay1]

/-- What a grid point leaves in its output block. -/
theorem out_eq (c : Dev nD) (t : Fin cfg0.N) :
    (dats m 0 c).after 4 t = k0_pay1 (iblk m c 0 t) (iblk m c 1 t) (iblk m c 2 t) (iblk m c 3 t) := by
  rw [after0_4]
  frame_out

/-- The array the run leaves is the reference's. -/
theorem final (c : Dev nD) :
    (dats m 0 c).arrAt 4 cfg0.N
      = Cert.Reference4Ideal.Read.val_main_v16 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have hN : t.val < 264 := lt_of_lt_of_eq t.isLt N_0
  blk_simp
  rw [out_eq]
  obtain ⟨r, hr⟩ : ∃ r : Fin 512, r = y 0 := ⟨_, rfl⟩
  obtain ⟨l, hl⟩ : ∃ l : Fin 512, l = y 1 := ⟨_, rfl⟩
  have ey : y = ix2 r l := by
    funext a; fin_cases a
    · exact hr.symm
    · exact hl.symm
  rw [ey, pay_read]
  obtain ⟨R, hR⟩ : ∃ R : Fin 16896, R.val = t.val / 8 * 512 + r.val := ⟨⟨t.val / 8 * 512 + r.val, by omega⟩, rfl⟩
  obtain ⟨C, hC⟩ : ∃ C : Fin 4096, C.val = t.val % 8 * 512 + l.val := ⟨⟨t.val % 8 * 512 + l.val, by omega⟩, rfl⟩
  have ha : ∀ k : Fin 8192, iblk m c 0 t (ix2 r k) = (m ((c : Thread nD τ).loc main_arg0)) (ix2 R k) := fun k => by
    blk_ext [iblk, V, idx t] <;> omega
  have hw : ∀ k : Fin 8192, iblk m c 1 t (ix3 0 k l) = (m ((c : Thread nD τ).loc main_arg1)) (ix3 0 k C) := fun k => by
    blk_ext [iblk, V, idx t] <;> omega
  have hx : iblk m c 2 t (ix2 r l) = (m ((c : Thread nD τ).loc main_arg2)) (ix2 R C) := by
    blk_ext [iblk, V, idx t] <;> omega
  have hg : iblk m c 3 t (ix3 0 0 l) = (m ((c : Thread nD τ).loc main_arg3)) (ix3 (gateRow (segOf R)) 0 C) := by
    blk_ext [iblk, V, idx t] <;> omega
  simp only [ha, hw, hx, hg]
  refine (ref_read _ _ _ _ R C).symm.trans ?_
  blk_ext [idx t] <;> omega

end Cert.Kernel4Ideal.Value

end
-- ==== Proof.ResidualWide.lean ====
/- The output projection with the gated residual: what a grid point leaves in its output block, and the array the run
   leaves against the reference. Hand-written. -/
module

public import proofs.«01_k».proof.Proof.Gen.Kernel5Ideal.Value
public import proofs.«01_k».proof.Proof.Gen.Reference5Ideal.Read
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference5Ideal.Value

open Cert.Reference5Ideal Cert.Reference5Ideal.Gen Cert.Reference5Ideal.Read
open scoped BigOperators

/-- The gate's row for sequence `s`. -/
abbrev gateRow (s : Fin 8) : Fin 48 := ⟨s.val * 6 + 2, by omega⟩

/-- The sequence that a row belongs to; the context rows count as the third. -/
abbrev segOf (R : Fin 16896) : Fin 8 := ⟨R.val / 8192, by omega⟩

/-- The gates of the eight sequences, at an index. -/
theorem gate_read (G : Vec Ideal S48x1x4096 .f32) (s : Fin 8) (C : Fin 4096) :
    val_main_v7 (F := Ideal) G (ix2 s C) = G (ix3 (gateRow s) 0 C) := by
  rw [val_main_v7_apply, val_main_v6_apply, val_main_v5_apply]
  refine congrArg G (funext fun a => ?_)
  fin_cases a <;> refine Fin.ext ?_ <;> simp [ix2, ix3] <;> omega

/-- The three groups of rows joined, at an index. -/
theorem join_read (x y : Vec Ideal S8192x4096 .f32) (z : Vec Ideal S512x4096 .f32) (R : Fin 16896) (C : Fin 4096) :
    concatenate S16896x4096 0 [⟨S8192x4096, x⟩, ⟨S8192x4096, y⟩, ⟨S512x4096, z⟩]
        concatenates_S8192x4096_S8192x4096_S512x4096_S16896x4096_d0 (ix2 R C)
      = if h : R.val < 8192 then x (ix2 ⟨R.val, h⟩ C)
        else if h' : R.val - 8192 < 8192 then y (ix2 ⟨R.val - 8192, h'⟩ C)
        else z (ix2 ⟨R.val - 8192 - 8192, by omega⟩ C) := by
  pointwise []

/-- The gate of each row, at an index. -/
theorem rows_read (G : Vec Ideal S48x1x4096 .f32) (R : Fin 16896) (C : Fin 4096) :
    val_main_v14 (F := Ideal) G (ix2 R C) = G (ix3 (gateRow (segOf R)) 0 C) := by
  rw [← gate_read G (segOf R) C]
  unfold val_main_v14
  refine Eq.trans (join_read _ _ _ R C) ?_
  by_cases h : R.val < 8192
  · rw [dif_pos h, val_main_v9_apply, val_main_v8_apply]
    refine congrArg _ (funext fun a => ?_)
    fin_cases a <;> refine Fin.ext ?_ <;> simp [ix2] <;> omega
  · rw [dif_neg h]
    by_cases h' : R.val - 8192 < 8192
    · rw [dif_pos h', val_main_v11_apply, val_main_v10_apply]
      refine congrArg _ (funext fun a => ?_)
      fin_cases a <;> refine Fin.ext ?_ <;> simp [ix2] <;> omega
    · rw [dif_neg h', val_main_v13_apply, val_main_v12_apply]
      refine congrArg _ (funext fun a => ?_)
      fin_cases a <;> refine Fin.ext ?_ <;> simp [ix2] <;> omega

/-- The reference at an index. -/
theorem ref_read (A : Vec Ideal S16896x4096 .bf16) (W : Vec Ideal S4x4096x4096 .bf16) (X : Vec Ideal S16896x4096 .f32)
    (G : Vec Ideal S48x1x4096 .f32) (R : Fin 16896) (C : Fin 4096) :
    val_main_v16 (F := Ideal) A W X G (ix2 R C)
      = X (ix2 R C) + G (ix3 (gateRow (segOf R)) 0 C) * ∑ k : Fin 4096, A (ix2 R k) * W (ix3 0 k C) := by
  have h4 : val_main_v4 (F := Ideal) A W (ix2 R C) = ∑ k : Fin 4096, A (ix2 R k) * W (ix3 0 k C) := by
    rw [val_main_v4_apply]
    refine Finset.sum_congr rfl fun k _ => ?_
    rw [val_main_v0_apply, val_main_v3_apply, val_main_v2_apply, val_main_v1_apply]
    refine congrArg₂ (· * ·) (congrArg A ?_) (congrArg W ?_)
    · funext a
      fin_cases a <;> rfl
    · funext a
      fin_cases a <;> refine Fin.ext ?_ <;> simp [ix2, ix3] <;> omega
  rw [val_main_v16_apply, val_main_v15_apply, rows_read, h4]
  rfl

end Cert.Reference5Ideal.Value

namespace Cert.Kernel5Ideal.Value

open Cert.Kernel5Ideal Cert.Kernel5Ideal.Gen
open Cert.Reference5Ideal.Value (gateRow segOf ref_read)
open scoped BigOperators

variable (m : (ℓ : Loc nD τ sig) → Buf (Elt Ideal) ℓ)

/-- The sequences of a row tile's first and last rows. -/
def lo (n : ℕ) : ℕ := n * 1536 / 8192
def hi (n : ℕ) : ℕ := (n * 1536 + 1535) / 8192

/-- The block each window takes at a grid point. -/
theorem idx : ∀ t : Fin grid0.N,
    win0_0.index t = ![t.val / 8, 0]
    ∧ win0_1.index t = ![0, 0, t.val % 8]
    ∧ win0_2.index t = ![t.val / 8, t.val % 8]
    ∧ win0_3.index t = ![lo (t.val / 8) * 6 + 2, 0, t.val % 8]
    ∧ win0_4.index t = ![hi (t.val / 8) * 6 + 2, 0, t.val % 8]
    ∧ win0_5.index t = ![t.val / 8, t.val % 8] := by
  decide +kernel

/-- The row coordinate of a grid point. -/
theorem row_coord : ∀ t : Fin grid0.N, (grid0.coords t 0).val = t.val / 8 := by
  decide +kernel

/-- The mask compares the rows of the tile with the boundary between its two sequences. -/
theorem mask_eq (i : grid0.Coords) : ∃ b : BitVec 32,
    b.toInt = (hi (i 0).val * 8192 : ℤ) - (i 0).val * 1536
    ∧ k0_pay3 i = cmpi .slt (iota .tc S1536x1 32 [0] iota_S1536x1_d0_w32) (broadcast S1536x1 b) := by
  refine ⟨_, ?_, rfl⟩
  generalize i 0 = a
  revert a
  decide +kernel

/-- The mask at a row. -/
theorem mask_read (i : grid0.Coords) (r : Fin 1536) :
    k0_pay3 i (ix2 r 0) = if (r.val : ℤ) < hi (i 0).val * 8192 - (i 0).val * 1536 then 1#1 else 0#1 := by
  obtain ⟨b, hb, e⟩ := mask_eq i
  rw [e, ← hb]
  have hr : (BitVec.ofNat 32 r.val).toInt = r.val := by
    have h := r.isLt
    have e : (BitVec.ofNat 32 r.val).toNat = r.val := by rw [BitVec.toNat_ofNat]; omega
    rw [BitVec.toInt_eq_toNat_of_lt (by omega), e]
  rw [← hr]
  pointwise []
  simp only [IntOp.cmpi, BitVec.slt]
  by_cases h : (BitVec.ofNat 32 r.val).toInt < b.toInt
  · rw [if_pos h, decide_eq_true h]
    rfl
  · rw [if_neg h, decide_eq_false h]
    rfl

/-- The output block at an index, over the blocks it reads. -/
theorem pay_read (a : Vec Ideal S1536x4096 .bf16) (w : Vec Ideal S1x4096x512 .bf16) (q : IVec S1536x1 1)
    (glo ghi : Vec Ideal S1x1x512 .f32) (x : Vec Ideal S1536x512 .f32) (r : Fin 1536) (l : Fin 512) :
    k0_pay1 (k0_pay2 a w) q (k0_pay4 glo) (k0_pay5 ghi) x (ix2 r l)
      = x (ix2 r l) + (if q (ix2 r 0) = 1#1 then glo (ix3 0 0 l) else ghi (ix3 0 0 l))
          * ∑ k : Fin 4096, a (ix2 r k) * w (ix3 0 k l) := by
  pointwise [k0_pay1, k0_pay2, k0_pay4, k0_pay5]
  rfl

/-- What a grid point leaves in its output block. -/
theorem out_eq (c : Dev nD) (t : Fin cfg0.N) :
    (dats m 0 c).after 5 t
      = k0_pay1 (k0_pay2 (iblk m c 0 t) (iblk m c 1 t)) (k0_pay3 (grid0.coords t)) (k0_pay4 (iblk m c 3 t)) (k0_pay5 (iblk m c 4 t))
          (iblk m c 2 t) := by
  rw [after0_5]
  frame_out

/-- The array the run leaves is the reference's. -/
theorem final (c : Dev nD) :
    (dats m 0 c).arrAt 5 cfg0.N
      = Cert.Reference5Ideal.Read.val_main_v16 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  have hN : t.val < 88 := lt_of_lt_of_eq t.isLt N_0
  blk_simp
  rw [out_eq]
  obtain ⟨r, hr⟩ : ∃ r : Fin 1536, r = y 0 := ⟨_, rfl⟩
  obtain ⟨l, hl⟩ : ∃ l : Fin 512, l = y 1 := ⟨_, rfl⟩
  have ey : y = ix2 r l := by
    funext a; fin_cases a
    · exact hr.symm
    · exact hl.symm
  rw [ey, pay_read, mask_read, row_coord t]
  obtain ⟨R, hR⟩ : ∃ R : Fin 16896, R.val = t.val / 8 * 1536 + r.val := ⟨⟨t.val / 8 * 1536 + r.val, by omega⟩, rfl⟩
  obtain ⟨C, hC⟩ : ∃ C : Fin 4096, C.val = t.val % 8 * 512 + l.val := ⟨⟨t.val % 8 * 512 + l.val, by omega⟩, rfl⟩
  have ha : ∀ k : Fin 4096, iblk m c 0 t (ix2 r k) = (m ((c : Thread nD τ).loc main_arg0)) (ix2 R k) := fun k => by
    blk_ext [iblk, V, idx t] <;> omega
  have hw : ∀ k : Fin 4096, iblk m c 1 t (ix3 0 k l) = (m ((c : Thread nD τ).loc main_arg1)) (ix3 0 k C) := fun k => by
    blk_ext [iblk, V, idx t] <;> omega
  have hx : iblk m c 2 t (ix2 r l) = (m ((c : Thread nD τ).loc main_arg2)) (ix2 R C) := by
    blk_ext [iblk, V, idx t] <;> omega
  have el : lo (t.val / 8) = t.val / 8 * 1536 / 8192 := rfl
  have eh : hi (t.val / 8) = (t.val / 8 * 1536 + 1535) / 8192 := rfl
  have hg : (if (if (r.val : ℤ) < hi (t.val / 8) * 8192 - (t.val / 8 : ℕ) * 1536 then 1#1 else 0#1) = 1#1
        then iblk m c 3 t (ix3 0 0 l) else iblk m c 4 t (ix3 0 0 l))
      = (m ((c : Thread nD τ).loc main_arg3)) (ix3 (gateRow (segOf R)) 0 C) := by
    by_cases hs : (r.val : ℤ) < hi (t.val / 8) * 8192 - (t.val / 8 : ℕ) * 1536
    · rw [if_pos hs, if_pos rfl]
      blk_ext [iblk, V, idx t] <;> omega
    · rw [if_neg hs, if_neg (by decide)]
      blk_ext [iblk, V, idx t] <;> omega
  rw [hg]
  simp only [ha, hw, hx]
  refine (ref_read _ _ _ _ R C).symm.trans ?_
  blk_ext [idx t] <;> omega

end Cert.Kernel5Ideal.Value

end
-- ==== Proof.UpRunIdeal.lean ====
/- The gate and up projection of the experts' tiles: the program's run. This file holds what the body does at one tile in each of
   its three cases. Hand-written after the library's frame certificates. -/
module

public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.Kit
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel6Ideal.Tiles

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions of the program's separation logic. -/
abbrev Asrt (F : FTy → Type) [FloatOps F] := sProp (MT nD τ sig Unit (Elt F) ℕ (UR sig nD τ) ℕ)
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S74 .i32 := Memref.whole main_arg0
abbrev htbM0_0 : tbM0_0.IsWhole := Memref.isWhole_whole _
abbrev tbM0_1 : Memref sig .tc .smem S74 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : Asrt F :=
  M.view.loc (c : Thread nD τ) ↦{fullShare.right} f

theorem PhiT0_eq (c : Dev nD) : (Pipeline.ΦT pre0 (tbl m) c : Asrt F) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

abbrev VO0_3 : View sig .tc .vmem S512x512 .bf16 := (Memref.whole cc0_stg3_0 : Memref sig .tc .vmem S512x512 .bf16).view
abbrev ms0_0 (hO : Ok m) (t : Fin (cfgM m hO).N) : Memref sig .tc .vmem S512x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x4096x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev scM0_0 : Memref sig .tc .vmem S4096x512 .bf16 := Memref.whole cc0_scratch0
abbrev scM0_1 : Memref sig .tc .vmem S4096x512 .bf16 := Memref.whole cc0_scratch1

theorem PhiA0_eq (c : Dev nD) :
    (Pipeline.ΦA spec0 c : Asrt F)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

abbrev bodyAt0 (a : (pcfg0 (F := F)).Adm) (t : Fin (cfg0 a).N) : Prog (TpuEff nD τ sig (Elt F) Λ₀ .tc) PUnit :=
  cc0_moe_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## The words a tile's case depends on -/

/-- Whether the tile is in use, as the program reads it from the second table. -/
abbrev wUse (c : Dev nD) (i : grid0.Coords) (xt1 : TbBuf0 (F := F) c tbM0_1) : BitVec 32 :=
  tbM0_1.view.readAt (Elt F) (Rect.unit (s := S74) (k0_off1 i) S1.size (k0_off1_inb i)).toLoadRect xt1 (Shape.Idx.first (numel1_S1.symm ▸ Nat.one_pos))
/-- The tile's expert, read from the first table. -/
abbrev wExp (c : Dev nD) (i : grid0.Coords) (xt0 : TbBuf0 (F := F) c tbM0_0) : BitVec 32 :=
  tbM0_0.view.readAt (Elt F) (Rect.unit (s := S74) (k0_off1 i) S1.size (k0_off1_inb i)).toLoadRect xt0 (Shape.Idx.first (numel1_S1.symm ▸ Nat.one_pos))
/-- The expert of the tile before. -/
abbrev wOld (c : Dev nD) (i : grid0.Coords) (xt0 : TbBuf0 (F := F) c tbM0_0) : BitVec 32 :=
  tbM0_0.view.readAt (Elt F) (Rect.unit (s := S74) (k0_off2 i) S1.size (k0_off2_inb i)).toLoadRect xt0 (Shape.Idx.first (numel1_S1.symm ▸ Nat.one_pos))

/-- The condition under which the weights are cast into the scratches. -/
abbrev cnd1 (i : grid0.Coords) (v1 v5 v9 : BitVec 32) : Prop :=
  (Scalar.cmpi .ne (Scalar.extui (Scalar.andi (Scalar.cmpi .eq v1 1#32) (Scalar.ori (Scalar.cmpi .eq (BitVec.ofNat 32 (i 1).val) 0#32) (Scalar.cmpi .ne v5 v9)))) 0#32) = 1#1

/-- It holds at a tile in use that is the first or has another expert than the tile before. -/
theorem cnd1_iff (i : grid0.Coords) (v1 v5 v9 : BitVec 32) : cnd1 i v1 v5 v9 ↔ v1 = 1#32 ∧ ((i 1).val = 0 ∨ v5 ≠ v9) := by
  have hi : (BitVec.ofNat 32 (i 1).val = 0#32) ↔ (i 1).val = 0 := by
    have h : (i 1).val < 74 := (i 1).isLt
    rw [← BitVec.toNat_inj, BitVec.toNat_ofNat, BitVec.toNat_ofNat]
    omega
  rw [← hi]
  have e : cnd1 i v1 v5 v9 ↔ BitVec.ofBool ((BitVec.ofBool (decide (v1 = 1#32)) &&& (BitVec.ofBool (decide (BitVec.ofNat 32 (i 1).val = 0#32))
      ||| BitVec.ofBool (!decide (v5 = v9)))).setWidth 32 != 0#32) = 1#1 := Iff.rfl
  rw [e]
  by_cases h1 : v1 = 1#32 <;> by_cases h2 : BitVec.ofNat 32 (i 1).val = 0#32 <;> by_cases h3 : v5 = v9 <;>
    simp only [h1, h2, h3, decide_true, decide_false, true_and, false_and, true_or, false_or, ne_eq, not_true_eq_false, not_false_eq_true, or_true, or_false, iff_true, iff_false] <;> decide

/-- The condition under which the product is stored: the tile is in use. -/
theorem cnd2_iff (v : BitVec 32) : k0_cond2 v = 1#1 ↔ v = 1#32 := by
  have e : k0_cond2 v = 1#1 ↔ BitVec.ofBool ((BitVec.ofBool (decide (v = 1#32))).setWidth 32 != 0#32) = 1#1 := Iff.rfl
  rw [e]
  by_cases h1 : v = 1#32 <;> simp only [h1, decide_true, decide_false, iff_true, iff_false] <;> decide

/-- The condition under which zeros are stored: the tile is not in use. -/
theorem cnd3_iff (v : BitVec 32) : k0_cond3 v = 1#1 ↔ v ≠ 1#32 := by
  have e : k0_cond3 v = 1#1 ↔ BitVec.ofBool ((BitVec.ofBool (decide (v = 1#32)) ^^^ 1#1).setWidth 32 != 0#32) = 1#1 := Iff.rfl
  rw [e]
  by_cases h1 : v = 1#32 <;> simp only [h1, decide_true, decide_false, ne_eq, not_true_eq_false, not_false_eq_true, iff_true, iff_false] <;> decide

/-- One of the two holds, so that no tile leaves its result block alone. -/
theorem live (v : BitVec 32) : (!(k0_cond2 v == 1#1) && !(k0_cond3 v == 1#1)) = false := by
  by_cases h : v = 1#32
  · simp [(cnd2_iff v).mpr h]
  · simp [(cnd3_iff v).mpr h]

/-! ## The body in each case -/

set_option maxHeartbeats 2000000 in
/-- A tile in use whose weights are new: they are cast into the scratches and the product is stored. -/
noncomputable def kernelRun0_A (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (arg8 : Memref sig .tc .vmem S4096x512 .bf16) (harg8 : arg8.IsWhole) (arg9 : Memref sig .tc .vmem S4096x512 .bf16) (harg9 : arg9.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1)
    (h1 : cnd1 i (wUse c i xt1) (wExp c i xt0) (wOld c i xt0)) (h2 : k0_cond2 (wUse c i xt1) = 1#1) (h3 : ¬k0_cond3 (wUse c i xt1) = 1#1) :
    Σ' (L3 : List (View.Piece (Elt F) S512x512 .bf16)) (LT0 : List (View.Piece (Elt F) S4096x512 .bf16)), { LT1 : List (View.Piece (Elt F) S4096x512 .bf16) //
      ∀ (E : Set ℕ) (K : PUnit → Asrt F),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9) K } := by
  refine ⟨?_, ?_, ?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, HT1, Hk⟩
    obtain rfl := harg4.eq_unread hf0; obtain rfl := harg5.eq_unread hf1; obtain rfl := harg6.eq_unread hf2
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HS1]; · iexists _; iexact HS1
    isplitl [HT0]; · iexact HT0
    iexact HT1

set_option maxHeartbeats 2000000 in
/-- A tile in use with the expert of the tile before: the scratches are read as they are, and the product is stored. -/
noncomputable def kernelRun0_B (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (arg8 : Memref sig .tc .vmem S4096x512 .bf16) (harg8 : arg8.IsWhole) (arg9 : Memref sig .tc .vmem S4096x512 .bf16) (harg9 : arg9.IsWhole)
    (x0 : Vec F S512x4096 .bf16) (x1 : Vec F S1x1x4096x512 .f32) (x2 : Vec F S1x1x4096x512 .f32) (xs0 : Vec F S4096x512 .bf16) (xs1 : Vec F S4096x512 .bf16) (xt0 : TbBuf0 (F := F) c tbM0_0) (xt1 : TbBuf0 (F := F) c tbM0_1)
    (h1 : ¬cnd1 i (wUse c i xt1) (wExp c i xt0) (wOld c i xt0)) (h2 : k0_cond2 (wUse c i xt1) = 1#1) (h3 : ¬k0_cond3 (wUse c i xt1) = 1#1) :
    { L3 : List (View.Piece (Elt F) S512x512 .bf16) //
      ∀ (E : Set ℕ) (K : PUnit → Asrt F),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1 ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ owns (c : Thread nD τ) arg8 fullShare xs0 ∗ owns (c : Thread nD τ) arg9 fullShare xs1 ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
    obtain rfl := harg4.eq_unread hf0; obtain rfl := harg5.eq_unread hf1; obtain rfl := harg6.eq_unread hf2; obtain rfl := harg8.eq_unread hfs0; obtain rfl := harg9.eq_unread hfs1
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _; isplitr; · ipureintro; exact harg8.read_unread _
      iexact HS0
    isplitl [HS1]
    · iexists _; isplitr; · ipureintro; exact harg9.read_unread _
      iexact HS1
    isplitl [HT0]; · iexact HT0
    iexact HT1

set_option maxHeartbeats 2000000 in
/-- A tile not in use: zeros are stored, and the scratches are left as they are. -/
noncomputable def kernelRun0_C (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (arg8 : Memref sig .tc .vmem S4096x512 .bf16) (harg8 : arg8.IsWhole) (arg9 : Memref sig .tc .vmem S4096x512 .bf16) (harg9 : arg9.IsWhole)
    (x0 : Vec F S512x4096 .bf16) (x1 : Vec F S1x1x4096x512 .f32) (x2 : Vec F S1x1x4096x512 .f32) (xt0 : TbBuf0 (F := F) c tbM0_0) (xt1 : TbBuf0 (F := F) c tbM0_1)
    (h1 : ¬cnd1 i (wUse c i xt1) (wExp c i xt0) (wOld c i xt0)) (h2 : ¬k0_cond2 (wUse c i xt1) = 1#1) (h3 : k0_cond3 (wUse c i xt1) = 1#1) :
    { L3 : List (View.Piece (Elt F) S512x512 .bf16) //
      ∀ (E : Set ℕ) (K : PUnit → Asrt F),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ d, owns (c : Thread nD τ) arg8 fullShare d) ∗ (∃ d, owns (c : Thread nD τ) arg9 fullShare d) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8 arg9 harg9) K } := by
  refine ⟨?_, fun E K => ?run⟩
  case run =>
    simp only [cc0_moe_up_eq_skeleton]; unfold cc0_moe_up_skel
    unfold owns
    iintro ⟨⟨%f0, %hf0, H0⟩, ⟨%f1, %hf1, H1⟩, ⟨%f2, %hf2, H2⟩, ⟨%d3, %f3, -, H3⟩, HS0, HS1, HT0, HT1, Hk⟩
    obtain rfl := harg4.eq_unread hf0; obtain rfl := harg5.eq_unread hf1; obtain rfl := harg6.eq_unread hf2
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexact HS0
    isplitl [HS1]; · iexact HS1
    isplitl [HT0]; · iexact HT0
    iexact HT1

end Cert.Kernel6Ideal.Tiles

end
-- ==== Proof.UpFrameIdeal.lean ====
/- The gate and up projection of the experts' tiles: the program's run at any tables whose experts are below eight and whose tiles
   in use come first. Hand-written after the library's frame certificates. -/
module

public import proofs.«01_k».proof.Proof.UpRunIdeal
public import Idealize.ShloMosaic.Lib.Claim

@[expose] public section

set_option maxRecDepth 16384

noncomputable section

namespace Cert.Kernel6Ideal.Tiles

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The tables' words -/

/-- Tile `k`'s expert. -/
abbrev te (k : Fin 74) : BitVec 32 := (tbl m 0 : S74.Idx → Elt F .i32) (ix1 k)
/-- Whether tile `k` is in use. -/
abbrev tv (k : Fin 74) : BitVec 32 := (tbl m 1 : S74.Idx → Elt F .i32) (ix1 k)

/-- A tile in use comes after tiles in use. -/
def Use : Prop := ∀ (k : Fin 74) (h : 0 < k.val), tv m k = 1#32 → tv m ⟨k.val - 1, by omega⟩ = 1#32

theorem wUse_eq (c : Dev nD) (i : grid0.Coords) : wUse c i (tbl m 1) = tv m (i 1) := by
  show (tbl m 1 : S74.Idx → Elt F .i32) _ = (tbl m 1 : S74.Idx → Elt F .i32) _
  congr 1
  funext a
  fin_cases a
  refine Fin.ext ?_
  show k0_off1 i 0 + 1 * 0 = (i 1).val
  rw [k0_off1_eq]
  rfl

theorem wExp_eq (c : Dev nD) (i : grid0.Coords) : wExp c i (tbl m 0) = te m (i 1) := by
  show (tbl m 0 : S74.Idx → Elt F .i32) _ = (tbl m 0 : S74.Idx → Elt F .i32) _
  congr 1
  funext a
  fin_cases a
  refine Fin.ext ?_
  show k0_off1 i 0 + 1 * 0 = (i 1).val
  rw [k0_off1_eq]
  rfl

theorem off2_eq : ∀ i : grid0.Coords, k0_off2 i = ![(i 1).val - 1] := by decide +kernel

theorem wOld_eq (c : Dev nD) (i : grid0.Coords) : wOld c i (tbl m 0) = te m ⟨(i 1).val - 1, by have := (i 1).isLt; have h : (i 1).val < 74 := this; omega⟩ := by
  show (tbl m 0 : S74.Idx → Elt F .i32) _ = (tbl m 0 : S74.Idx → Elt F .i32) _
  congr 1
  funext a
  fin_cases a
  refine Fin.ext ?_
  show k0_off2 i 0 + 1 * 0 = (i 1).val - 1
  rw [off2_eq]
  rfl

/-- The weights' block at a point: the tile's expert's. -/
theorem tr1_eq (i : grid0.Coords) :
    cc0_transform_1 k0_off1_inb numel1_S1 (tbl m) i = ![0, (te m (i 1)).toNat, 0, (i 0).val] := by
  have h : (tbl m).at 0 (Rect.unit (s := S74) (k0_off1 i) S1.size (k0_off1_inb i)) numel1_S1 = te m (i 1) := wExp_eq m 0 i
  have h0 : (BitVec.ofNat 32 (i 0).val).toNat = (i 0).val := by
    have h : (i 0).val < 3 := (i 0).isLt
    rw [BitVec.toNat_ofNat]
    omega
  funext a
  fin_cases a
  · rfl
  · exact congrArg BitVec.toNat h
  · rfl
  · exact h0

/-- The second weights' block at a point: the tile's expert's. -/
theorem tr2_eq (i : grid0.Coords) :
    cc0_transform_2 k0_off1_inb numel1_S1 (tbl m) i = ![0, (te m (i 1)).toNat, 0, (i 0).val] := by
  have h : (tbl m).at 0 (Rect.unit (s := S74) (k0_off1 i) S1.size (k0_off1_inb i)) numel1_S1 = te m (i 1) := wExp_eq m 0 i
  have h0 : (BitVec.ofNat 32 (i 0).val).toNat = (i 0).val := by
    have h : (i 0).val < 3 := (i 0).isLt
    rw [BitVec.toNat_ofNat]
    omega
  funext a
  fin_cases a
  · rfl
  · exact congrArg BitVec.toNat h
  · rfl
  · exact h0

/-- The point before one that is not on the first tile. -/
theorem before : ∀ t : Fin grid0.N, ∀ h : (grid0.coords t 1).val ≠ 0, t.val ≠ 0 ∧
    (grid0.coords ⟨t.val - 1, lt_of_le_of_lt (Nat.sub_le _ _) t.isLt⟩ 0).val = (grid0.coords t 0).val
    ∧ (grid0.coords ⟨t.val - 1, lt_of_le_of_lt (Nat.sub_le _ _) t.isLt⟩ 1).val = (grid0.coords t 1).val - 1 := by decide +kernel

/-- Two points with the same weights' block take the same weights. -/
theorem iblk1_congr (hO : Ok m) (c : Dev nD) (t s : Fin (cfgM m hO).N)
    (h : cc0_transform_1 k0_off1_inb numel1_S1 (tbl m) (grid0.coords t) = cc0_transform_1 k0_off1_inb numel1_S1 (tbl m) (grid0.coords s)) :
    (iblk m hO c 1 t : S1x1x4096x512.Idx → Elt F .f32) = iblk m hO c 1 s := by
  funext y
  show (V m c main_arg3) _ = (V m c main_arg3) _
  congr 1
  funext a
  refine Fin.ext ?_
  show cc0_transform_1 k0_off1_inb numel1_S1 (tbl m) (grid0.coords t) a * _ + 1 * (y a).val = cc0_transform_1 k0_off1_inb numel1_S1 (tbl m) (grid0.coords s) a * _ + 1 * (y a).val
  rw [h]

/-- Two points with the same second weights' block take the same second weights. -/
theorem iblk2_congr (hO : Ok m) (c : Dev nD) (t s : Fin (cfgM m hO).N)
    (h : cc0_transform_2 k0_off1_inb numel1_S1 (tbl m) (grid0.coords t) = cc0_transform_2 k0_off1_inb numel1_S1 (tbl m) (grid0.coords s)) :
    (iblk m hO c 2 t : S1x1x4096x512.Idx → Elt F .f32) = iblk m hO c 2 s := by
  funext y
  show (V m c main_arg4) _ = (V m c main_arg4) _
  congr 1
  funext a
  refine Fin.ext ?_
  show cc0_transform_2 k0_off1_inb numel1_S1 (tbl m) (grid0.coords t) a * _ + 1 * (y a).val = cc0_transform_2 k0_off1_inb numel1_S1 (tbl m) (grid0.coords s) a * _ + 1 * (y a).val
  rw [h]

/-! ## What the body leaves, case by case -/

/-- The scratches as views, through which their contents are stated. -/
abbrev VS0_0 : View sig .tc .vmem S4096x512 .bf16 := scM0_0.view
abbrev VS0_1 : View sig .tc .vmem S4096x512 .bf16 := scM0_1.view

section
variable (c : Dev nD) (i : grid0.Coords) (arg4 : Memref sig .tc .vmem S512x4096 .bf16) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S512x512 .bf16) (harg7 : arg7.IsWhole) (arg8 : Memref sig .tc .vmem S4096x512 .bf16) (harg8 : arg8.IsWhole) (arg9 : Memref sig .tc .vmem S4096x512 .bf16) (harg9 : arg9.IsWhole)
    (x0 : Vec F S512x4096 .bf16) (x1 : Vec F S1x1x4096x512 .f32) (x2 : Vec F S1x1x4096x512 .f32) (xs0 : Vec F S4096x512 .bf16) (xs1 : Vec F S4096x512 .bf16) (xt0 : TbBuf0 (F := F) c tbM0_0) (xt1 : TbBuf0 (F := F) c tbM0_1)

theorem cover0_A_3 (h1 : cnd1 i (wUse c i xt1) (wExp c i xt0) (wOld c i xt0)) (h2 : k0_cond2 (wUse c i xt1) = 1#1) (h3 : ¬k0_cond3 (wUse c i xt1) = 1#1) (y : S512x512.Idx) :
    ∃ pc ∈ (kernelRun0_A c i arg4 harg4 arg5 harg5 arg6 harg6 arg7 harg7 arg8 harg8 arg9 harg9 x0 x1 x2 xt0 xt1 h1 h2 h3).1, y ∈ pc.1.set :=
  View.cover_of_tiledL (kernelRun0_A c i arg4 harg4 arg5 harg5 arg6 harg6 arg7 harg7 arg8 harg8 arg9 harg9 x0 x1 x2 xt0 xt1 h1 h2 h3).1 S512x512.size (by sl_kernel_rfl) y

theorem scover0_A_0 (h1 : cnd1 i (wUse c i xt1) (wExp c i xt0) (wOld c i xt0)) (h2 : k0_cond2 (wUse c i xt1) = 1#1) (h3 : ¬k0_cond3 (wUse c i xt1) = 1#1) (y : S4096x512.Idx) :
    ∃ pc ∈ (kernelRun0_A c i arg4 harg4 arg5 harg5 arg6 harg6 arg7 harg7 arg8 harg8 arg9 harg9 x0 x1 x2 xt0 xt1 h1 h2 h3).2.1, y ∈ pc.1.set :=
  View.cover_of_tiledL (kernelRun0_A c i arg4 harg4 arg5 harg5 arg6 harg6 arg7 harg7 arg8 harg8 arg9 harg9 x0 x1 x2 xt0 xt1 h1 h2 h3).2.1 S4096x512.size (by sl_kernel_rfl) y

theorem scover0_A_1 (h1 : cnd1 i (wUse c i xt1) (wExp c i xt0) (wOld c i xt0)) (h2 : k0_cond2 (wUse c i xt1) = 1#1) (h3 : ¬k0_cond3 (wUse c i xt1) = 1#1) (y : S4096x512.Idx) :
    ∃ pc ∈ (kernelRun0_A c i arg4 harg4 arg5 harg5 arg6 harg6 arg7 harg7 arg8 harg8 arg9 harg9 x0 x1 x2 xt0 xt1 h1 h2 h3).2.2.1, y ∈ pc.1.set :=
  View.cover_of_tiledL (kernelRun0_A c i arg4 harg4 arg5 harg5 arg6 harg6 arg7 harg7 arg8 harg8 arg9 harg9 x0 x1 x2 xt0 xt1 h1 h2 h3).2.2.1 S4096x512.size (by sl_kernel_rfl) y

theorem cover0_B_3 (h1 : ¬cnd1 i (wUse c i xt1) (wExp c i xt0) (wOld c i xt0)) (h2 : k0_cond2 (wUse c i xt1) = 1#1) (h3 : ¬k0_cond3 (wUse c i xt1) = 1#1) (y : S512x512.Idx) :
    ∃ pc ∈ (kernelRun0_B c i arg4 harg4 arg5 harg5 arg6 harg6 arg7 harg7 arg8 harg8 arg9 harg9 x0 x1 x2 xs0 xs1 xt0 xt1 h1 h2 h3).1, y ∈ pc.1.set :=
  View.cover_of_tiledL (kernelRun0_B c i arg4 harg4 arg5 harg5 arg6 harg6 arg7 harg7 arg8 harg8 arg9 harg9 x0 x1 x2 xs0 xs1 xt0 xt1 h1 h2 h3).1 S512x512.size (by sl_kernel_rfl) y

theorem cover0_C_3 (h1 : ¬cnd1 i (wUse c i xt1) (wExp c i xt0) (wOld c i xt0)) (h2 : ¬k0_cond2 (wUse c i xt1) = 1#1) (h3 : k0_cond3 (wUse c i xt1) = 1#1) (y : S512x512.Idx) :
    ∃ pc ∈ (kernelRun0_C c i arg4 harg4 arg5 harg5 arg6 harg6 arg7 harg7 arg8 harg8 arg9 harg9 x0 x1 x2 xt0 xt1 h1 h2 h3).1, y ∈ pc.1.set :=
  View.cover_of_tiledL (kernelRun0_C c i arg4 harg4 arg5 harg5 arg6 harg6 arg7 harg7 arg8 harg8 arg9 harg9 x0 x1 x2 xt0 xt1 h1 h2 h3).1 S512x512.size (by sl_kernel_rfl) y

/-- New weights: the product with the weights just cast, -/
theorem out0_A_3 (h1 : cnd1 i (wUse c i xt1) (wExp c i xt0) (wOld c i xt0)) (h2 : k0_cond2 (wUse c i xt1) = 1#1) (h3 : ¬k0_cond3 (wUse c i xt1) = 1#1) :
    VO0_3.read (Elt F) (VO0_3.writes (Elt F) VO0_3.junk (kernelRun0_A c i arg4 harg4 arg5 harg5 arg6 harg6 arg7 harg7 arg8 harg8 arg9 harg9 x0 x1 x2 xt0 xt1 h1 h2 h3).1)
      = k0_pay3 x0 (k0_pay1 x1) (k0_pay2 x2) := by
  frame_out

/-- which the scratches keep; -/
theorem sout0_A_0 (h1 : cnd1 i (wUse c i xt1) (wExp c i xt0) (wOld c i xt0)) (h2 : k0_cond2 (wUse c i xt1) = 1#1) (h3 : ¬k0_cond3 (wUse c i xt1) = 1#1) :
    VS0_0.read (Elt F) (VS0_0.writes (Elt F) VS0_0.junk (kernelRun0_A c i arg4 harg4 arg5 harg5 arg6 harg6 arg7 harg7 arg8 harg8 arg9 harg9 x0 x1 x2 xt0 xt1 h1 h2 h3).2.1)
      = k0_pay1 x1 := by
  frame_out

theorem sout0_A_1 (h1 : cnd1 i (wUse c i xt1) (wExp c i xt0) (wOld c i xt0)) (h2 : k0_cond2 (wUse c i xt1) = 1#1) (h3 : ¬k0_cond3 (wUse c i xt1) = 1#1) :
    VS0_1.read (Elt F) (VS0_1.writes (Elt F) VS0_1.junk (kernelRun0_A c i arg4 harg4 arg5 harg5 arg6 harg6 arg7 harg7 arg8 harg8 arg9 harg9 x0 x1 x2 xt0 xt1 h1 h2 h3).2.2.1)
      = k0_pay2 x2 := by
  frame_out

/-- the weights of the tile before: the product with the scratches; -/
theorem out0_B_3 (h1 : ¬cnd1 i (wUse c i xt1) (wExp c i xt0) (wOld c i xt0)) (h2 : k0_cond2 (wUse c i xt1) = 1#1) (h3 : ¬k0_cond3 (wUse c i xt1) = 1#1) :
    VO0_3.read (Elt F) (VO0_3.writes (Elt F) VO0_3.junk (kernelRun0_B c i arg4 harg4 arg5 harg5 arg6 harg6 arg7 harg7 arg8 harg8 arg9 harg9 x0 x1 x2 xs0 xs1 xt0 xt1 h1 h2 h3).1)
      = k0_pay3 x0 xs0 xs1 := by
  frame_out

/-- not in use: zeros. -/
theorem out0_C_3 (h1 : ¬cnd1 i (wUse c i xt1) (wExp c i xt0) (wOld c i xt0)) (h2 : ¬k0_cond2 (wUse c i xt1) = 1#1) (h3 : k0_cond3 (wUse c i xt1) = 1#1) :
    VO0_3.read (Elt F) (VO0_3.writes (Elt F) VO0_3.junk (kernelRun0_C c i arg4 harg4 arg5 harg5 arg6 harg6 arg7 harg7 arg8 harg8 arg9 harg9 x0 x1 x2 xt0 xt1 h1 h2 h3).1)
      = k0_pay4 (F := F) := by
  frame_out

end

/-! ## The pipeline's proof data -/

/-- What the result block holds after the point `t`. -/
def outsAt0 (hO : Ok m) (c : Dev nD) (t : Fin (cfgM m hO).N) : Vec F S512x512 .bf16 :=
  if tv m (grid0.coords t 1) = 1#32 then k0_pay3 (iblk m hO c 0 t) (k0_pay1 (iblk m hO c 1 t)) (k0_pay2 (iblk m hO c 2 t)) else k0_pay4 (F := F)

/-- What the scratches are known to hold before point `n`: the weights of the point before, if its tile is in use. -/
def Held (hO : Ok m) (c : Dev nD) (n : ℕ) (d e : Vec F S4096x512 .bf16) : Prop :=
  ∀ s : Fin (cfgM m hO).N, s.val + 1 = n → tv m (grid0.coords s 1) = 1#32 → d = k0_pay1 (iblk m hO c 1 s) ∧ e = k0_pay2 (iblk m hO c 2 s)

/-- The invariant before point `n`. -/
def Phi (hO : Ok m) (c : Dev nD) (n : ℕ) : Asrt F :=
  iprop(((∃ d, ∃ e, ⌜Held m hO c n d e⌝ ∗ owns (c : Thread nD τ) scM0_0 fullShare d ∗ owns (c : Thread nD τ) scM0_1 fullShare e) ∗ (∃ r, prngReg c r)) ∗ tbPt0 c tbM0_0 (tbl m 0) ∗ tbPt0 c tbM0_1 (tbl m 1))

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem Phi_eq (hO : Ok m) (c : Dev nD) (t : Fin ((cfgM m hO).N + 1)) : (dats m hO 0 c).Φ t = Phi m hO c t.val := by dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body at a point -/

/-- What the body is called with at point `t`, -/
def bodyPre (hO : Ok m) (c : Dev nD) (t : Fin (cfgM m hO).N) : Asrt F :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : Asrt F :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- At a tile in use with the expert of the tile before, the scratches hold the tile's weights. -/
theorem held_kept (hO : Ok m) (hU : Use m) (c : Dev nD) (t : Fin (cfgM m hO).N) (d e : Vec F S4096x512 .bf16)
    (hd : Held m hO c t.val d e) (hv : tv m (grid0.coords t 1) = 1#32) (hi : (grid0.coords t 1).val ≠ 0)
    (he : te m (grid0.coords t 1) = te m ⟨(grid0.coords t 1).val - 1, by have h : (grid0.coords t 1).val < 74 := (grid0.coords t 1).isLt; omega⟩) :
    d = k0_pay1 (iblk m hO c 1 t) ∧ e = k0_pay2 (iblk m hO c 2 t) := by
  obtain ⟨hz, hj, hk⟩ := before t hi
  have hs : t.val - 1 < (cfgM m hO).N := lt_of_le_of_lt (Nat.sub_le _ _) t.isLt
  have hk' : grid0.coords (⟨t.val - 1, hs⟩ : Fin grid0.N) 1 = (⟨(grid0.coords t 1).val - 1, by have h : (grid0.coords t 1).val < 74 := (grid0.coords t 1).isLt; omega⟩ : Fin 74) := Fin.ext hk
  have hj' : grid0.coords (⟨t.val - 1, hs⟩ : Fin grid0.N) 0 = grid0.coords t 0 := Fin.ext hj
  have hu := hU (grid0.coords t 1) (Nat.pos_of_ne_zero hi) hv
  obtain ⟨hd0, hd1⟩ := hd ⟨t.val - 1, hs⟩ (Nat.sub_add_cancel (Nat.pos_of_ne_zero hz)) ((congrArg (tv m) hk').trans hu)
  have hw := congrArg (fun k => ![0, (te m k).toNat, 0, (grid0.coords t 0).val]) hk'
  refine ⟨hd0.trans (congrArg k0_pay1 (iblk1_congr m hO c _ _ ?_)), hd1.trans (congrArg k0_pay2 (iblk2_congr m hO c _ _ ?_))⟩
  · rw [tr1_eq, tr1_eq, hj', he]
    exact hw
  · rw [tr2_eq, tr2_eq, hj', he]
    exact hw

set_option maxHeartbeats 3200000 in
/-- The body at any point. -/
theorem sound_body (hO : Ok m) (hU : Use m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [Phi_eq, Phi_eq, Fin.val_succ, Fin.val_castSucc,
    show (dats m hO 0 c).owesAt () t.succ = (dats m hO 0 c).owesAt () t.castSucc from rfl,
    after0_0, after0_1, after0_2, after0_3]
  unfold Phi outsAt0
  by_cases hv : tv m (grid0.coords t 1) = 1#32
  · have h2 : k0_cond2 (wUse c (grid0.coords t) (tbl m 1)) = 1#1 := by rw [cnd2_iff, wUse_eq]; exact hv
    have h3 : ¬k0_cond3 (wUse c (grid0.coords t) (tbl m 1)) = 1#1 := by rw [cnd3_iff, wUse_eq]; exact fun h => h hv
    rw [if_pos hv]
    by_cases h1 : cnd1 (grid0.coords t) (wUse c (grid0.coords t) (tbl m 1)) (wExp c (grid0.coords t) (tbl m 0)) (wOld c (grid0.coords t) (tbl m 0))
    · iintro ⟨⟨⟨⟨%d, %e, %hd, HS0, HS1⟩, Hg⟩, ⟨HT0, HT1⟩⟩, Ho, ⟨%d0, H0⟩, ⟨%d1, H1⟩, ⟨%d2, H2⟩, ⟨%d3, H3⟩⟩
      iapply ((kernelRun0_A c (grid0.coords t) _ _ _ _ _ _ _ _ _ _ _ _ (iblk m hO c 0 t) (iblk m hO c 1 t) (iblk m hO c 2 t) (tbl m 0) (tbl m 1) h1 h2 h3).2.2.2 Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      isplitl [HT0]; · iexact HT0
      isplitl [HT1]; · iexact HT1
      iintro ⟨H0, H1, H2, ⟨%e3, H3⟩, ⟨%fT0, HS0⟩, ⟨%fT1, HS1⟩, HT0, HT1⟩
      isplitl [HS0 HS1 Hg HT0 HT1]
      · isplitl [HS0 HS1 Hg]
        · isplitl [HS0 HS1]
          · iexists (k0_pay1 (iblk m hO c 1 t)); iexists (k0_pay2 (iblk m hO c 2 t)); isplitr
            · ipureintro
              intro s hs _
              have est : s = t := Fin.ext (Nat.succ.inj hs)
              rw [est]; exact ⟨rfl, rfl⟩
            · isplitl [HS0]
              · unfold owns; iexists _; isplitr
                swap; · iexact HS0
                ipureintro
                exact (View.read_writes_of_cover _ _ _ _ _ (scover0_A_0 c _ _ _ _ _ _ _ _ _ _ _ _ _ _ _ _ _ _ h1 h2 h3)).trans (sout0_A_0 c _ _ _ _ _ _ _ _ _ _ _ _ _ _ _ _ _ _ h1 h2 h3)
              · unfold owns; iexists _; isplitr
                swap; · iexact HS1
                ipureintro
                exact (View.read_writes_of_cover _ _ _ _ _ (scover0_A_1 c _ _ _ _ _ _ _ _ _ _ _ _ _ _ _ _ _ _ h1 h2 h3)).trans (sout0_A_1 c _ _ _ _ _ _ _ _ _ _ _ _ _ _ _ _ _ _ h1 h2 h3)
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ _ _ _ (cover0_A_3 c _ _ _ _ _ _ _ _ _ _ _ _ _ _ _ _ _ _ h1 h2 h3)).trans (out0_A_3 c _ _ _ _ _ _ _ _ _ _ _ _ _ _ _ _ _ _ h1 h2 h3)
    · have h1' := h1
      rw [cnd1_iff, wUse_eq, wExp_eq, wOld_eq] at h1'
      have hi : (grid0.coords t 1).val ≠ 0 := fun h => h1' ⟨hv, .inl h⟩
      have he : te m (grid0.coords t 1) = te m ⟨(grid0.coords t 1).val - 1, by have h : (grid0.coords t 1).val < 74 := (grid0.coords t 1).isLt; omega⟩ :=
        not_not.mp fun h => h1' ⟨hv, .inr h⟩
      iintro ⟨⟨⟨⟨%d, %e, %hd, HS0, HS1⟩, Hg⟩, ⟨HT0, HT1⟩⟩, Ho, ⟨%d0, H0⟩, ⟨%d1, H1⟩, ⟨%d2, H2⟩, ⟨%d3, H3⟩⟩
      obtain ⟨hd', he'⟩ := held_kept m hO hU c t d e hd hv hi he
      subst hd' he'
      iapply ((kernelRun0_B c (grid0.coords t) _ _ _ _ _ _ _ _ _ _ _ _ (iblk m hO c 0 t) (iblk m hO c 1 t) (iblk m hO c 2 t) (k0_pay1 (iblk m hO c 1 t)) (k0_pay2 (iblk m hO c 2 t)) (tbl m 0) (tbl m 1) h1 h2 h3).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      iintro ⟨H0, H1, H2, ⟨%e3, H3⟩, HS0, HS1, HT0, HT1⟩
      isplitl [HS0 HS1 Hg HT0 HT1]
      · isplitl [HS0 HS1 Hg]
        · isplitl [HS0 HS1]
          · iexists (k0_pay1 (iblk m hO c 1 t)); iexists (k0_pay2 (iblk m hO c 2 t)); isplitr
            · ipureintro
              intro s hs _
              have est : s = t := Fin.ext (Nat.succ.inj hs)
              rw [est]; exact ⟨rfl, rfl⟩
            · isplitl [HS0]; · iexact HS0
              iexact HS1
          iexact Hg
        isplitl [HT0]; · iexact HT0
        iexact HT1
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ _ _ _ (cover0_B_3 c _ _ _ _ _ _ _ _ _ _ _ _ _ _ _ _ _ _ _ _ h1 h2 h3)).trans (out0_B_3 c _ _ _ _ _ _ _ _ _ _ _ _ _ _ _ _ _ _ _ _ h1 h2 h3)
  · have h2 : ¬k0_cond2 (wUse c (grid0.coords t) (tbl m 1)) = 1#1 := by rw [cnd2_iff, wUse_eq]; exact hv
    have h3 : k0_cond3 (wUse c (grid0.coords t) (tbl m 1)) = 1#1 := by rw [cnd3_iff, wUse_eq]; exact hv
    have h1 : ¬cnd1 (grid0.coords t) (wUse c (grid0.coords t) (tbl m 1)) (wExp c (grid0.coords t) (tbl m 0)) (wOld c (grid0.coords t) (tbl m 0)) := by
      rw [cnd1_iff, wUse_eq]; exact fun h => hv h.1
    rw [if_neg hv]
    iintro ⟨⟨⟨⟨%d, %e, %hd, HS0, HS1⟩, Hg⟩, ⟨HT0, HT1⟩⟩, Ho, ⟨%d0, H0⟩, ⟨%d1, H1⟩, ⟨%d2, H2⟩, ⟨%d3, H3⟩⟩
    iapply ((kernelRun0_C c (grid0.coords t) _ _ _ _ _ _ _ _ _ _ _ _ (iblk m hO c 0 t) (iblk m hO c 1 t) (iblk m hO c 2 t) (tbl m 0) (tbl m 1) h1 h2 h3).2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HT0]; · iexact HT0
    isplitl [HT1]; · iexact HT1
    iintro ⟨H0, H1, H2, ⟨%e3, H3⟩, ⟨%d', HS0⟩, ⟨%e', HS1⟩, HT0, HT1⟩
    isplitl [HS0 HS1 Hg HT0 HT1]
    · isplitl [HS0 HS1 Hg]
      · isplitl [HS0 HS1]
        · iexists d'; iexists e'; isplitr
          · ipureintro
            intro s hs hv'
            have est : s = t := Fin.ext (Nat.succ.inj hs)
            rw [est] at hv'
            exact absurd hv' hv
          · isplitl [HS0]; · iexact HS0
            iexact HS1
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro
    exact (View.read_writes_of_cover _ _ _ _ _ (cover0_C_3 c _ _ _ _ _ _ _ _ _ _ _ _ _ _ _ _ _ _ h1 h2 h3)).trans (out0_C_3 c _ _ _ _ _ _ _ _ _ _ _ _ _ _ _ _ _ _ h1 h2 h3)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's window is never left alone. -/
theorem idle3 (hO : Ok m) (i : grid0.Coords) : (cfgM m hO).idle (3 : Fin 4) i = false := live _

theorem body_obligation (hO : Ok m) (hU : Use m) (c : Dev nD) : BodyObligation (dats (F := F) m hO 0 c) (defs₀ (F := F)) Variants.none () Set.univ := fun t => by
  rw [bigSep_W0, bigSep_W0, defs₀_row m hO]
  rw [show (cfgM m hO).idle (3 : Fin 4) ((cfgM m hO).grid.coords t) = false from idle3 m hO _]
  exact triple_restated (sound_body m hO hU c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [Phi_eq, PhiT0_eq, PhiA0_eq]
  unfold Phi
  iintro ⟨⟨⟨⟨%d, HS0⟩, ⟨%e, HS1⟩⟩, Hg⟩, ⟨HT0, HT1⟩⟩
  isplitl [HS0 HS1 Hg]
  · isplitl [HS0 HS1]
    · iexists d; iexists e; isplitr
      · ipureintro; intro s hs; exact absurd hs (Nat.succ_ne_zero _)
      isplitl [HS0]; · iexact HS0
      iexact HS1
    iexact Hg
  isplitl [HT0]; · iexact HT0
  iexact HT1

/-- After the last point the invariant gives the scratches back. -/
theorem hout (hO : Ok m) (c : Dev nD) : (dats m hO 0 c).Φ (Fin.last (cfgM m hO).N) ⊢ Pipeline.ΦA spec0 c := by
  rw [Phi_eq, PhiA0_eq]
  unfold Phi
  iintro ⟨⟨⟨%d, %e, -, HS0, HS1⟩, Hg⟩, -, -⟩
  isplitl [HS0 HS1]
  · isplitl [HS0]
    · iexists _; iexact HS0
    iexists _; iexact HS1
  iexact Hg

/-! ## The run and the frame -/

set_option backward.isDefEq.respectTransparency.types false in
theorem run_main_quiescent (hO : Ok m) (hU : Use m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hU c).loose) (hshare := fun c => (dats m hO 0 c).share_full fun _ => rfl)
    (howed := fun _ _ => rfl) (V := V m) (hmain := hmain m Variants.none) (hA := A_eq m hO) (hpf := V_pre m)
    (hin := hin m hO) (hout := hout m hO)

/-- Every execution ends with the arrays at what the proof data say. -/
theorem run_main (hO : Ok m) (hU : Use m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hU)

/-- The arguments end unchanged. -/
theorem unchanged (hO : Ok m) (hU : Use m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO hU)

/-- The frame: the arguments end unchanged and the semaphores at zero. -/
theorem frame (hO : Ok m) (hU : Use m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hU) ((θ_run defs _ _).mono (fun _ h => h.2) (run_main_quiescent m ρ hO hU))

end Cert.Kernel6Ideal.Tiles

end
-- ==== Proof.UpPre.lean ====
/- What the up projection's precondition says of the two tables: each tile's expert is one of the eight, and the tiles in
   use come first. Hand-written. -/
module

public import proofs.«01_k».proof.Proof.Gen.Pre_tiles_in_use6
public import Idealize.ShloMosaic.PureOps.Ideal.Laws
public import Idealize.ShloMosaic.Lib.Pointwise

@[expose] public section

noncomputable section

open Idealize.ShloMosaic

namespace Cert.Pre_tiles_in_use6

open Cert.Pre_tiles_in_use6.Gen

variable {F : FTy → Type} [FloatOps F] (E U : IVec S74 32) (H : FVec F S37888x4096 .bf16) (W G : FVec F S2x8x4096x1536 .f32)

/-- A comparison bit that is set. -/
theorem of_bit (b : Bool) (h : BitVec.ofBool b = 1#1) : b = true := by
  cases b
  · exact absurd h (by decide)
  · rfl

/-- Each tile's expert is one of the eight. -/
theorem expert (h : (fn (F := F) E U H W G).1 = fun _ => 1#1) (k : Fin 74) : (E (ix1 k)).toNat < 8 := by
  have e : BitVec.ofBool ((0#32).sle (E (ix1 k))) &&& BitVec.ofBool ((E (ix1 k)).slt 8#32) = 1#1 := congrFun h (ix1 k)
  generalize E (ix1 k) = w at e ⊢
  have e1 : (0#32).sle w = true ∧ w.slt 8#32 = true := by
    cases h1 : (0#32).sle w <;> cases h2 : w.slt 8#32 <;> rw [h1, h2] at e <;> first | exact ⟨rfl, rfl⟩ | exact absurd e (by decide)
  obtain ⟨h1, h2⟩ := e1
  rw [BitVec.sle_iff_toInt_le] at h1
  rw [BitVec.slt_iff_toInt_lt] at h2
  have h3 : (0#32).toInt = 0 := by decide
  have h4 : (8#32).toInt = 8 := by decide
  rw [h3] at h1
  rw [h4] at h2
  rw [BitVec.toInt_eq_toNat_cond] at h1 h2
  split_ifs at h1 h2 <;> omega

/-- The tile before one in use is in use. -/
theorem before (h : (fn (F := F) E U H W G).2 = fun _ => 1#1) (k : Fin 73) (hk : U (ix1 (⟨1 + k.val, by omega⟩ : Fin 74)) = 1#32) :
    U (ix1 (⟨k.val, by omega⟩ : Fin 74)) = 1#32 := by
  have e0 := congrFun h (ix1 k)
  have e : BitVec.ofBool ((extractStridedSlice S73 ![0] U slices_S74_S73_0 (ix1 k)) == 1#32)
      ||| BitVec.ofBool ((extractStridedSlice S73 ![1] U slices_S74_S73_1 (ix1 k)) != 1#32) = 1#1 := e0
  rw [extractStridedSlice_apply ![0] U slices_S74_S73_0 (ix1 k) (ix1 (⟨k.val, by omega⟩ : Fin 74)) (fun a => by
      fin_cases a; show k.val = 0 + k.val; omega),
    extractStridedSlice_apply ![1] U slices_S74_S73_1 (ix1 k) (ix1 (⟨1 + k.val, by omega⟩ : Fin 74)) (fun a => by
      fin_cases a; rfl), hk] at e
  by_contra hn
  have h1 : (U (ix1 (⟨k.val, by omega⟩ : Fin 74)) == 1#32) = false := beq_eq_false_iff_ne.mpr hn
  rw [h1] at e
  exact absurd e (by decide)

end Cert.Pre_tiles_in_use6

end
-- ==== Proof.UpGiven.lean ====
/- The up projection: its precondition as the run takes it, for the program and for its idealization. Hand-written. -/
module

public import proofs.«01_k».proof.Proof.UpFrame
public import proofs.«01_k».proof.Proof.UpFrameIdeal
public import proofs.«01_k».proof.Proof.UpPre

@[expose] public section

set_option maxRecDepth 16384

noncomputable section

open Idealize.ShloMosaic Idealize.ShloMosaic.TcCoe Idealize.SL.Sem

namespace Cert.Kernel6.Tiles

open Cert.Kernel6 Cert.Kernel6.Gen

variable {F : FTy → Type} [FloatOps F] (m : (ℓ : Loc nD τ sig) → Buf (Elt F) ℓ)

/-- The precondition's two parts, at the program's arguments. -/
abbrev Given : Prop := ∀ c : Dev nD,
    (Cert.Pre_tiles_in_use6.fn (F := F) (m ((c : Thread nD τ).loc main_arg0)) (m ((c : Thread nD τ).loc main_arg1))
      (m ((c : Thread nD τ).loc main_arg2)) (m ((c : Thread nD τ).loc main_arg3)) (m ((c : Thread nD τ).loc main_arg4))).1 = (fun _ => 1#1)
    ∧ (Cert.Pre_tiles_in_use6.fn (F := F) (m ((c : Thread nD τ).loc main_arg0)) (m ((c : Thread nD τ).loc main_arg1))
      (m ((c : Thread nD τ).loc main_arg2)) (m ((c : Thread nD τ).loc main_arg3)) (m ((c : Thread nD τ).loc main_arg4))).2 = (fun _ => 1#1)

/-- Each tile's expert is one of the eight, -/
theorem expert_lt (h : Given m) (k : Fin 74) : (te m k).toNat < 8 := Cert.Pre_tiles_in_use6.expert _ _ _ _ _ (h 0).1 k

/-- so that the weights' block is inside the array; -/
theorem ok_of (hE : ∀ k : Fin 74, (te m k).toNat < 8) : Ok m :=
  ⟨fun i => ⟨fun a => by
    have hi : (te m (i 1)).toNat < 8 := hE _
    have hj : (i 0).val < 3 := (i 0).isLt
    rw [tr1_eq]
    fin_cases a
    · show (0 + 1) * 1 ≤ 2
      omega
    · show ((te m (i 1)).toNat + 1) * 1 ≤ 8
      omega
    · show (0 + 1) * 4096 ≤ 4096
      omega
    · show ((i 0).val + 1) * 512 ≤ 1536
      omega, .inl rfl⟩, fun i => ⟨fun a => by
    have hi : (te m (i 1)).toNat < 8 := hE _
    have hj : (i 0).val < 3 := (i 0).isLt
    rw [tr2_eq]
    fin_cases a
    · show (0 + 1) * 1 ≤ 2
      omega
    · show ((te m (i 1)).toNat + 1) * 1 ≤ 8
      omega
    · show (0 + 1) * 4096 ≤ 4096
      omega
    · show ((i 0).val + 1) * 512 ≤ 1536
      omega, .inl rfl⟩⟩

/-- and the tile before one in use is in use. -/
theorem use_of (h : Given m) : Use m := fun k hk hu => by
  have hk' := k.isLt
  refine Cert.Pre_tiles_in_use6.before _ _ _ _ _ (h 0).2 ⟨k.val - 1, by omega⟩ ?_
  have e : (⟨1 + (k.val - 1), by omega⟩ : Fin 74) = k := Fin.ext (by show 1 + (k.val - 1) = k.val; omega)
  show tv m ⟨1 + (k.val - 1), _⟩ = 1#32
  rw [e]
  exact hu

end Cert.Kernel6.Tiles

namespace Cert.Kernel6Ideal.Tiles

open Cert.Kernel6Ideal Cert.Kernel6Ideal.Gen

variable {F : FTy → Type} [FloatOps F] (m : (ℓ : Loc nD τ sig) → Buf (Elt F) ℓ)

/-- The precondition's two parts, at the program's arguments. -/
abbrev Given : Prop := ∀ c : Dev nD,
    (Cert.Pre_tiles_in_use6.fn (F := F) (m ((c : Thread nD τ).loc main_arg0)) (m ((c : Thread nD τ).loc main_arg1))
      (m ((c : Thread nD τ).loc main_arg2)) (m ((c : Thread nD τ).loc main_arg3)) (m ((c : Thread nD τ).loc main_arg4))).1 = (fun _ => 1#1)
    ∧ (Cert.Pre_tiles_in_use6.fn (F := F) (m ((c : Thread nD τ).loc main_arg0)) (m ((c : Thread nD τ).loc main_arg1))
      (m ((c : Thread nD τ).loc main_arg2)) (m ((c : Thread nD τ).loc main_arg3)) (m ((c : Thread nD τ).loc main_arg4))).2 = (fun _ => 1#1)

/-- Each tile's expert is one of the eight, -/
theorem expert_lt (h : Given m) (k : Fin 74) : (te m k).toNat < 8 := Cert.Pre_tiles_in_use6.expert _ _ _ _ _ (h 0).1 k

/-- so that the weights' block is inside the array; -/
theorem ok_of (hE : ∀ k : Fin 74, (te m k).toNat < 8) : Ok m :=
  ⟨fun i => ⟨fun a => by
    have hi : (te m (i 1)).toNat < 8 := hE _
    have hj : (i 0).val < 3 := (i 0).isLt
    rw [tr1_eq]
    fin_cases a
    · show (0 + 1) * 1 ≤ 2
      omega
    · show ((te m (i 1)).toNat + 1) * 1 ≤ 8
      omega
    · show (0 + 1) * 4096 ≤ 4096
      omega
    · show ((i 0).val + 1) * 512 ≤ 1536
      omega, .inl rfl⟩, fun i => ⟨fun a => by
    have hi : (te m (i 1)).toNat < 8 := hE _
    have hj : (i 0).val < 3 := (i 0).isLt
    rw [tr2_eq]
    fin_cases a
    · show (0 + 1) * 1 ≤ 2
      omega
    · show ((te m (i 1)).toNat + 1) * 1 ≤ 8
      omega
    · show (0 + 1) * 4096 ≤ 4096
      omega
    · show ((i 0).val + 1) * 512 ≤ 1536
      omega, .inl rfl⟩⟩

/-- and the tile before one in use is in use. -/
theorem use_of (h : Given m) : Use m := fun k hk hu => by
  have hk' := k.isLt
  refine Cert.Pre_tiles_in_use6.before _ _ _ _ _ (h 0).2 ⟨k.val - 1, by omega⟩ ?_
  have e : (⟨1 + (k.val - 1), by omega⟩ : Fin 74) = k := Fin.ext (by show 1 + (k.val - 1) = k.val; omega)
  show tv m ⟨1 + (k.val - 1), _⟩ = 1#32
  rw [e]
  exact hu

end Cert.Kernel6Ideal.Tiles

end
-- ==== Proof.Experts.lean ====
/- The choice among eight experts as the references write it: eight results, each kept where the tile is in use and its
   expert is that one, over zeros. Hand-written. -/
module

public import Idealize.ShloMosaic.PureOps
public import Idealize.ShloMosaic.PureOps.Ideal.Laws

@[expose] public section

noncomputable section

open Idealize.ShloMosaic

namespace Cert.Experts

/-- One choice: `s` where the tile is in use and its expert is `e`, `z` elsewhere. -/
abbrev one (u w e : BitVec 32) (s z : EReal) : EReal :=
  Scalar.select (IntOp.andi (IntOp.cmpi .eq u 1#32) (IntOp.cmpi .eq w e)) s z

theorem one_eq (u w e : BitVec 32) (s z : EReal) : one u w e s z = if u = 1#32 ∧ w = e then s else z := by
  have h : one u w e s z = if (BitVec.ofBool (decide (u = 1#32)) &&& BitVec.ofBool (decide (w = e))) = 1#1 then s else z := rfl
  rw [h]
  by_cases h1 : u = 1#32 <;> by_cases h2 : w = e <;> simp [h1, h2]

/-- The eight choices are the choice of the tile's expert. -/
theorem pick (S : Fin 8 → EReal) (u w : BitVec 32) (z : EReal) (hw : w.toNat < 8) :
    one u w 7#32 (S 7) (one u w 6#32 (S 6) (one u w 5#32 (S 5) (one u w 4#32 (S 4) (one u w 3#32 (S 3) (one u w 2#32 (S 2)
      (one u w 1#32 (S 1) (one u w 0#32 (S 0) z)))))))
      = if u = 1#32 then S ⟨w.toNat, hw⟩ else z := by
  obtain ⟨e, rfl⟩ : ∃ e : Fin 8, w = BitVec.ofNat 32 e.val := ⟨⟨w.toNat, hw⟩, by simp⟩
  have he : (⟨(BitVec.ofNat 32 e.val).toNat, hw⟩ : Fin 8) = e := Fin.ext (by
    have := e.isLt
    show (BitVec.ofNat 32 e.val).toNat = e.val
    rw [BitVec.toNat_ofNat]
    omega)
  rw [he]
  simp only [one_eq]
  by_cases h : u = 1#32
  · simp only [h, true_and, if_true]
    fin_cases e <;> simp
  · simp [h]

end Cert.Experts

end
-- ==== Proof.UpRef.lean ====
/- The up projection's reference at an index: where the row's tile is in use, the gated product with its expert's two
   weights; elsewhere zero. Hand-written. -/
module

public import proofs.«01_k».proof.Proof.Gen.Reference6Ideal.Read
public import proofs.«01_k».proof.Proof.Experts
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem

namespace Cert.Reference6Ideal.Value

open Cert.Reference6Ideal Cert.Reference6Ideal.Gen Cert.Reference6Ideal.Read
open scoped BigOperators

variable (E U : (⟨S74, .i32⟩ : BufTy).Contents (Elt Ideal)) (H : Vec Ideal S37888x4096 .bf16) (W G : Vec Ideal S2x8x4096x1536 .f32)

/-- The tile of a row. -/
def tile (R : Fin 37888) : Fin 74 := ⟨R.val / 512, by omega⟩

/-- The row's expert. -/
theorem exp_row (i : S37888x1.Idx) : val_main_v2 (F := Ideal) E i = E (ix1 (tile (i 0))) := by
  rw [val_main_v2_apply, val_main_v1_apply, val_main_v0_apply]
  refine congrArg E (funext fun a => ?_)
  fin_cases a; rfl

/-- Whether the row's tile is in use. -/
theorem use_row (i : S37888x1.Idx) : val_main_v7 (F := Ideal) U i = IntOp.cmpi .eq (U (ix1 (tile (i 0)))) 1#32 := by
  rw [val_main_v7_apply, val_main_v5_apply, val_main_v4_apply, val_main_v3_apply, val_main_v6_apply, val_main_c_apply]
  refine congrArg (IntOp.cmpi .eq · 1#32) (congrArg U (funext fun a => ?_))
  fin_cases a; rfl

/-- A row of the rows' matrix times a column of an expert's weights. -/
def dot (R : Fin 37888) (C : Fin 1536) (e : Fin 8) : EReal := ∑ k : Fin 4096, H (ix2 R k) * W (ix4 0 e k C)

/-- The gated product. -/
def gated (R : Fin 37888) (C : Fin 1536) (e : Fin 8) : EReal :=
  dot H W R C e * Ideal.logistic (dot H W R C e) * dot H G R C e

/-- Nothing chosen: zero. -/
theorem none_chosen (i : S37888x1536.Idx) : val_main_v9 (F := Ideal) i = (0 : EReal) := by
  rw [val_main_v9_apply, val_main_cst_apply]
  exact Ideal.ofBits_zero_f32

theorem one_word : FloatOps.ofBits (F := Ideal) .f32 0x3F800000#32 = (1 : EReal) := Ideal.ofBits_one_f32

/-- Expert 0's first product, -/
theorem dotW_0 (R : Fin 37888) (C : Fin 1536) : val_main_v12 (F := Ideal) H W (ix2 R C) = dot H W R C 0 := by
  rw [val_main_v12_apply]
  unfold dot
  refine Finset.sum_congr rfl fun k _ => ?_
  rw [val_main_v8_apply, val_main_v11_apply, val_main_v10_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_0 (R : Fin 37888) (C : Fin 1536) : val_main_v16 (F := Ideal) H G (ix2 R C) = dot H G R C 0 := by
  rw [val_main_v16_apply]
  unfold dot
  refine Finset.sum_congr rfl fun k _ => ?_
  rw [val_main_v8_apply, val_main_v15_apply, val_main_v14_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_0 (R : Fin 37888) (C : Fin 1536) : val_main_v17 (F := Ideal) H W G (ix2 R C) = gated H W G R C 0 := by
  rw [val_main_v17_apply, val_main_v13_apply, val_main_call0_v5_apply, val_main_call0_v4_apply, val_main_call0_cst_0_apply,
    val_main_call0_v3_apply, val_main_call0_v2_apply, val_main_call0_cst_apply, val_main_call0_v1_apply, val_main_call0_v0_apply,
    dotW_0, dotG_0, one_word]
  rfl

/-- and where it is kept. -/
theorem kept_0 (R : Fin 37888) (C : Fin 1536) : val_main_call1_v0 (F := Ideal) E U (ix2 R C)
    = IntOp.andi (IntOp.cmpi .eq (U (ix1 (tile R))) 1#32) (IntOp.cmpi .eq (E (ix1 (tile R))) 0#32) := by
  rw [val_main_call1_v0_apply, val_main_v20_apply, val_main_v19_apply, val_main_v18_apply, val_main_c_0_apply, exp_row, use_row]
  rfl

/-- Expert 1's first product, -/
theorem dotW_1 (R : Fin 37888) (C : Fin 1536) : val_main_v24 (F := Ideal) H W (ix2 R C) = dot H W R C 1 := by
  rw [val_main_v24_apply]
  unfold dot
  refine Finset.sum_congr rfl fun k _ => ?_
  rw [val_main_v8_apply, val_main_v23_apply, val_main_v22_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_1 (R : Fin 37888) (C : Fin 1536) : val_main_v28 (F := Ideal) H G (ix2 R C) = dot H G R C 1 := by
  rw [val_main_v28_apply]
  unfold dot
  refine Finset.sum_congr rfl fun k _ => ?_
  rw [val_main_v8_apply, val_main_v27_apply, val_main_v26_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_1 (R : Fin 37888) (C : Fin 1536) : val_main_v29 (F := Ideal) H W G (ix2 R C) = gated H W G R C 1 := by
  rw [val_main_v29_apply, val_main_v25_apply, val_main_call2_v5_apply, val_main_call2_v4_apply, val_main_call2_cst_0_apply,
    val_main_call2_v3_apply, val_main_call2_v2_apply, val_main_call2_cst_apply, val_main_call2_v1_apply, val_main_call2_v0_apply,
    dotW_1, dotG_1, one_word]
  rfl

/-- and where it is kept. -/
theorem kept_1 (R : Fin 37888) (C : Fin 1536) : val_main_call3_v0 (F := Ideal) E U (ix2 R C)
    = IntOp.andi (IntOp.cmpi .eq (U (ix1 (tile R))) 1#32) (IntOp.cmpi .eq (E (ix1 (tile R))) 1#32) := by
  rw [val_main_call3_v0_apply, val_main_v32_apply, val_main_v31_apply, val_main_v30_apply, val_main_c_1_apply, exp_row, use_row]
  rfl

/-- Expert 2's first product, -/
theorem dotW_2 (R : Fin 37888) (C : Fin 1536) : val_main_v36 (F := Ideal) H W (ix2 R C) = dot H W R C 2 := by
  rw [val_main_v36_apply]
  unfold dot
  refine Finset.sum_congr rfl fun k _ => ?_
  rw [val_main_v8_apply, val_main_v35_apply, val_main_v34_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_2 (R : Fin 37888) (C : Fin 1536) : val_main_v40 (F := Ideal) H G (ix2 R C) = dot H G R C 2 := by
  rw [val_main_v40_apply]
  unfold dot
  refine Finset.sum_congr rfl fun k _ => ?_
  rw [val_main_v8_apply, val_main_v39_apply, val_main_v38_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_2 (R : Fin 37888) (C : Fin 1536) : val_main_v41 (F := Ideal) H W G (ix2 R C) = gated H W G R C 2 := by
  rw [val_main_v41_apply, val_main_v37_apply, val_main_call4_v5_apply, val_main_call4_v4_apply, val_main_call4_cst_0_apply,
    val_main_call4_v3_apply, val_main_call4_v2_apply, val_main_call4_cst_apply, val_main_call4_v1_apply, val_main_call4_v0_apply,
    dotW_2, dotG_2, one_word]
  rfl

/-- and where it is kept. -/
theorem kept_2 (R : Fin 37888) (C : Fin 1536) : val_main_call5_v0 (F := Ideal) E U (ix2 R C)
    = IntOp.andi (IntOp.cmpi .eq (U (ix1 (tile R))) 1#32) (IntOp.cmpi .eq (E (ix1 (tile R))) 2#32) := by
  rw [val_main_call5_v0_apply, val_main_v44_apply, val_main_v43_apply, val_main_v42_apply, val_main_c_2_apply, exp_row, use_row]
  rfl

/-- Expert 3's first product, -/
theorem dotW_3 (R : Fin 37888) (C : Fin 1536) : val_main_v48 (F := Ideal) H W (ix2 R C) = dot H W R C 3 := by
  rw [val_main_v48_apply]
  unfold dot
  refine Finset.sum_congr rfl fun k _ => ?_
  rw [val_main_v8_apply, val_main_v47_apply, val_main_v46_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_3 (R : Fin 37888) (C : Fin 1536) : val_main_v52 (F := Ideal) H G (ix2 R C) = dot H G R C 3 := by
  rw [val_main_v52_apply]
  unfold dot
  refine Finset.sum_congr rfl fun k _ => ?_
  rw [val_main_v8_apply, val_main_v51_apply, val_main_v50_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_3 (R : Fin 37888) (C : Fin 1536) : val_main_v53 (F := Ideal) H W G (ix2 R C) = gated H W G R C 3 := by
  rw [val_main_v53_apply, val_main_v49_apply, val_main_call6_v5_apply, val_main_call6_v4_apply, val_main_call6_cst_0_apply,
    val_main_call6_v3_apply, val_main_call6_v2_apply, val_main_call6_cst_apply, val_main_call6_v1_apply, val_main_call6_v0_apply,
    dotW_3, dotG_3, one_word]
  rfl

/-- and where it is kept. -/
theorem kept_3 (R : Fin 37888) (C : Fin 1536) : val_main_call7_v0 (F := Ideal) E U (ix2 R C)
    = IntOp.andi (IntOp.cmpi .eq (U (ix1 (tile R))) 1#32) (IntOp.cmpi .eq (E (ix1 (tile R))) 3#32) := by
  rw [val_main_call7_v0_apply, val_main_v56_apply, val_main_v55_apply, val_main_v54_apply, val_main_c_3_apply, exp_row, use_row]
  rfl

/-- Expert 4's first product, -/
theorem dotW_4 (R : Fin 37888) (C : Fin 1536) : val_main_v60 (F := Ideal) H W (ix2 R C) = dot H W R C 4 := by
  rw [val_main_v60_apply]
  unfold dot
  refine Finset.sum_congr rfl fun k _ => ?_
  rw [val_main_v8_apply, val_main_v59_apply, val_main_v58_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_4 (R : Fin 37888) (C : Fin 1536) : val_main_v64 (F := Ideal) H G (ix2 R C) = dot H G R C 4 := by
  rw [val_main_v64_apply]
  unfold dot
  refine Finset.sum_congr rfl fun k _ => ?_
  rw [val_main_v8_apply, val_main_v63_apply, val_main_v62_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_4 (R : Fin 37888) (C : Fin 1536) : val_main_v65 (F := Ideal) H W G (ix2 R C) = gated H W G R C 4 := by
  rw [val_main_v65_apply, val_main_v61_apply, val_main_call8_v5_apply, val_main_call8_v4_apply, val_main_call8_cst_0_apply,
    val_main_call8_v3_apply, val_main_call8_v2_apply, val_main_call8_cst_apply, val_main_call8_v1_apply, val_main_call8_v0_apply,
    dotW_4, dotG_4, one_word]
  rfl

/-- and where it is kept. -/
theorem kept_4 (R : Fin 37888) (C : Fin 1536) : val_main_call9_v0 (F := Ideal) E U (ix2 R C)
    = IntOp.andi (IntOp.cmpi .eq (U (ix1 (tile R))) 1#32) (IntOp.cmpi .eq (E (ix1 (tile R))) 4#32) := by
  rw [val_main_call9_v0_apply, val_main_v68_apply, val_main_v67_apply, val_main_v66_apply, val_main_c_4_apply, exp_row, use_row]
  rfl

/-- Expert 5's first product, -/
theorem dotW_5 (R : Fin 37888) (C : Fin 1536) : val_main_v72 (F := Ideal) H W (ix2 R C) = dot H W R C 5 := by
  rw [val_main_v72_apply]
  unfold dot
  refine Finset.sum_congr rfl fun k _ => ?_
  rw [val_main_v8_apply, val_main_v71_apply, val_main_v70_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_5 (R : Fin 37888) (C : Fin 1536) : val_main_v76 (F := Ideal) H G (ix2 R C) = dot H G R C 5 := by
  rw [val_main_v76_apply]
  unfold dot
  refine Finset.sum_congr rfl fun k _ => ?_
  rw [val_main_v8_apply, val_main_v75_apply, val_main_v74_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_5 (R : Fin 37888) (C : Fin 1536) : val_main_v77 (F := Ideal) H W G (ix2 R C) = gated H W G R C 5 := by
  rw [val_main_v77_apply, val_main_v73_apply, val_main_call10_v5_apply, val_main_call10_v4_apply, val_main_call10_cst_0_apply,
    val_main_call10_v3_apply, val_main_call10_v2_apply, val_main_call10_cst_apply, val_main_call10_v1_apply, val_main_call10_v0_apply,
    dotW_5, dotG_5, one_word]
  rfl

/-- and where it is kept. -/
theorem kept_5 (R : Fin 37888) (C : Fin 1536) : val_main_call11_v0 (F := Ideal) E U (ix2 R C)
    = IntOp.andi (IntOp.cmpi .eq (U (ix1 (tile R))) 1#32) (IntOp.cmpi .eq (E (ix1 (tile R))) 5#32) := by
  rw [val_main_call11_v0_apply, val_main_v80_apply, val_main_v79_apply, val_main_v78_apply, val_main_c_5_apply, exp_row, use_row]
  rfl

/-- Expert 6's first product, -/
theorem dotW_6 (R : Fin 37888) (C : Fin 1536) : val_main_v84 (F := Ideal) H W (ix2 R C) = dot H W R C 6 := by
  rw [val_main_v84_apply]
  unfold dot
  refine Finset.sum_congr rfl fun k _ => ?_
  rw [val_main_v8_apply, val_main_v83_apply, val_main_v82_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_6 (R : Fin 37888) (C : Fin 1536) : val_main_v88 (F := Ideal) H G (ix2 R C) = dot H G R C 6 := by
  rw [val_main_v88_apply]
  unfold dot
  refine Finset.sum_congr rfl fun k _ => ?_
  rw [val_main_v8_apply, val_main_v87_apply, val_main_v86_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_6 (R : Fin 37888) (C : Fin 1536) : val_main_v89 (F := Ideal) H W G (ix2 R C) = gated H W G R C 6 := by
  rw [val_main_v89_apply, val_main_v85_apply, val_main_call12_v5_apply, val_main_call12_v4_apply, val_main_call12_cst_0_apply,
    val_main_call12_v3_apply, val_main_call12_v2_apply, val_main_call12_cst_apply, val_main_call12_v1_apply, val_main_call12_v0_apply,
    dotW_6, dotG_6, one_word]
  rfl

/-- and where it is kept. -/
theorem kept_6 (R : Fin 37888) (C : Fin 1536) : val_main_call13_v0 (F := Ideal) E U (ix2 R C)
    = IntOp.andi (IntOp.cmpi .eq (U (ix1 (tile R))) 1#32) (IntOp.cmpi .eq (E (ix1 (tile R))) 6#32) := by
  rw [val_main_call13_v0_apply, val_main_v92_apply, val_main_v91_apply, val_main_v90_apply, val_main_c_6_apply, exp_row, use_row]
  rfl

/-- Expert 7's first product, -/
theorem dotW_7 (R : Fin 37888) (C : Fin 1536) : val_main_v96 (F := Ideal) H W (ix2 R C) = dot H W R C 7 := by
  rw [val_main_v96_apply]
  unfold dot
  refine Finset.sum_congr rfl fun k _ => ?_
  rw [val_main_v8_apply, val_main_v95_apply, val_main_v94_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- its second, -/
theorem dotG_7 (R : Fin 37888) (C : Fin 1536) : val_main_v100 (F := Ideal) H G (ix2 R C) = dot H G R C 7 := by
  rw [val_main_v100_apply]
  unfold dot
  refine Finset.sum_congr rfl fun k _ => ?_
  rw [val_main_v8_apply, val_main_v99_apply, val_main_v98_apply]
  refine congrArg₂ (· * ·) (congrArg H ?_) (congrArg G ?_)
  · funext a
    fin_cases a <;> rfl
  · have hk := k.isLt
    have hC := C.isLt
    funext a
    fin_cases a <;> refine Fin.ext ?_ <;> simp [ix2, ix4] <;> omega

/-- its gated product, -/
theorem gated_7 (R : Fin 37888) (C : Fin 1536) : val_main_v101 (F := Ideal) H W G (ix2 R C) = gated H W G R C 7 := by
  rw [val_main_v101_apply, val_main_v97_apply, val_main_call14_v5_apply, val_main_call14_v4_apply, val_main_call14_cst_0_apply,
    val_main_call14_v3_apply, val_main_call14_v2_apply, val_main_call14_cst_apply, val_main_call14_v1_apply, val_main_call14_v0_apply,
    dotW_7, dotG_7, one_word]
  rfl

/-- and where it is kept. -/
theorem kept_7 (R : Fin 37888) (C : Fin 1536) : val_main_call15_v0 (F := Ideal) E U (ix2 R C)
    = IntOp.andi (IntOp.cmpi .eq (U (ix1 (tile R))) 1#32) (IntOp.cmpi .eq (E (ix1 (tile R))) 7#32) := by
  rw [val_main_call15_v0_apply, val_main_v104_apply, val_main_v103_apply, val_main_v102_apply, val_main_c_7_apply, exp_row, use_row]
  rfl

/-- The reference at an index. -/
theorem ref_read (R : Fin 37888) (C : Fin 1536) (hE : (E (ix1 (tile R))).toNat < 8) :
    val_main_v106 (F := Ideal) E U H W G (ix2 R C)
      = if U (ix1 (tile R)) = 1#32 then gated H W G R C ⟨(E (ix1 (tile R))).toNat, hE⟩ else 0 := by
  have e : val_main_v106 (F := Ideal) E U H W G (ix2 R C) = val_main_v105 (F := Ideal) E U H W G (ix2 R C) := rfl
  rw [e, val_main_v105_apply, kept_7, gated_7, val_main_v93_apply, kept_6, gated_6, val_main_v81_apply, kept_5, gated_5, val_main_v69_apply, kept_4, gated_4, val_main_v57_apply, kept_3, gated_3, val_main_v45_apply, kept_2, gated_2, val_main_v33_apply, kept_1, gated_1, val_main_v21_apply, kept_0, gated_0, none_chosen]
  exact Cert.Experts.pick (gated H W G R C) (U (ix1 (tile R))) (E (ix1 (tile R))) 0 hE

end Cert.Reference6Ideal.Value

end
-- ==== Proof.UpValue.lean ====
/- The up projection: what a tile leaves in its result block, and the array the run leaves against the reference.
   Hand-written. -/
module

public import proofs.«01_k».proof.Proof.UpFrameIdeal
public import proofs.«01_k».proof.Proof.UpRef

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Kernel6Ideal.Tiles
open Cert.Reference6Ideal.Value (tile dot gated ref_read)
open scoped BigOperators

variable (m : (ℓ : Loc nD τ sig) → Buf (Elt Ideal) ℓ)

/-- The block of rows a point takes, -/
theorem tr0_eq : ∀ i : grid0.Coords, cc0_transform_0 i = ![(i 1).val, 0] := by decide +kernel
/-- and the block of the result it leaves. -/
theorem tr3_eq : ∀ i : grid0.Coords, cc0_transform_3 i = ![(i 1).val, (i 0).val] := by decide +kernel

/-- Each block of the result has its point. -/
theorem point : ∀ (j : Fin 3) (i : Fin 74), ∃ t : Fin grid0.N, (grid0.coords t 0).val = j.val ∧ (grid0.coords t 1).val = i.val := by
  decide +kernel

/-- Every point writes its block back. -/
theorem flushes : ∀ t : Fin grid0.N, Pipeline.Window.flushOf grid0 true cc0_transform_3 t = true := by decide +kernel

/-- A tile's row times a column of its weights. -/
def tileDot (a : Vec Ideal S512x4096 .bf16) (b : Vec Ideal S1x1x4096x512 .f32) (r l : Fin 512) : EReal :=
  ∑ k : Fin 4096, a (ix2 r k) * b (ix4 0 0 k l)

/-- The gated product of a tile's rows with its two weights, at an index. -/
theorem pay_read (a : Vec Ideal S512x4096 .bf16) (b g : Vec Ideal S1x1x4096x512 .f32) (r l : Fin 512) :
    k0_pay3 a (k0_pay1 b) (k0_pay2 g) (ix2 r l) = tileDot a b r l * Ideal.logistic (tileDot a b r l) * tileDot a g r l := by
  unfold tileDot
  pointwise [k0_pay3, k0_pay1, k0_pay2]

/-- A tile that is not in use is left zero. -/
theorem zero_read (y : S512x512.Idx) : k0_pay4 (F := Ideal) y = (0 : EReal) := Ideal.ofBits_zero_bf16

variable (hO : Ok m) (hE : ∀ k : Fin 74, (te m k).toNat < 8)

/-- A tile's rows. -/
theorem rows (c : Dev nD) (t : Fin (cfgM m hO).N) (r : Fin 512) (k : Fin 4096) (R : Fin 37888)
    (hR : R.val = (grid0.coords t 1).val * 512 + r.val) :
    (iblk m hO c 0 t : S512x4096.Idx → Elt Ideal .bf16) (ix2 r k) = (m ((c : Thread nD τ).loc main_arg2)) (ix2 R k) := by
  show (V m c main_arg2) _ = (V m c main_arg2) _
  congr 1
  funext a
  refine Fin.ext ?_
  show cc0_transform_0 (grid0.coords t) a * _ + 1 * (ix2 r k a).val = _
  rw [tr0_eq]
  fin_cases a
  · show (grid0.coords t 1).val * 512 + 1 * r.val = R.val
    omega
  · show 0 * 4096 + 1 * k.val = k.val
    omega

/-- A tile's first weights: its expert's. -/
theorem weights1 (c : Dev nD) (t : Fin (cfgM m hO).N) (k : Fin 4096) (l : Fin 512) (C : Fin 1536)
    (hC : C.val = (grid0.coords t 0).val * 512 + l.val) :
    (iblk m hO c 1 t : S1x1x4096x512.Idx → Elt Ideal .f32) (ix4 0 0 k l)
      = (m ((c : Thread nD τ).loc main_arg3)) (ix4 0 (⟨(te m (grid0.coords t 1)).toNat, hE _⟩ : Fin 8) k C) := by
  show (V m c main_arg3) _ = (V m c main_arg3) _
  congr 1
  funext a
  refine Fin.ext ?_
  show cc0_transform_1 k0_off1_inb numel1_S1 (tbl m) (grid0.coords t) a * _ + 1 * (ix4 (0 : Fin 1) (0 : Fin 1) k l a).val = _
  rw [tr1_eq]
  fin_cases a
  · rfl
  · show (te m (grid0.coords t 1)).toNat * 1 + 1 * 0 = (te m (grid0.coords t 1)).toNat
    omega
  · show 0 * 4096 + 1 * k.val = k.val
    omega
  · show (grid0.coords t 0).val * 512 + 1 * l.val = C.val
    omega

/-- A tile's second weights: its expert's. -/
theorem weights2 (c : Dev nD) (t : Fin (cfgM m hO).N) (k : Fin 4096) (l : Fin 512) (C : Fin 1536)
    (hC : C.val = (grid0.coords t 0).val * 512 + l.val) :
    (iblk m hO c 2 t : S1x1x4096x512.Idx → Elt Ideal .f32) (ix4 0 0 k l)
      = (m ((c : Thread nD τ).loc main_arg4)) (ix4 0 (⟨(te m (grid0.coords t 1)).toNat, hE _⟩ : Fin 8) k C) := by
  show (V m c main_arg4) _ = (V m c main_arg4) _
  congr 1
  funext a
  refine Fin.ext ?_
  show cc0_transform_2 k0_off1_inb numel1_S1 (tbl m) (grid0.coords t) a * _ + 1 * (ix4 (0 : Fin 1) (0 : Fin 1) k l a).val = _
  rw [tr2_eq]
  fin_cases a
  · rfl
  · show (te m (grid0.coords t 1)).toNat * 1 + 1 * 0 = (te m (grid0.coords t 1)).toNat
    omega
  · show 0 * 4096 + 1 * k.val = k.val
    omega
  · show (grid0.coords t 0).val * 512 + 1 * l.val = C.val
    omega

/-- The run leaves its result array as the grid's points fill it, and its arguments as they were. -/
theorem run_out (hU : Use m) (g : Dev nD → PrngReg) :
    θ_run defs (onTc (τ := τ) (main (F := Ideal))) ⟨m, fun _ => 0, g⟩ fun r => ∀ c : Dev nD,
      r.2.mem ((c : Thread nD τ).loc main_v0) = (dats m hO 0 c).arrAt 3 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 3, h.2 c⟩) (θ_run_and (run_main m g hO hU) (unchanged m g hO hU))

include hE in
/-- The array the run leaves is the reference's. -/
theorem final (c : Dev nD) :
    (dats m hO 0 c).arrAt 3 (cfgM m hO).N
      = Cert.Reference6Ideal.Read.val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain rfl : c = 0 := Subsingleton.elim _ _
  refine (dats m hO 0 0).arrAt_eq_of_emb 3 _ (fun t hf (y : S512x512.Idx) => ?_) (fun (i : S37888x1536.Idx) => ?_)
  · have hj : (grid0.coords t 0).val < 3 := (grid0.coords t 0).isLt
    have hi : (grid0.coords t 1).val < 74 := (grid0.coords t 1).isLt
    obtain ⟨r, hr⟩ : ∃ r : Fin 512, r = y 0 := ⟨_, rfl⟩
    obtain ⟨l, hl⟩ : ∃ l : Fin 512, l = y 1 := ⟨_, rfl⟩
    have ey : y = ix2 r l := by
      funext a; fin_cases a
      · exact hr.symm
      · exact hl.symm
    obtain ⟨R, hR⟩ : ∃ R : Fin 37888, R.val = (grid0.coords t 1).val * 512 + r.val := ⟨⟨_, by omega⟩, rfl⟩
    obtain ⟨C, hC⟩ : ∃ C : Fin 1536, C.val = (grid0.coords t 0).val * 512 + l.val := ⟨⟨_, by omega⟩, rfl⟩
    have et : tile R = grid0.coords t 1 := Fin.ext (by
      show R.val / 512 = (grid0.coords t 1).val
      omega)
    have emb : (((cfgM m hO).win 3).blk t).view.emb y = (ix2 R C : S37888x1536.Idx) := by
      funext a
      refine Fin.ext ?_
      show cc0_transform_3 (grid0.coords t) a * _ + 1 * (y a).val = _
      rw [tr3_eq, ey]
      fin_cases a
      · show (grid0.coords t 1).val * 512 + 1 * r.val = R.val
        omega
      · show (grid0.coords t 0).val * 512 + 1 * l.val = C.val
        omega
    rw [emb]
    have hE' : ((m (((0 : Dev nD) : Thread nD τ).loc main_arg0)) (ix1 (tile R))).toNat < 8 := hE (tile R)
    refine Eq.trans ?_ (ref_read _ _ _ _ _ R C hE').symm
    rw [after0_3]
    show outsAt0 m hO 0 t y = _
    rw [ey]
    have eU : (m (((0 : Dev nD) : Thread nD τ).loc main_arg1)) (ix1 (tile R)) = tv m (grid0.coords t 1) := congrArg (tv m) et
    have eE : (⟨((m (((0 : Dev nD) : Thread nD τ).loc main_arg0)) (ix1 (tile R))).toNat, hE'⟩ : Fin 8)
        = ⟨(te m (grid0.coords t 1)).toNat, hE _⟩ := Fin.ext (congrArg (fun k => (te m k).toNat) et)
    rw [eU, eE]
    unfold outsAt0
    by_cases hu : tv m (grid0.coords t 1) = 1#32
    · rw [if_pos hu, if_pos hu]
      refine (pay_read _ _ _ r l).trans ?_
      have e1 : tileDot (iblk m hO 0 0 t) (iblk m hO 0 1 t) r l = dot (m (((0 : Dev nD) : Thread nD τ).loc main_arg2))
          (m (((0 : Dev nD) : Thread nD τ).loc main_arg3)) R C ⟨(te m (grid0.coords t 1)).toNat, hE _⟩ := by
        unfold tileDot dot
        exact Finset.sum_congr rfl fun k _ => congrArg₂ (· * ·) (rows m hO 0 t r k R hR) (weights1 m hO hE 0 t k l C hC)
      have e2 : tileDot (iblk m hO 0 0 t) (iblk m hO 0 2 t) r l = dot (m (((0 : Dev nD) : Thread nD τ).loc main_arg2))
          (m (((0 : Dev nD) : Thread nD τ).loc main_arg4)) R C ⟨(te m (grid0.coords t 1)).toNat, hE _⟩ := by
        unfold tileDot dot
        exact Finset.sum_congr rfl fun k _ => congrArg₂ (· * ·) (rows m hO 0 t r k R hR) (weights2 m hO hE 0 t k l C hC)
      unfold gated
      exact congrArg₂ (· * ·) (congrArg₂ (· * ·) e1 (congrArg Ideal.logistic e1)) e2
    · rw [if_neg hu, if_neg hu]
      exact zero_read _
  · obtain ⟨R, hR⟩ : ∃ R : Fin 37888, R = i 0 := ⟨_, rfl⟩
    obtain ⟨C, hC⟩ : ∃ C : Fin 1536, C = i 1 := ⟨_, rfl⟩
    obtain ⟨t, h0, h1⟩ := point (⟨C.val / 512, by omega⟩ : Fin 3) (⟨R.val / 512, by omega⟩ : Fin 74)
    refine ⟨t, flushes t, ?_⟩
    refine (((cfgM m hO).win 3).emb_mem_blk_iff t i).mpr fun a => ?_
    show cc0_transform_3 (grid0.coords t) a * S512x512.size a ≤ (i a).val ∧ (i a).val < cc0_transform_3 (grid0.coords t) a * S512x512.size a + S512x512.size a
    rw [tr3_eq]
    fin_cases a
    · show (grid0.coords t 1).val * 512 ≤ (i 0).val ∧ (i 0).val < (grid0.coords t 1).val * 512 + 512
      rw [← hR, h1]
      show R.val / 512 * 512 ≤ R.val ∧ R.val < R.val / 512 * 512 + 512
      omega
    · show (grid0.coords t 0).val * 512 ≤ (i 1).val ∧ (i 1).val < (grid0.coords t 0).val * 512 + 512
      rw [← hC, h0]
      show C.val / 512 * 512 ≤ C.val ∧ C.val < C.val / 512 * 512 + 512
      omega

end Cert.Kernel6Ideal.Value

end
-- ==== Proof.DownRunIdeal.lean ====
/- The down projection of the experts' tiles: the program's run. This file holds what the body does at one tile in each of
   its three cases. Hand-written after the library's frame certificates. -/
module

public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.Kit
public import Idealize.ShloMosaic.Lib.Pipeline.ReadBack
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel7Ideal.Tiles

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions of the program's separation logic. -/
abbrev Asrt (F : FTy → Type) [FloatOps F] := sProp (MT nD τ sig Unit (Elt F) ℕ (UR sig nD τ) ℕ)
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S74 .i32 := Memref.whole main_arg0
abbrev htbM0_0 : tbM0_0.IsWhole := Memref.isWhole_whole _
abbrev tbM0_1 : Memref sig .tc .smem S74 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : Asrt F :=
  M.view.loc (c : Thread nD τ) ↦{fullShare.right} f

theorem PhiT0_eq (c : Dev nD) : (Pipeline.ΦT pre0 (tbl m) c : Asrt F) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c)))⟩) h

abbrev VO0_2 : View sig .tc .vmem S512x2048 .f32 := (Memref.whole cc0_stg2_0 : Memref sig .tc .vmem S512x2048 .f32).view
abbrev ms0_0 (hO : Ok m) (t : Fin (cfgM m hO).N) : Memref sig .tc .vmem S512x1536 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1536x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev scM0_0 : Memref sig .tc .vmem S1536x2048 .bf16 := Memref.whole cc0_scratch0

theorem PhiA0_eq (c : Dev nD) :
    (Pipeline.ΦA spec0 c : Asrt F)
      = iprop(iprop((∃ d, owns (c : Thread nD τ) scM0_0 fullShare d)) ∗ (∃ r, prngReg c r)) := by
  unfold Pipeline.ΦA; rw [scopedRest0_eq]; simp only [scM0_0, owns_whole]; try rfl

abbrev bodyAt0 (a : (pcfg0 (F := F)).Adm) (t : Fin (cfg0 a).N) : Prog (TpuEff nD τ sig (Elt F) Λ₀ .tc) PUnit :=
  cc0_moe_down (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (Memref.whole cc0_scratch0) (Memref.isWhole_whole _)

/-! ## The words a tile's case depends on -/

/-- Whether the tile is in use, as the program reads it from the second table. -/
abbrev wUse (c : Dev nD) (i : grid0.Coords) (xt1 : TbBuf0 (F := F) c tbM0_1) : BitVec 32 :=
  tbM0_1.view.readAt (Elt F) (Rect.unit (s := S74) (k0_off1 i) S1.size (k0_off1_inb i)).toLoadRect xt1 (Shape.Idx.first (numel1_S1.symm ▸ Nat.one_pos))
/-- The tile's expert, read from the first table. -/
abbrev wExp (c : Dev nD) (i : grid0.Coords) (xt0 : TbBuf0 (F := F) c tbM0_0) : BitVec 32 :=
  tbM0_0.view.readAt (Elt F) (Rect.unit (s := S74) (k0_off1 i) S1.size (k0_off1_inb i)).toLoadRect xt0 (Shape.Idx.first (numel1_S1.symm ▸ Nat.one_pos))
/-- The expert of the tile before. -/
abbrev wOld (c : Dev nD) (i : grid0.Coords) (xt0 : TbBuf0 (F := F) c tbM0_0) : BitVec 32 :=
  tbM0_0.view.readAt (Elt F) (Rect.unit (s := S74) (k0_off2 i) S1.size (k0_off2_inb i)).toLoadRect xt0 (Shape.Idx.first (numel1_S1.symm ▸ Nat.one_pos))

/-- The condition under which the weights are cast into the scratch. -/
abbrev cnd1 (i : grid0.Coords) (v1 v5 v9 : BitVec 32) : Prop :=
  (Scalar.cmpi .ne (Scalar.extui (Scalar.andi (Scalar.cmpi .eq v1 1#32) (Scalar.ori (Scalar.cmpi .eq (BitVec.ofNat 32 (i 1).val) 0#32) (Scalar.cmpi .ne v5 v9)))) 0#32) = 1#1

/-- It holds at a tile in use that is the first or has another expert than the tile before. -/
theorem cnd1_iff (i : grid0.Coords) (v1 v5 v9 : BitVec 32) : cnd1 i v1 v5 v9 ↔ v1 = 1#32 ∧ ((i 1).val = 0 ∨ v5 ≠ v9) := by
  have hi : (BitVec.ofNat 32 (i 1).val = 0#32) ↔ (i 1).val = 0 := by
    have h : (i 1).val < 74 := (i 1).isLt
    rw [← BitVec.toNat_inj, BitVec.toNat_ofNat, BitVec.toNat_ofNat]
    omega
  rw [← hi]
  have e : cnd1 i v1 v5 v9 ↔ BitVec.ofBool ((BitVec.ofBool (decide (v1 = 1#32)) &&& (BitVec.ofBool (decide (BitVec.ofNat 32 (i 1).val = 0#32))
      ||| BitVec.ofBool (!decide (v5 = v9)))).setWidth 32 != 0#32) = 1#1 := Iff.rfl
  rw [e]
  by_cases h1 : v1 = 1#32 <;> by_cases h2 : BitVec.ofNat 32 (i 1).val = 0#32 <;> by_cases h3 : v5 = v9 <;>
    simp only [h1, h2, h3, decide_true, decide_false, true_and, false_and, true_or, false_or, ne_eq, not_true_eq_false, not_false_eq_true, or_true, or_false, iff_true, iff_false] <;> decide

/-- The condition under which the product is stored: the tile is in use. -/
theorem cnd2_iff (v : BitVec 32) : k0_cond2 v = 1#1 ↔ v = 1#32 := by
  have e : k0_cond2 v = 1#1 ↔ BitVec.ofBool ((BitVec.ofBool (decide (v = 1#32))).setWidth 32 != 0#32) = 1#1 := Iff.rfl
  rw [e]
  by_cases h1 : v = 1#32 <;> simp only [h1, decide_true, decide_false, iff_true, iff_false] <;> decide

/-- The condition under which zeros are stored: the tile is not in use. -/
theorem cnd3_iff (v : BitVec 32) : k0_cond3 v = 1#1 ↔ v ≠ 1#32 := by
  have e : k0_cond3 v = 1#1 ↔ BitVec.ofBool ((BitVec.ofBool (decide (v = 1#32)) ^^^ 1#1).setWidth 32 != 0#32) = 1#1 := Iff.rfl
  rw [e]
  by_cases h1 : v = 1#32 <;> simp only [h1, decide_true, decide_false, ne_eq, not_true_eq_false, not_false_eq_true, iff_true, iff_false] <;> decide

/-- One of the two holds, so that no tile leaves its result block alone. -/
theorem live (v : BitVec 32) : (!(k0_cond2 v == 1#1) && !(k0_cond3 v == 1#1)) = false := by
  by_cases h : v = 1#32
  · simp [(cnd2_iff v).mpr h]
  · simp [(cnd3_iff v).mpr h]

/-! ## The body in each case -/

set_option maxHeartbeats 1000000 in
/-- A tile in use whose weights are new: they are cast into the scratch and the product is stored. -/
noncomputable def kernelRun0_A (c : Dev nD) (i : grid0.Coords) (arg4 : Memref sig .tc .vmem S512x1536 .bf16) (harg4 : arg4.IsWhole) (arg5 : Memref sig .tc .vmem S1x1x1536x2048 .f32) (harg5 : arg5.IsWhole) (arg6 : Memref sig .tc .vmem S512x2048 .f32) (harg6 : arg6.IsWhole) (arg7 : Memref sig .tc .vmem S1536x2048 .bf16) (harg7 : arg7.IsWhole)
    (x0 : Vec F S512x1536 .bf16) (x1 : Vec F S1x1x1536x2048 .f32) (xt0 : TbBuf0 (F := F) c tbM0_0) (xt1 : TbBuf0 (F := F) c tbM0_1)
    (h1 : cnd1 i (wUse c i xt1) (wExp c i xt0) (wOld c i xt0)) (h2 : k0_cond2 (wUse c i xt1) = 1#1) (h3 : ¬k0_cond3 (wUse c i xt1) = 1#1) :
    Σ' (L2 : List (View.Piece (Elt F) S512x2048 .f32)), { LT0 : List (View.Piece (Elt F) S1536x2048 .bf16) //
      ∀ (E : Set ℕ) (K : PUnit → Asrt F),
        iprop(owns (c : Thread nD τ) arg4 fullShare x0 ∗ owns (c : Thread nD τ) arg5 fullShare x1 ∗ (∃ d, owns (c : Thread nD τ) arg6 fullShare d) ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LT0) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7) K } := by
  refine ⟨?_, ?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, ⟨%ds0, %fs0, -, HS0⟩, HT0, HT1, Hk⟩
    obtain rfl := harg4.eq_unread hf0; obtain rfl := harg5.eq_unread hf1
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HS0]; · iexists _; iexact HS0
    isplitl [HT0]; · iexact HT0
    iexact HT1

set_option maxHeartbeats 1000000 in
/-- A tile in use with the expert of the tile before: the scratch is read as it is, and the product is stored. -/
noncomputable def kernelRun0_B (c : Dev nD) (i : grid0.Coords) (arg4 : Memref sig .tc .vmem S512x1536 .bf16) (harg4 : arg4.IsWhole) (arg5 : Memref sig .tc .vmem S1x1x1536x2048 .f32) (harg5 : arg5.IsWhole) (arg6 : Memref sig .tc .vmem S512x2048 .f32) (harg6 : arg6.IsWhole) (arg7 : Memref sig .tc .vmem S1536x2048 .bf16) (harg7 : arg7.IsWhole)
    (x0 : Vec F S512x1536 .bf16) (x1 : Vec F S1x1x1536x2048 .f32) (xs0 : Vec F S1536x2048 .bf16) (xt0 : TbBuf0 (F := F) c tbM0_0) (xt1 : TbBuf0 (F := F) c tbM0_1)
    (h1 : ¬cnd1 i (wUse c i xt1) (wExp c i xt0) (wOld c i xt0)) (h2 : k0_cond2 (wUse c i xt1) = 1#1) (h3 : ¬k0_cond3 (wUse c i xt1) = 1#1) :
    { L2 : List (View.Piece (Elt F) S512x2048 .f32) //
      ∀ (E : Set ℕ) (K : PUnit → Asrt F),
        iprop(owns (c : Thread nD τ) arg4 fullShare x0 ∗ owns (c : Thread nD τ) arg5 fullShare x1 ∗ (∃ d, owns (c : Thread nD τ) arg6 fullShare d) ∗ owns (c : Thread nD τ) arg7 fullShare xs0 ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ owns (c : Thread nD τ) arg7 fullShare xs0 ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, ⟨%fs0, %hfs0, HS0⟩, HT0, HT1, Hk⟩
    obtain rfl := harg4.eq_unread hf0; obtain rfl := harg5.eq_unread hf1; obtain rfl := harg7.eq_unread hfs0
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HS0]
    · iexists _; isplitr; · ipureintro; exact harg7.read_unread _
      iexact HS0
    isplitl [HT0]; · iexact HT0
    iexact HT1

set_option maxHeartbeats 1000000 in
/-- A tile not in use: zeros are stored, and the scratch is left as it is. -/
noncomputable def kernelRun0_C (c : Dev nD) (i : grid0.Coords) (arg4 : Memref sig .tc .vmem S512x1536 .bf16) (harg4 : arg4.IsWhole) (arg5 : Memref sig .tc .vmem S1x1x1536x2048 .f32) (harg5 : arg5.IsWhole) (arg6 : Memref sig .tc .vmem S512x2048 .f32) (harg6 : arg6.IsWhole) (arg7 : Memref sig .tc .vmem S1536x2048 .bf16) (harg7 : arg7.IsWhole)
    (x0 : Vec F S512x1536 .bf16) (x1 : Vec F S1x1x1536x2048 .f32) (xt0 : TbBuf0 (F := F) c tbM0_0) (xt1 : TbBuf0 (F := F) c tbM0_1)
    (h1 : ¬cnd1 i (wUse c i xt1) (wExp c i xt0) (wOld c i xt0)) (h2 : ¬k0_cond2 (wUse c i xt1) = 1#1) (h3 : k0_cond3 (wUse c i xt1) = 1#1) :
    { L2 : List (View.Piece (Elt F) S512x2048 .f32) //
      ∀ (E : Set ℕ) (K : PUnit → Asrt F),
        iprop(owns (c : Thread nD τ) arg4 fullShare x0 ∗ owns (c : Thread nD τ) arg5 fullShare x1 ∗ (∃ d, owns (c : Thread nD τ) arg6 fullShare d) ∗ (∃ d, owns (c : Thread nD τ) arg7 fullShare d) ∗ tbPt0 c tbM0_0 xt0 ∗ tbPt0 c tbM0_1 xt1
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ (∃ d, owns (c : Thread nD τ) arg7 fullShare d) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg4 harg4 arg5 harg5 arg6 harg6 arg7 harg7) K } := by
  refine ⟨?_, fun E K => ?run⟩
  case run =>
    simp only [cc0_moe_down_eq_skeleton]; unfold cc0_moe_down_skel
    unfold owns
    iintro ⟨⟨%f0, %hf0, H0⟩, ⟨%f1, %hf1, H1⟩, ⟨%d2, %f2, -, H2⟩, HS0, HT0, HT1, Hk⟩
    obtain rfl := harg4.eq_unread hf0; obtain rfl := harg5.eq_unread hf1
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]; · iexists _; iexact H2
    isplitl [HS0]; · iexact HS0
    isplitl [HT0]; · iexact HT0
    iexact HT1

end Cert.Kernel7Ideal.Tiles

end
-- ==== Proof.DownFrameIdeal.lean ====
/- The down projection of the experts' tiles: the program's run at any tables whose experts are below eight and whose tiles
   in use come first. Hand-written after the library's frame certificates. -/
module

public import proofs.«01_k».proof.Proof.DownRunIdeal
public import Idealize.ShloMosaic.Lib.Claim

@[expose] public section

set_option maxRecDepth 16384

noncomputable section

namespace Cert.Kernel7Ideal.Tiles

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The tables' words -/

/-- Tile `k`'s expert. -/
abbrev te (k : Fin 74) : BitVec 32 := (tbl m 0 : S74.Idx → Elt F .i32) (ix1 k)
/-- Whether tile `k` is in use. -/
abbrev tv (k : Fin 74) : BitVec 32 := (tbl m 1 : S74.Idx → Elt F .i32) (ix1 k)

/-- A tile in use comes after tiles in use. -/
def Use : Prop := ∀ (k : Fin 74) (h : 0 < k.val), tv m k = 1#32 → tv m ⟨k.val - 1, by omega⟩ = 1#32

theorem wUse_eq (c : Dev nD) (i : grid0.Coords) : wUse c i (tbl m 1) = tv m (i 1) := by
  show (tbl m 1 : S74.Idx → Elt F .i32) _ = (tbl m 1 : S74.Idx → Elt F .i32) _
  congr 1
  funext a
  fin_cases a
  refine Fin.ext ?_
  show k0_off1 i 0 + 1 * 0 = (i 1).val
  rw [k0_off1_eq]
  rfl

theorem wExp_eq (c : Dev nD) (i : grid0.Coords) : wExp c i (tbl m 0) = te m (i 1) := by
  show (tbl m 0 : S74.Idx → Elt F .i32) _ = (tbl m 0 : S74.Idx → Elt F .i32) _
  congr 1
  funext a
  fin_cases a
  refine Fin.ext ?_
  show k0_off1 i 0 + 1 * 0 = (i 1).val
  rw [k0_off1_eq]
  rfl

theorem off2_eq : ∀ i : grid0.Coords, k0_off2 i = ![(i 1).val - 1] := by decide +kernel

theorem wOld_eq (c : Dev nD) (i : grid0.Coords) : wOld c i (tbl m 0) = te m ⟨(i 1).val - 1, by have := (i 1).isLt; have h : (i 1).val < 74 := this; omega⟩ := by
  show (tbl m 0 : S74.Idx → Elt F .i32) _ = (tbl m 0 : S74.Idx → Elt F .i32) _
  congr 1
  funext a
  fin_cases a
  refine Fin.ext ?_
  show k0_off2 i 0 + 1 * 0 = (i 1).val - 1
  rw [off2_eq]
  rfl

/-- The weights' block at a point: the tile's expert's. -/
theorem tr1_eq (i : grid0.Coords) :
    cc0_transform_1 k0_off1_inb numel1_S1 (tbl m) i = ![0, (te m (i 1)).toNat, 0, (i 0).val] := by
  have h : (tbl m).at 0 (Rect.unit (s := S74) (k0_off1 i) S1.size (k0_off1_inb i)) numel1_S1 = te m (i 1) := wExp_eq m 0 i
  have h0 : (BitVec.ofNat 32 (i 0).val).toNat = (i 0).val := by
    have h : (i 0).val < 2 := (i 0).isLt
    rw [BitVec.toNat_ofNat]
    omega
  funext a
  fin_cases a
  · rfl
  · exact congrArg BitVec.toNat h
  · rfl
  · exact h0

/-- The point before one that is not on the first tile. -/
theorem before : ∀ t : Fin grid0.N, ∀ h : (grid0.coords t 1).val ≠ 0, t.val ≠ 0 ∧
    (grid0.coords ⟨t.val - 1, lt_of_le_of_lt (Nat.sub_le _ _) t.isLt⟩ 0).val = (grid0.coords t 0).val
    ∧ (grid0.coords ⟨t.val - 1, lt_of_le_of_lt (Nat.sub_le _ _) t.isLt⟩ 1).val = (grid0.coords t 1).val - 1 := by decide +kernel

/-- Two points with the same weights' block take the same weights. -/
theorem iblk1_congr (hO : Ok m) (c : Dev nD) (t s : Fin (cfgM m hO).N)
    (h : cc0_transform_1 k0_off1_inb numel1_S1 (tbl m) (grid0.coords t) = cc0_transform_1 k0_off1_inb numel1_S1 (tbl m) (grid0.coords s)) :
    (iblk m hO c 1 t : S1x1x1536x2048.Idx → Elt F .f32) = iblk m hO c 1 s := by
  funext y
  show (V m c main_arg3) _ = (V m c main_arg3) _
  congr 1
  funext a
  refine Fin.ext ?_
  show cc0_transform_1 k0_off1_inb numel1_S1 (tbl m) (grid0.coords t) a * _ + 1 * (y a).val = cc0_transform_1 k0_off1_inb numel1_S1 (tbl m) (grid0.coords s) a * _ + 1 * (y a).val
  rw [h]

/-! ## What the body leaves, case by case -/

/-- The scratch as a view, through which its contents are stated. -/
abbrev VS0_0 : View sig .tc .vmem S1536x2048 .bf16 := scM0_0.view

section
variable (c : Dev nD) (i : grid0.Coords) (arg4 : Memref sig .tc .vmem S512x1536 .bf16) (harg4 : arg4.IsWhole) (arg5 : Memref sig .tc .vmem S1x1x1536x2048 .f32) (harg5 : arg5.IsWhole) (arg6 : Memref sig .tc .vmem S512x2048 .f32) (harg6 : arg6.IsWhole) (arg7 : Memref sig .tc .vmem S1536x2048 .bf16) (harg7 : arg7.IsWhole)
    (x0 : Vec F S512x1536 .bf16) (x1 : Vec F S1x1x1536x2048 .f32) (xs0 : Vec F S1536x2048 .bf16) (xt0 : TbBuf0 (F := F) c tbM0_0) (xt1 : TbBuf0 (F := F) c tbM0_1)

theorem cover0_A_2 (h1 : cnd1 i (wUse c i xt1) (wExp c i xt0) (wOld c i xt0)) (h2 : k0_cond2 (wUse c i xt1) = 1#1) (h3 : ¬k0_cond3 (wUse c i xt1) = 1#1) (y : S512x2048.Idx) :
    ∃ pc ∈ (kernelRun0_A c i arg4 harg4 arg5 harg5 arg6 harg6 arg7 harg7 x0 x1 xt0 xt1 h1 h2 h3).1, y ∈ pc.1.set :=
  View.cover_of_tiledL (kernelRun0_A c i arg4 harg4 arg5 harg5 arg6 harg6 arg7 harg7 x0 x1 xt0 xt1 h1 h2 h3).1 S512x2048.size (by sl_kernel_rfl) y

theorem scover0_A_0 (h1 : cnd1 i (wUse c i xt1) (wExp c i xt0) (wOld c i xt0)) (h2 : k0_cond2 (wUse c i xt1) = 1#1) (h3 : ¬k0_cond3 (wUse c i xt1) = 1#1) (y : S1536x2048.Idx) :
    ∃ pc ∈ (kernelRun0_A c i arg4 harg4 arg5 harg5 arg6 harg6 arg7 harg7 x0 x1 xt0 xt1 h1 h2 h3).2.1, y ∈ pc.1.set :=
  View.cover_of_tiledL (kernelRun0_A c i arg4 harg4 arg5 harg5 arg6 harg6 arg7 harg7 x0 x1 xt0 xt1 h1 h2 h3).2.1 S1536x2048.size (by sl_kernel_rfl) y

theorem cover0_B_2 (h1 : ¬cnd1 i (wUse c i xt1) (wExp c i xt0) (wOld c i xt0)) (h2 : k0_cond2 (wUse c i xt1) = 1#1) (h3 : ¬k0_cond3 (wUse c i xt1) = 1#1) (y : S512x2048.Idx) :
    ∃ pc ∈ (kernelRun0_B c i arg4 harg4 arg5 harg5 arg6 harg6 arg7 harg7 x0 x1 xs0 xt0 xt1 h1 h2 h3).1, y ∈ pc.1.set :=
  View.cover_of_tiledL (kernelRun0_B c i arg4 harg4 arg5 harg5 arg6 harg6 arg7 harg7 x0 x1 xs0 xt0 xt1 h1 h2 h3).1 S512x2048.size (by sl_kernel_rfl) y

theorem cover0_C_2 (h1 : ¬cnd1 i (wUse c i xt1) (wExp c i xt0) (wOld c i xt0)) (h2 : ¬k0_cond2 (wUse c i xt1) = 1#1) (h3 : k0_cond3 (wUse c i xt1) = 1#1) (y : S512x2048.Idx) :
    ∃ pc ∈ (kernelRun0_C c i arg4 harg4 arg5 harg5 arg6 harg6 arg7 harg7 x0 x1 xt0 xt1 h1 h2 h3).1, y ∈ pc.1.set :=
  View.cover_of_tiledL (kernelRun0_C c i arg4 harg4 arg5 harg5 arg6 harg6 arg7 harg7 x0 x1 xt0 xt1 h1 h2 h3).1 S512x2048.size (by sl_kernel_rfl) y

/-- New weights: the product with the weights just cast, -/
theorem out0_A_2 (h1 : cnd1 i (wUse c i xt1) (wExp c i xt0) (wOld c i xt0)) (h2 : k0_cond2 (wUse c i xt1) = 1#1) (h3 : ¬k0_cond3 (wUse c i xt1) = 1#1) :
    VO0_2.read (Elt F) (VO0_2.writes (Elt F) VO0_2.junk (kernelRun0_A c i arg4 harg4 arg5 harg5 arg6 harg6 arg7 harg7 x0 x1 xt0 xt1 h1 h2 h3).1)
      = k0_pay2 x0 (k0_pay1 x1) := by
  frame_out

/-- which the scratch keeps; -/
theorem sout0_A_0 (h1 : cnd1 i (wUse c i xt1) (wExp c i xt0) (wOld c i xt0)) (h2 : k0_cond2 (wUse c i xt1) = 1#1) (h3 : ¬k0_cond3 (wUse c i xt1) = 1#1) :
    VS0_0.read (Elt F) (VS0_0.writes (Elt F) VS0_0.junk (kernelRun0_A c i arg4 harg4 arg5 harg5 arg6 harg6 arg7 harg7 x0 x1 xt0 xt1 h1 h2 h3).2.1)
      = k0_pay1 x1 := by
  frame_out

/-- the weights of the tile before: the product with the scratch; -/
theorem out0_B_2 (h1 : ¬cnd1 i (wUse c i xt1) (wExp c i xt0) (wOld c i xt0)) (h2 : k0_cond2 (wUse c i xt1) = 1#1) (h3 : ¬k0_cond3 (wUse c i xt1) = 1#1) :
    VO0_2.read (Elt F) (VO0_2.writes (Elt F) VO0_2.junk (kernelRun0_B c i arg4 harg4 arg5 harg5 arg6 harg6 arg7 harg7 x0 x1 xs0 xt0 xt1 h1 h2 h3).1)
      = k0_pay2 x0 xs0 := by
  frame_out

/-- not in use: zeros. -/
theorem out0_C_2 (h1 : ¬cnd1 i (wUse c i xt1) (wExp c i xt0) (wOld c i xt0)) (h2 : ¬k0_cond2 (wUse c i xt1) = 1#1) (h3 : k0_cond3 (wUse c i xt1) = 1#1) :
    VO0_2.read (Elt F) (VO0_2.writes (Elt F) VO0_2.junk (kernelRun0_C c i arg4 harg4 arg5 harg5 arg6 harg6 arg7 harg7 x0 x1 xt0 xt1 h1 h2 h3).1)
      = k0_pay3 (F := F) := by
  frame_out

end

/-! ## The pipeline's proof data -/

/-- What the result block holds after the point `t`. -/
def outsAt0 (hO : Ok m) (c : Dev nD) (t : Fin (cfgM m hO).N) : Vec F S512x2048 .f32 :=
  if tv m (grid0.coords t 1) = 1#32 then k0_pay2 (iblk m hO c 0 t) (k0_pay1 (iblk m hO c 1 t)) else k0_pay3 (F := F)

/-- What the scratch is known to hold before point `n`: the weights of the point before, if its tile is in use. -/
def Held (hO : Ok m) (c : Dev nD) (n : ℕ) (d : Vec F S1536x2048 .bf16) : Prop :=
  ∀ s : Fin (cfgM m hO).N, s.val + 1 = n → tv m (grid0.coords s 1) = 1#32 → d = k0_pay1 (iblk m hO c 1 s)

/-- The invariant before point `n`. -/
def Phi (hO : Ok m) (c : Dev nD) (n : ℕ) : Asrt F :=
  iprop(((∃ d, ⌜Held m hO c n d⌝ ∗ owns (c : Thread nD τ) scM0_0 fullShare d) ∗ (∃ r, prngReg c r)) ∗ tbPt0 c tbM0_0 (tbl m 0) ∗ tbPt0 c tbM0_1 (tbl m 1))

/-- The proof data of the pipeline. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem Phi_eq (hO : Ok m) (c : Dev nD) (t : Fin ((cfgM m hO).N + 1)) : (dats m hO 0 c).Φ t = Phi m hO c t.val := by dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body at a point -/

/-- What the body is called with at point `t`, -/
def bodyPre (hO : Ok m) (c : Dev nD) (t : Fin (cfgM m hO).N) : Asrt F :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : Asrt F :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- At a tile in use with the expert of the tile before, the scratch holds the tile's weights. -/
theorem held_kept (hO : Ok m) (hU : Use m) (c : Dev nD) (t : Fin (cfgM m hO).N) (d : Vec F S1536x2048 .bf16)
    (hd : Held m hO c t.val d) (hv : tv m (grid0.coords t 1) = 1#32) (hi : (grid0.coords t 1).val ≠ 0)
    (he : te m (grid0.coords t 1) = te m ⟨(grid0.coords t 1).val - 1, by have h : (grid0.coords t 1).val < 74 := (grid0.coords t 1).isLt; omega⟩) :
    d = k0_pay1 (iblk m hO c 1 t) := by
  obtain ⟨hz, hj, hk⟩ := before t hi
  have hs : t.val - 1 < (cfgM m hO).N := lt_of_le_of_lt (Nat.sub_le _ _) t.isLt
  have hk' : grid0.coords (⟨t.val - 1, hs⟩ : Fin grid0.N) 1 = (⟨(grid0.coords t 1).val - 1, by have h : (grid0.coords t 1).val < 74 := (grid0.coords t 1).isLt; omega⟩ : Fin 74) := Fin.ext hk
  have hj' : grid0.coords (⟨t.val - 1, hs⟩ : Fin grid0.N) 0 = grid0.coords t 0 := Fin.ext hj
  have hu := hU (grid0.coords t 1) (Nat.pos_of_ne_zero hi) hv
  refine (hd ⟨t.val - 1, hs⟩ (Nat.sub_add_cancel (Nat.pos_of_ne_zero hz)) ((congrArg (tv m) hk').trans hu)).trans ?_
  refine congrArg k0_pay1 (iblk1_congr m hO c _ _ ?_)
  rw [tr1_eq, tr1_eq, hj', he]
  exact congrArg (fun k => ![0, (te m k).toNat, 0, (grid0.coords t 0).val]) hk'

set_option maxHeartbeats 3200000 in
/-- The body at any point. -/
theorem sound_body (hO : Ok m) (hU : Use m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [Phi_eq, Phi_eq, Fin.val_succ, Fin.val_castSucc,
    show (dats m hO 0 c).owesAt () t.succ = (dats m hO 0 c).owesAt () t.castSucc from rfl,
    after0_0, after0_1, after0_2]
  unfold Phi outsAt0
  by_cases hv : tv m (grid0.coords t 1) = 1#32
  · have h2 : k0_cond2 (wUse c (grid0.coords t) (tbl m 1)) = 1#1 := by rw [cnd2_iff, wUse_eq]; exact hv
    have h3 : ¬k0_cond3 (wUse c (grid0.coords t) (tbl m 1)) = 1#1 := by rw [cnd3_iff, wUse_eq]; exact fun h => h hv
    rw [if_pos hv]
    by_cases h1 : cnd1 (grid0.coords t) (wUse c (grid0.coords t) (tbl m 1)) (wExp c (grid0.coords t) (tbl m 0)) (wOld c (grid0.coords t) (tbl m 0))
    · iintro ⟨⟨⟨⟨%d, %hd, HS0⟩, Hg⟩, ⟨HT0, HT1⟩⟩, Ho, ⟨%d0, H0⟩, ⟨%d1, H1⟩, ⟨%d2, H2⟩⟩
      iapply ((kernelRun0_A c (grid0.coords t) _ _ _ _ _ _ _ _ (iblk m hO c 0 t) (iblk m hO c 1 t) (tbl m 0) (tbl m 1) h1 h2 h3).2.2 Set.univ _)
      isplitl [H0]; · iexact H0
      isplitl [H1]; · iexact H1
      isplitl [H2]; · iexists _; iexact H2
      isplitl [HS0]; · iexists _; iexact HS0
      isplitl [HT0]; · iexact HT0
      isplitl [HT1]; · iexact HT1
      iintro ⟨H0, H1, ⟨%e2, H2⟩, ⟨%fT0, HS0⟩, HT0, HT1⟩
      isplitl [HS0 Hg HT0 HT1]
      · isplitl [HS0 Hg]
        · isplitl [HS0]
          · iexists (k0_pay1 (iblk m hO c 1 t)); isplitr
            · ipureintro
              intro s hs _
              have e : s = t := Fin.ext (Nat.succ.inj hs)
              rw [e]
            · unfold owns; iexists _; isplitr
              swap; · iexact HS0
              ipureintro
              exact (View.read_writes_of_cover _ _ _ _ _ (scover0_A_0 c _ _ _ _ _ _ _ _ _ _ _ _ _ h1 h2 h3)).trans (sout0_A_0 c _ _ _ _ _ _ _ _ _ _ _ _ _ h1 h2 h3)
          iexact Hg
        isplitl [HT0]; · iexact HT0
        iexact HT1
      isplitl [Ho]; · iexact Ho
      isplitl [H0]; · iexact H0
      isplitl [H1]; · iexact H1
      unfold owns; iexists _; isplitr
      swap; · iexact H2
      ipureintro
      exact (View.read_writes_of_cover _ _ _ _ _ (cover0_A_2 c _ _ _ _ _ _ _ _ _ _ _ _ _ h1 h2 h3)).trans (out0_A_2 c _ _ _ _ _ _ _ _ _ _ _ _ _ h1 h2 h3)
    · have h1' := h1
      rw [cnd1_iff, wUse_eq, wExp_eq, wOld_eq] at h1'
      have hi : (grid0.coords t 1).val ≠ 0 := fun h => h1' ⟨hv, .inl h⟩
      have he : te m (grid0.coords t 1) = te m ⟨(grid0.coords t 1).val - 1, by have h : (grid0.coords t 1).val < 74 := (grid0.coords t 1).isLt; omega⟩ :=
        not_not.mp fun h => h1' ⟨hv, .inr h⟩
      iintro ⟨⟨⟨⟨%d, %hd, HS0⟩, Hg⟩, ⟨HT0, HT1⟩⟩, Ho, ⟨%d0, H0⟩, ⟨%d1, H1⟩, ⟨%d2, H2⟩⟩
      have hd' := held_kept m hO hU c t d hd hv hi he
      subst hd'
      iapply ((kernelRun0_B c (grid0.coords t) _ _ _ _ _ _ _ _ (iblk m hO c 0 t) (iblk m hO c 1 t) (k0_pay1 (iblk m hO c 1 t)) (tbl m 0) (tbl m 1) h1 h2 h3).2 Set.univ _)
      isplitl [H0]; · iexact H0
      isplitl [H1]; · iexact H1
      isplitl [H2]; · iexists _; iexact H2
      isplitl [HS0]; · iexact HS0
      isplitl [HT0]; · iexact HT0
      isplitl [HT1]; · iexact HT1
      iintro ⟨H0, H1, ⟨%e2, H2⟩, HS0, HT0, HT1⟩
      isplitl [HS0 Hg HT0 HT1]
      · isplitl [HS0 Hg]
        · isplitl [HS0]
          · iexists (k0_pay1 (iblk m hO c 1 t)); isplitr
            · ipureintro
              intro s hs _
              have e : s = t := Fin.ext (Nat.succ.inj hs)
              rw [e]
            · iexact HS0
          iexact Hg
        isplitl [HT0]; · iexact HT0
        iexact HT1
      isplitl [Ho]; · iexact Ho
      isplitl [H0]; · iexact H0
      isplitl [H1]; · iexact H1
      unfold owns; iexists _; isplitr
      swap; · iexact H2
      ipureintro
      exact (View.read_writes_of_cover _ _ _ _ _ (cover0_B_2 c _ _ _ _ _ _ _ _ _ _ _ _ _ _ h1 h2 h3)).trans (out0_B_2 c _ _ _ _ _ _ _ _ _ _ _ _ _ _ h1 h2 h3)
  · have h2 : ¬k0_cond2 (wUse c (grid0.coords t) (tbl m 1)) = 1#1 := by rw [cnd2_iff, wUse_eq]; exact hv
    have h3 : k0_cond3 (wUse c (grid0.coords t) (tbl m 1)) = 1#1 := by rw [cnd3_iff, wUse_eq]; exact hv
    have h1 : ¬cnd1 (grid0.coords t) (wUse c (grid0.coords t) (tbl m 1)) (wExp c (grid0.coords t) (tbl m 0)) (wOld c (grid0.coords t) (tbl m 0)) := by
      rw [cnd1_iff, wUse_eq]; exact fun h => hv h.1
    rw [if_neg hv]
    iintro ⟨⟨⟨⟨%d, %hd, HS0⟩, Hg⟩, ⟨HT0, HT1⟩⟩, Ho, ⟨%d0, H0⟩, ⟨%d1, H1⟩, ⟨%d2, H2⟩⟩
    iapply ((kernelRun0_C c (grid0.coords t) _ _ _ _ _ _ _ _ (iblk m hO c 0 t) (iblk m hO c 1 t) (tbl m 0) (tbl m 1) h1 h2 h3).2 Set.univ _)
    isplitl [H0]; · iexact H0
    isplitl [H1]; · iexact H1
    isplitl [H2]; · iexists _; iexact H2
    isplitl [HS0]; · iexists _; iexact HS0
    isplitl [HT0]; · iexact HT0
    isplitl [HT1]; · iexact HT1
    iintro ⟨H0, H1, ⟨%e2, H2⟩, ⟨%d', HS0⟩, HT0, HT1⟩
    isplitl [HS0 Hg HT0 HT1]
    · isplitl [HS0 Hg]
      · isplitl [HS0]
        · iexists d'; isplitr
          · ipureintro
            intro s hs hv'
            have e : s = t := Fin.ext (Nat.succ.inj hs)
            rw [e] at hv'
            exact absurd hv' hv
          · iexact HS0
        iexact Hg
      isplitl [HT0]; · iexact HT0
      iexact HT1
    isplitl [Ho]; · iexact Ho
    isplitl [H0]; · iexact H0
    isplitl [H1]; · iexact H1
    unfold owns; iexists _; isplitr
    swap; · iexact H2
    ipureintro
    exact (View.read_writes_of_cover _ _ _ _ _ (cover0_C_2 c _ _ _ _ _ _ _ _ _ _ _ _ _ h1 h2 h3)).trans (out0_C_2 c _ _ _ _ _ _ _ _ _ _ _ _ _ h1 h2 h3)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The result's window is never left alone. -/
theorem idle2 (hO : Ok m) (i : grid0.Coords) : (cfgM m hO).idle (2 : Fin 3) i = false := live _

theorem body_obligation (hO : Ok m) (hU : Use m) (c : Dev nD) : BodyObligation (dats (F := F) m hO 0 c) (defs₀ (F := F)) Variants.none () Set.univ := fun t => by
  rw [bigSep_W0, bigSep_W0, defs₀_row m hO]
  rw [show (cfgM m hO).idle (2 : Fin 3) ((cfgM m hO).grid.coords t) = false from idle2 m hO _]
  exact triple_restated (sound_body m hO hU c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [Phi_eq, PhiT0_eq, PhiA0_eq]
  unfold Phi
  iintro ⟨⟨⟨%d, HS0⟩, Hg⟩, ⟨HT0, HT1⟩⟩
  isplitl [HS0 Hg]
  · isplitl [HS0]
    · iexists d; isplitr
      · ipureintro; intro s hs; exact absurd hs (Nat.succ_ne_zero _)
      iexact HS0
    iexact Hg
  isplitl [HT0]; · iexact HT0
  iexact HT1

/-- After the last point the invariant gives the scratch back. -/
theorem hout (hO : Ok m) (c : Dev nD) : (dats m hO 0 c).Φ (Fin.last (cfgM m hO).N) ⊢ Pipeline.ΦA spec0 c := by
  rw [Phi_eq, PhiA0_eq]
  unfold Phi
  iintro ⟨⟨⟨%d, -, HS0⟩, Hg⟩, -, -⟩
  isplitl [HS0]
  · iexists _; iexact HS0
  iexact Hg

/-! ## The run and the frame -/

set_option backward.isDefEq.respectTransparency.types false in
theorem run_main_quiescent (hO : Ok m) (hU : Use m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hU c).loose) (hshare := fun c => (dats m hO 0 c).share_full fun _ => rfl)
    (howed := fun _ _ => rfl) (V := V m) (hmain := hmain m Variants.none) (hA := A_eq m hO) (hpf := V_pre m)
    (hin := hin m hO) (hout := hout m hO)

/-- Every execution ends with the arrays at what the proof data say. -/
theorem run_main (hO : Ok m) (hU : Use m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hU)

/-- The arguments end unchanged. -/
theorem unchanged (hO : Ok m) (hU : Use m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO hU)

/-- The frame: the arguments end unchanged and the semaphores at zero. -/
theorem frame (hO : Ok m) (hU : Use m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hU) ((θ_run defs _ _).mono (fun _ h => h.2) (run_main_quiescent m ρ hO hU))

end Cert.Kernel7Ideal.Tiles

end
-- ==== Proof.DownPre.lean ====
/- What the down projection's precondition says of the two tables: each tile's expert is one of the eight, and the tiles in
   use come first. Hand-written. -/
module

public import proofs.«01_k».proof.Proof.Gen.Pre_tiles_in_use7
public import Idealize.ShloMosaic.PureOps.Ideal.Laws
public import Idealize.ShloMosaic.Lib.Pointwise

@[expose] public section

noncomputable section

open Idealize.ShloMosaic

namespace Cert.Pre_tiles_in_use7

open Cert.Pre_tiles_in_use7.Gen

variable {F : FTy → Type} [FloatOps F] (E U : IVec S74 32) (H : FVec F S37888x1536 .bf16) (W : FVec F S2x8x1536x4096 .f32)

/-- A comparison bit that is set. -/
theorem of_bit (b : Bool) (h : BitVec.ofBool b = 1#1) : b = true := by
  cases b
  · exact absurd h (by decide)
  · rfl

/-- Each tile's expert is one of the eight. -/
theorem expert (h : (fn (F := F) E U H W).1 = fun _ => 1#1) (k : Fin 74) : (E (ix1 k)).toNat < 8 := by
  have e : BitVec.ofBool ((0#32).sle (E (ix1 k))) &&& BitVec.ofBool ((E (ix1 k)).slt 8#32) = 1#1 := congrFun h (ix1 k)
  generalize E (ix1 k) = w at e ⊢
  have e1 : (0#32).sle w = true ∧ w.slt 8#32 = true := by
    cases h1 : (0#32).sle w <;> cases h2 : w.slt 8#32 <;> rw [h1, h2] at e <;> first | exact ⟨rfl, rfl⟩ | exact absurd e (by decide)
  obtain ⟨h1, h2⟩ := e1
  rw [BitVec.sle_iff_toInt_le] at h1
  rw [BitVec.slt_iff_toInt_lt] at h2
  have h3 : (0#32).toInt = 0 := by decide
  have h4 : (8#32).toInt = 8 := by decide
  rw [h3] at h1
  rw [h4] at h2
  rw [BitVec.toInt_eq_toNat_cond] at h1 h2
  split_ifs at h1 h2 <;> omega

/-- The tile before one in use is in use. -/
theorem before (h : (fn (F := F) E U H W).2 = fun _ => 1#1) (k : Fin 73) (hk : U (ix1 (⟨1 + k.val, by omega⟩ : Fin 74)) = 1#32) :
    U (ix1 (⟨k.val, by omega⟩ : Fin 74)) = 1#32 := by
  have e0 := congrFun h (ix1 k)
  have e : BitVec.ofBool ((extractStridedSlice S73 ![0] U slices_S74_S73_0 (ix1 k)) == 1#32)
      ||| BitVec.ofBool ((extractStridedSlice S73 ![1] U slices_S74_S73_1 (ix1 k)) != 1#32) = 1#1 := e0
  rw [extractStridedSlice_apply ![0] U slices_S74_S73_0 (ix1 k) (ix1 (⟨k.val, by omega⟩ : Fin 74)) (fun a => by
      fin_cases a; show k.val = 0 + k.val; omega),
    extractStridedSlice_apply ![1] U slices_S74_S73_1 (ix1 k) (ix1 (⟨1 + k.val, by omega⟩ : Fin 74)) (fun a => by
      fin_cases a; rfl), hk] at e
  by_contra hn
  have h1 : (U (ix1 (⟨k.val, by omega⟩ : Fin 74)) == 1#32) = false := beq_eq_false_iff_ne.mpr hn
  rw [h1] at e
  exact absurd e (by decide)

end Cert.Pre_tiles_in_use7

end
-- ==== Proof.DownGiven.lean ====
/- The down projection: its precondition as the run takes it, for the program and for its idealization. Hand-written. -/
module

public import proofs.«01_k».proof.Proof.DownFrame
public import proofs.«01_k».proof.Proof.DownFrameIdeal
public import proofs.«01_k».proof.Proof.DownPre

@[expose] public section

set_option maxRecDepth 16384

noncomputable section

open Idealize.ShloMosaic Idealize.ShloMosaic.TcCoe Idealize.SL.Sem

namespace Cert.Kernel7.Tiles

open Cert.Kernel7 Cert.Kernel7.Gen

variable {F : FTy → Type} [FloatOps F] (m : (ℓ : Loc nD τ sig) → Buf (Elt F) ℓ)

/-- The precondition's two parts, at the program's arguments. -/
abbrev Given : Prop := ∀ c : Dev nD,
    (Cert.Pre_tiles_in_use7.fn (F := F) (m ((c : Thread nD τ).loc main_arg0)) (m ((c : Thread nD τ).loc main_arg1))
      (m ((c : Thread nD τ).loc main_arg2)) (m ((c : Thread nD τ).loc main_arg3))).1 = (fun _ => 1#1)
    ∧ (Cert.Pre_tiles_in_use7.fn (F := F) (m ((c : Thread nD τ).loc main_arg0)) (m ((c : Thread nD τ).loc main_arg1))
      (m ((c : Thread nD τ).loc main_arg2)) (m ((c : Thread nD τ).loc main_arg3))).2 = (fun _ => 1#1)

/-- Each tile's expert is one of the eight, -/
theorem expert_lt (h : Given m) (k : Fin 74) : (te m k).toNat < 8 := Cert.Pre_tiles_in_use7.expert _ _ _ _ (h 0).1 k

/-- so that the weights' block is inside the array; -/
theorem ok_of (hE : ∀ k : Fin 74, (te m k).toNat < 8) : Ok m :=
  fun i => ⟨fun a => by
    have hi : (te m (i 1)).toNat < 8 := hE _
    have hj : (i 0).val < 2 := (i 0).isLt
    rw [tr1_eq]
    fin_cases a
    · show (0 + 1) * 1 ≤ 2
      omega
    · show ((te m (i 1)).toNat + 1) * 1 ≤ 8
      omega
    · show (0 + 1) * 1536 ≤ 1536
      omega
    · show ((i 0).val + 1) * 2048 ≤ 4096
      omega, .inl rfl⟩

/-- and the tile before one in use is in use. -/
theorem use_of (h : Given m) : Use m := fun k hk hu => by
  have hk' := k.isLt
  refine Cert.Pre_tiles_in_use7.before _ _ _ _ (h 0).2 ⟨k.val - 1, by omega⟩ ?_
  have e : (⟨1 + (k.val - 1), by omega⟩ : Fin 74) = k := Fin.ext (by show 1 + (k.val - 1) = k.val; omega)
  show tv m ⟨1 + (k.val - 1), _⟩ = 1#32
  rw [e]
  exact hu

end Cert.Kernel7.Tiles

namespace Cert.Kernel7Ideal.Tiles

open Cert.Kernel7Ideal Cert.Kernel7Ideal.Gen

variable {F : FTy → Type} [FloatOps F] (m : (ℓ : Loc nD τ sig) → Buf (Elt F) ℓ)

/-- The precondition's two parts, at the program's arguments. -/
abbrev Given : Prop := ∀ c : Dev nD,
    (Cert.Pre_tiles_in_use7.fn (F := F) (m ((c : Thread nD τ).loc main_arg0)) (m ((c : Thread nD τ).loc main_arg1))
      (m ((c : Thread nD τ).loc main_arg2)) (m ((c : Thread nD τ).loc main_arg3))).1 = (fun _ => 1#1)
    ∧ (Cert.Pre_tiles_in_use7.fn (F := F) (m ((c : Thread nD τ).loc main_arg0)) (m ((c : Thread nD τ).loc main_arg1))
      (m ((c : Thread nD τ).loc main_arg2)) (m ((c : Thread nD τ).loc main_arg3))).2 = (fun _ => 1#1)

/-- Each tile's expert is one of the eight, -/
theorem expert_lt (h : Given m) (k : Fin 74) : (te m k).toNat < 8 := Cert.Pre_tiles_in_use7.expert _ _ _ _ (h 0).1 k

/-- so that the weights' block is inside the array; -/
theorem ok_of (hE : ∀ k : Fin 74, (te m k).toNat < 8) : Ok m :=
  fun i => ⟨fun a => by
    have hi : (te m (i 1)).toNat < 8 := hE _
    have hj : (i 0).val < 2 := (i 0).isLt
    rw [tr1_eq]
    fin_cases a
    · show (0 + 1) * 1 ≤ 2
      omega
    · show ((te m (i 1)).toNat + 1) * 1 ≤ 8
      omega
    · show (0 + 1) * 1536 ≤ 1536
      omega
    · show ((i 0).val + 1) * 2048 ≤ 4096
      omega, .inl rfl⟩

/-- and the tile before one in use is in use. -/
theorem use_of (h : Given m) : Use m := fun k hk hu => by
  have hk' := k.isLt
  refine Cert.Pre_tiles_in_use7.before _ _ _ _ (h 0).2 ⟨k.val - 1, by omega⟩ ?_
  have e : (⟨1 + (k.val - 1), by omega⟩ : Fin 74) = k := Fin.ext (by show 1 + (k.val - 1) = k.val; omega)
  show tv m ⟨1 + (k.val - 1), _⟩ = 1#32
  rw [e]
  exact hu

end Cert.Kernel7Ideal.Tiles

end
-- ==== Proof.DownRef.lean ====
/- The down projection's reference at an index: where the row's tile is in use, the product with its expert's weights;
   elsewhere zero. Hand-written. -/
module

public import proofs.«01_k».proof.Proof.Gen.Reference7Ideal.Read
public import proofs.«01_k».proof.Proof.Experts
public import Idealize.ShloMosaic.Lib.IdealHost
public import Idealize.ShloMosaic.Lib.Pipeline.ValueKit

@[expose] public section

set_option maxRecDepth 16384

noncomputable section

open Idealize.ShloMosaic Idealize.ShloMosaic.TcCoe Idealize.SL.Sem

namespace Cert.Reference7Ideal.Value

open Cert.Reference7Ideal Cert.Reference7Ideal.Gen Cert.Reference7Ideal.Read
open scoped BigOperators

variable (E U : (⟨S74, .i32⟩ : BufTy).Contents (Elt Ideal)) (H : Vec Ideal S37888x1536 .bf16) (W : Vec Ideal S2x8x1536x4096 .f32)

/-- The tile of a row. -/
def tile (R : Fin 37888) : Fin 74 := ⟨R.val / 512, by omega⟩

/-- The row's expert. -/
theorem exp_row (i : S37888x1.Idx) : val_main_v2 (F := Ideal) E i = E (ix1 (tile (i 0))) := by
  rw [val_main_v2_apply, val_main_v1_apply, val_main_v0_apply]
  refine congrArg E (funext fun a => ?_)
  fin_cases a; rfl

/-- Whether the row's tile is in use. -/
theorem use_row (i : S37888x1.Idx) : val_main_v7 (F := Ideal) U i = IntOp.cmpi .eq (U (ix1 (tile (i 0)))) 1#32 := by
  rw [val_main_v7_apply, val_main_v5_apply, val_main_v4_apply, val_main_v3_apply, val_main_v6_apply, val_main_c_apply]
  refine congrArg (IntOp.cmpi .eq · 1#32) (congrArg U (funext fun a => ?_))
  fin_cases a; rfl

/-- A row of the rows' matrix times a column of an expert's weights. -/
def dot (R : Fin 37888) (C : Fin 4096) (e : Fin 8) : EReal := ∑ k : Fin 1536, H (ix2 R k) * W (ix4 0 e k C)

/-- Nothing chosen: zero. -/
theorem none_chosen (i : S37888x4096.Idx) : val_main_v9 (F := Ideal) i = (0 : EReal) := by
  rw [val_main_v9_apply, val_main_cst_apply]
  exact Ideal.ofBits_zero_f32

/-- Expert 0's product, -/
theorem dot_0 (R : Fin 37888) (C : Fin 4096) : val_main_v15 (F := Ideal) H W (ix2 R C) = dot H W R C 0 := by
  rw [val_main_v15_apply]
  unfold dot
  refine Finset.sum_congr rfl fun k _ => ?_
  rw [val_main_v8_apply, val_main_v14_apply, val_main_v13_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_0 (R : Fin 37888) (C : Fin 4096) : val_main_call0_v0 (F := Ideal) E U (ix2 R C)
    = IntOp.andi (IntOp.cmpi .eq (U (ix1 (tile R))) 1#32) (IntOp.cmpi .eq (E (ix1 (tile R))) 0#32) := by
  rw [val_main_call0_v0_apply, val_main_v12_apply, val_main_v11_apply, val_main_v10_apply, val_main_c_0_apply, exp_row, use_row]
  rfl

/-- Expert 1's product, -/
theorem dot_1 (R : Fin 37888) (C : Fin 4096) : val_main_v22 (F := Ideal) H W (ix2 R C) = dot H W R C 1 := by
  rw [val_main_v22_apply]
  unfold dot
  refine Finset.sum_congr rfl fun k _ => ?_
  rw [val_main_v8_apply, val_main_v21_apply, val_main_v20_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_1 (R : Fin 37888) (C : Fin 4096) : val_main_call1_v0 (F := Ideal) E U (ix2 R C)
    = IntOp.andi (IntOp.cmpi .eq (U (ix1 (tile R))) 1#32) (IntOp.cmpi .eq (E (ix1 (tile R))) 1#32) := by
  rw [val_main_call1_v0_apply, val_main_v19_apply, val_main_v18_apply, val_main_v17_apply, val_main_c_1_apply, exp_row, use_row]
  rfl

/-- Expert 2's product, -/
theorem dot_2 (R : Fin 37888) (C : Fin 4096) : val_main_v29 (F := Ideal) H W (ix2 R C) = dot H W R C 2 := by
  rw [val_main_v29_apply]
  unfold dot
  refine Finset.sum_congr rfl fun k _ => ?_
  rw [val_main_v8_apply, val_main_v28_apply, val_main_v27_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_2 (R : Fin 37888) (C : Fin 4096) : val_main_call2_v0 (F := Ideal) E U (ix2 R C)
    = IntOp.andi (IntOp.cmpi .eq (U (ix1 (tile R))) 1#32) (IntOp.cmpi .eq (E (ix1 (tile R))) 2#32) := by
  rw [val_main_call2_v0_apply, val_main_v26_apply, val_main_v25_apply, val_main_v24_apply, val_main_c_2_apply, exp_row, use_row]
  rfl

/-- Expert 3's product, -/
theorem dot_3 (R : Fin 37888) (C : Fin 4096) : val_main_v36 (F := Ideal) H W (ix2 R C) = dot H W R C 3 := by
  rw [val_main_v36_apply]
  unfold dot
  refine Finset.sum_congr rfl fun k _ => ?_
  rw [val_main_v8_apply, val_main_v35_apply, val_main_v34_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_3 (R : Fin 37888) (C : Fin 4096) : val_main_call3_v0 (F := Ideal) E U (ix2 R C)
    = IntOp.andi (IntOp.cmpi .eq (U (ix1 (tile R))) 1#32) (IntOp.cmpi .eq (E (ix1 (tile R))) 3#32) := by
  rw [val_main_call3_v0_apply, val_main_v33_apply, val_main_v32_apply, val_main_v31_apply, val_main_c_3_apply, exp_row, use_row]
  rfl

/-- Expert 4's product, -/
theorem dot_4 (R : Fin 37888) (C : Fin 4096) : val_main_v43 (F := Ideal) H W (ix2 R C) = dot H W R C 4 := by
  rw [val_main_v43_apply]
  unfold dot
  refine Finset.sum_congr rfl fun k _ => ?_
  rw [val_main_v8_apply, val_main_v42_apply, val_main_v41_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_4 (R : Fin 37888) (C : Fin 4096) : val_main_call4_v0 (F := Ideal) E U (ix2 R C)
    = IntOp.andi (IntOp.cmpi .eq (U (ix1 (tile R))) 1#32) (IntOp.cmpi .eq (E (ix1 (tile R))) 4#32) := by
  rw [val_main_call4_v0_apply, val_main_v40_apply, val_main_v39_apply, val_main_v38_apply, val_main_c_4_apply, exp_row, use_row]
  rfl

/-- Expert 5's product, -/
theorem dot_5 (R : Fin 37888) (C : Fin 4096) : val_main_v50 (F := Ideal) H W (ix2 R C) = dot H W R C 5 := by
  rw [val_main_v50_apply]
  unfold dot
  refine Finset.sum_congr rfl fun k _ => ?_
  rw [val_main_v8_apply, val_main_v49_apply, val_main_v48_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_5 (R : Fin 37888) (C : Fin 4096) : val_main_call5_v0 (F := Ideal) E U (ix2 R C)
    = IntOp.andi (IntOp.cmpi .eq (U (ix1 (tile R))) 1#32) (IntOp.cmpi .eq (E (ix1 (tile R))) 5#32) := by
  rw [val_main_call5_v0_apply, val_main_v47_apply, val_main_v46_apply, val_main_v45_apply, val_main_c_5_apply, exp_row, use_row]
  rfl

/-- Expert 6's product, -/
theorem dot_6 (R : Fin 37888) (C : Fin 4096) : val_main_v57 (F := Ideal) H W (ix2 R C) = dot H W R C 6 := by
  rw [val_main_v57_apply]
  unfold dot
  refine Finset.sum_congr rfl fun k _ => ?_
  rw [val_main_v8_apply, val_main_v56_apply, val_main_v55_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_6 (R : Fin 37888) (C : Fin 4096) : val_main_call6_v0 (F := Ideal) E U (ix2 R C)
    = IntOp.andi (IntOp.cmpi .eq (U (ix1 (tile R))) 1#32) (IntOp.cmpi .eq (E (ix1 (tile R))) 6#32) := by
  rw [val_main_call6_v0_apply, val_main_v54_apply, val_main_v53_apply, val_main_v52_apply, val_main_c_6_apply, exp_row, use_row]
  rfl

/-- Expert 7's product, -/
theorem dot_7 (R : Fin 37888) (C : Fin 4096) : val_main_v64 (F := Ideal) H W (ix2 R C) = dot H W R C 7 := by
  rw [val_main_v64_apply]
  unfold dot
  refine Finset.sum_congr rfl fun k _ => ?_
  rw [val_main_v8_apply, val_main_v63_apply, val_main_v62_apply]
  refine congrArg₂ (· * ·) (congrArg H ?_) (congrArg W ?_)
  · funext a
    fin_cases a <;> rfl
  · have hk := k.isLt
    have hC := C.isLt
    funext a
    fin_cases a <;> refine Fin.ext ?_ <;> simp [ix2, ix4] <;> omega

/-- and where it is kept. -/
theorem kept_7 (R : Fin 37888) (C : Fin 4096) : val_main_call7_v0 (F := Ideal) E U (ix2 R C)
    = IntOp.andi (IntOp.cmpi .eq (U (ix1 (tile R))) 1#32) (IntOp.cmpi .eq (E (ix1 (tile R))) 7#32) := by
  rw [val_main_call7_v0_apply, val_main_v61_apply, val_main_v60_apply, val_main_v59_apply, val_main_c_7_apply, exp_row, use_row]
  rfl

/-- The reference at an index. -/
theorem ref_read (R : Fin 37888) (C : Fin 4096) (hE : (E (ix1 (tile R))).toNat < 8) :
    val_main_v65 (F := Ideal) E U H W (ix2 R C)
      = if U (ix1 (tile R)) = 1#32 then dot H W R C ⟨(E (ix1 (tile R))).toNat, hE⟩ else 0 := by
  rw [val_main_v65_apply, kept_7, dot_7, val_main_v58_apply, kept_6, dot_6, val_main_v51_apply, kept_5, dot_5, val_main_v44_apply, kept_4, dot_4, val_main_v37_apply, kept_3, dot_3, val_main_v30_apply, kept_2, dot_2, val_main_v23_apply, kept_1, dot_1, val_main_v16_apply, kept_0, dot_0, none_chosen]
  exact Cert.Experts.pick (dot H W R C) (U (ix1 (tile R))) (E (ix1 (tile R))) 0 hE

end Cert.Reference7Ideal.Value

end
-- ==== Proof.DownValue.lean ====
/- The down projection: what a tile leaves in its result block, and the array the run leaves against the reference.
   Hand-written. -/
module

public import proofs.«01_k».proof.Proof.DownFrameIdeal
public import proofs.«01_k».proof.Proof.DownRef

@[expose] public section

set_option maxRecDepth 16384

noncomputable section

open Idealize.ShloMosaic Idealize.ShloMosaic.TcCoe Idealize.SL.Sem
open Idealize.ShloMosaic.Pipeline (Dat)

namespace Cert.Kernel7Ideal.Value

open Cert.Kernel7Ideal Cert.Kernel7Ideal.Gen Cert.Kernel7Ideal.Tiles
open Cert.Reference7Ideal.Value (tile dot ref_read)
open scoped BigOperators

variable (m : (ℓ : Loc nD τ sig) → Buf (Elt Ideal) ℓ)

/-- The block of rows a point takes, -/
theorem tr0_eq : ∀ i : grid0.Coords, cc0_transform_0 i = ![(i 1).val, 0] := by decide +kernel
/-- and the block of the result it leaves. -/
theorem tr2_eq : ∀ i : grid0.Coords, cc0_transform_2 i = ![(i 1).val, (i 0).val] := by decide +kernel

/-- Each block of the result has its point. -/
theorem point : ∀ (j : Fin 2) (i : Fin 74), ∃ t : Fin grid0.N, (grid0.coords t 0).val = j.val ∧ (grid0.coords t 1).val = i.val := by
  decide +kernel

/-- Every point writes its block back. -/
theorem flushes : ∀ t : Fin grid0.N, Pipeline.Window.flushOf grid0 true cc0_transform_2 t = true := by decide +kernel

/-- The product of a tile's rows with its weights, at an index. -/
theorem pay_read (a : Vec Ideal S512x1536 .bf16) (b : Vec Ideal S1x1x1536x2048 .f32) (r : Fin 512) (l : Fin 2048) :
    k0_pay2 a (k0_pay1 b) (ix2 r l) = ∑ k : Fin 1536, a (ix2 r k) * b (ix4 0 0 k l) := by
  pointwise [k0_pay2, k0_pay1]

/-- A tile that is not in use is left zero. -/
theorem zero_read (y : S512x2048.Idx) : k0_pay3 (F := Ideal) y = (0 : EReal) := Ideal.ofBits_zero_f32

variable (hO : Ok m) (hE : ∀ k : Fin 74, (te m k).toNat < 8)

/-- A tile's rows. -/
theorem rows (c : Dev nD) (t : Fin (cfgM m hO).N) (r : Fin 512) (k : Fin 1536) (R : Fin 37888)
    (hR : R.val = (grid0.coords t 1).val * 512 + r.val) :
    (iblk m hO c 0 t : S512x1536.Idx → Elt Ideal .bf16) (ix2 r k) = (m ((c : Thread nD τ).loc main_arg2)) (ix2 R k) := by
  show (V m c main_arg2) _ = (V m c main_arg2) _
  congr 1
  funext a
  refine Fin.ext ?_
  show cc0_transform_0 (grid0.coords t) a * _ + 1 * (ix2 r k a).val = _
  rw [tr0_eq]
  fin_cases a
  · show (grid0.coords t 1).val * 512 + 1 * r.val = R.val
    omega
  · show 0 * 1536 + 1 * k.val = k.val
    omega

/-- A tile's weights: its expert's. -/
theorem weights (c : Dev nD) (t : Fin (cfgM m hO).N) (k : Fin 1536) (l : Fin 2048) (C : Fin 4096)
    (hC : C.val = (grid0.coords t 0).val * 2048 + l.val) :
    (iblk m hO c 1 t : S1x1x1536x2048.Idx → Elt Ideal .f32) (ix4 0 0 k l)
      = (m ((c : Thread nD τ).loc main_arg3)) (ix4 0 (⟨(te m (grid0.coords t 1)).toNat, hE _⟩ : Fin 8) k C) := by
  show (V m c main_arg3) _ = (V m c main_arg3) _
  congr 1
  funext a
  refine Fin.ext ?_
  show cc0_transform_1 k0_off1_inb numel1_S1 (tbl m) (grid0.coords t) a * _ + 1 * (ix4 (0 : Fin 1) (0 : Fin 1) k l a).val = _
  rw [tr1_eq]
  fin_cases a
  · rfl
  · show (te m (grid0.coords t 1)).toNat * 1 + 1 * 0 = (te m (grid0.coords t 1)).toNat
    omega
  · show 0 * 1536 + 1 * k.val = k.val
    omega
  · show (grid0.coords t 0).val * 2048 + 1 * l.val = C.val
    omega

/-- The run leaves its result array as the grid's points fill it, and its arguments as they were. -/
theorem run_out (hU : Use m) (g : Dev nD → PrngReg) :
    θ_run defs (onTc (τ := τ) (main (F := Ideal))) ⟨m, fun _ => 0, g⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 2, h.2 c⟩) (θ_run_and (run_main m g hO hU) (unchanged m g hO hU))

include hE in
/-- The array the run leaves is the reference's. -/
theorem final (c : Dev nD) :
    (dats m hO 0 c).arrAt 2 (cfgM m hO).N
      = Cert.Reference7Ideal.Read.val_main_v65 (F := Ideal) (m ((c : Thread nD τ).loc main_arg0)) (m ((c : Thread nD τ).loc main_arg1))
          (m ((c : Thread nD τ).loc main_arg2)) (m ((c : Thread nD τ).loc main_arg3)) := by
  obtain rfl : c = 0 := Subsingleton.elim _ _
  refine (dats m hO 0 0).arrAt_eq_of_emb 2 _ (fun t hf (y : S512x2048.Idx) => ?_) (fun (i : S37888x4096.Idx) => ?_)
  · have hj : (grid0.coords t 0).val < 2 := (grid0.coords t 0).isLt
    have hi : (grid0.coords t 1).val < 74 := (grid0.coords t 1).isLt
    obtain ⟨r, hr⟩ : ∃ r : Fin 512, r = y 0 := ⟨_, rfl⟩
    obtain ⟨l, hl⟩ : ∃ l : Fin 2048, l = y 1 := ⟨_, rfl⟩
    have ey : y = ix2 r l := by
      funext a; fin_cases a
      · exact hr.symm
      · exact hl.symm
    obtain ⟨R, hR⟩ : ∃ R : Fin 37888, R.val = (grid0.coords t 1).val * 512 + r.val := ⟨⟨_, by omega⟩, rfl⟩
    obtain ⟨C, hC⟩ : ∃ C : Fin 4096, C.val = (grid0.coords t 0).val * 2048 + l.val := ⟨⟨_, by omega⟩, rfl⟩
    have et : tile R = grid0.coords t 1 := Fin.ext (by
      show R.val / 512 = (grid0.coords t 1).val
      omega)
    have emb : (((cfgM m hO).win 2).blk t).view.emb y = (ix2 R C : S37888x4096.Idx) := by
      funext a
      refine Fin.ext ?_
      show cc0_transform_2 (grid0.coords t) a * _ + 1 * (y a).val = _
      rw [tr2_eq, ey]
      fin_cases a
      · show (grid0.coords t 1).val * 512 + 1 * r.val = R.val
        omega
      · show (grid0.coords t 0).val * 2048 + 1 * l.val = C.val
        omega
    rw [emb]
    have hE' : ((m (((0 : Dev nD) : Thread nD τ).loc main_arg0)) (ix1 (tile R))).toNat < 8 := hE (tile R)
    refine Eq.trans ?_ (ref_read _ _ _ _ R C hE').symm
    rw [after0_2]
    show outsAt0 m hO 0 t y = _
    rw [ey]
    have eU : (m (((0 : Dev nD) : Thread nD τ).loc main_arg1)) (ix1 (tile R)) = tv m (grid0.coords t 1) := congrArg (tv m) et
    have eE : (⟨((m (((0 : Dev nD) : Thread nD τ).loc main_arg0)) (ix1 (tile R))).toNat, hE'⟩ : Fin 8)
        = ⟨(te m (grid0.coords t 1)).toNat, hE _⟩ := Fin.ext (congrArg (fun k => (te m k).toNat) et)
    rw [eU, eE]
    unfold outsAt0
    by_cases hu : tv m (grid0.coords t 1) = 1#32
    · rw [if_pos hu, if_pos hu]
      refine (pay_read _ _ r l).trans ?_
      unfold dot
      exact Finset.sum_congr rfl fun k _ => congrArg₂ (· * ·) (rows m hO 0 t r k R hR) (weights m hO hE 0 t k l C hC)
    · rw [if_neg hu, if_neg hu]
      exact zero_read _
  · obtain ⟨R, hR⟩ : ∃ R : Fin 37888, R = i 0 := ⟨_, rfl⟩
    obtain ⟨C, hC⟩ : ∃ C : Fin 4096, C = i 1 := ⟨_, rfl⟩
    obtain ⟨t, h0, h1⟩ := point (⟨C.val / 2048, by omega⟩ : Fin 2) (⟨R.val / 512, by omega⟩ : Fin 74)
    refine ⟨t, flushes t, ?_⟩
    refine (((cfgM m hO).win 2).emb_mem_blk_iff t i).mpr fun a => ?_
    show cc0_transform_2 (grid0.coords t) a * S512x2048.size a ≤ (i a).val ∧ (i a).val < cc0_transform_2 (grid0.coords t) a * S512x2048.size a + S512x2048.size a
    rw [tr2_eq]
    fin_cases a
    · show (grid0.coords t 1).val * 512 ≤ (i 0).val ∧ (i 0).val < (grid0.coords t 1).val * 512 + 512
      rw [← hR, h1]
      show R.val / 512 * 512 ≤ R.val ∧ R.val < R.val / 512 * 512 + 512
      omega
    · show (grid0.coords t 0).val * 2048 ≤ (i 1).val ∧ (i 1).val < (grid0.coords t 0).val * 2048 + 2048
      rw [← hC, h0]
      show C.val / 2048 * 2048 ≤ C.val ∧ C.val < C.val / 2048 * 2048 + 2048
      omega

end Cert.Kernel7Ideal.Value

end
-- ==== Proof.Norm.lean ====
/- The scale that a root-mean-square norm gives a row, from the row's sum of squares. Hand-written. -/
module

public import Idealize.ShloMosaic.PureOps.Ideal.Laws
public import Idealize.ShloMosaic.Lib.Pointwise

@[expose] public section

noncomputable section

open Idealize.ShloMosaic

namespace Cert.Norm

/-- One over the root of the mean square plus 1e-6, where `d` is the word of the row's width and `s` its sum of squares. -/
def scale (d : BitVec 32) (s : EReal) : EReal :=
  FloatOps.rsqrt (F := Ideal) (φ := .f32) (FloatOps.addf (F := Ideal) (φ := .f32)
    (FloatOps.divf (F := Ideal) (φ := .f32) s (FloatOps.ofBits (F := Ideal) .f32 d)) (FloatOps.ofBits (F := Ideal) .f32 0x358637BD#32))

/-- A sum that starts from the word of zero. -/
theorem zero_add_bits (s : EReal) : FloatOps.ofBits (F := Ideal) .f32 0x00000000#32 + s = s := by
  have h : FloatOps.ofBits (F := Ideal) .f32 0x00000000#32 = (0 : EReal) := by simp
  rw [h, zero_add]

end Cert.Norm

end
-- ==== Proof.FinalNorm.lean ====
/- The final norm: what a grid point leaves in its output block, and the array the run leaves against the reference.
   Hand-written. -/
module

public import proofs.«01_k».proof.Proof.Gen.Kernel8Ideal.Value
public import proofs.«01_k».proof.Proof.Gen.Reference8Ideal.Read
public import proofs.«01_k».proof.Proof.Norm
public import Idealize.ShloMosaic.Lib.Pipeline.ReadBack
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Norm (scale)

namespace Cert.Reference8Ideal.Value

open Cert.Reference8Ideal Cert.Reference8Ideal.Gen Cert.Reference8Ideal.Read
open scoped BigOperators

/-- The reference at an index. -/
theorem ref_read (X : Vec Ideal S16896x4096 .f32) (G : Vec Ideal S4096 .f32) (R : Fin 16384) (C : Fin 4096) :
    val_main_v13 (F := Ideal) X G (ix2 R C)
      = X (ix2 (⟨R.val, by omega⟩ : Fin 16896) C)
          * scale 0x45800000#32 (∑ k : Fin 4096, X (ix2 (⟨R.val, by omega⟩ : Fin 16896) k) * X (ix2 (⟨R.val, by omega⟩ : Fin 16896) k))
          * G (ix1 C) := by
  have hx : ∀ k : Fin 4096, val_main_v0 (F := Ideal) X (ix2 R k) = X (ix2 (⟨R.val, by omega⟩ : Fin 16896) k) := fun k => by
    rw [val_main_v0_apply]
    refine congrArg X (funext fun a => ?_)
    fin_cases a <;> rfl
  have hs : val_main_v2 (F := Ideal) X (ix1 R)
      = ∑ k : Fin 4096, X (ix2 (⟨R.val, by omega⟩ : Fin 16896) k) * X (ix2 (⟨R.val, by omega⟩ : Fin 16896) k) := by
    rw [val_main_v2_apply, val_main_cst_apply]
    refine (Cert.Norm.zero_add_bits _).trans (Finset.sum_congr rfl fun k _ => ?_)
    rw [val_main_v1_apply, ← hx k]
    have e : idx_main_v2 (ix1 R) k = ix2 R k := by funext a; fin_cases a <;> rfl
    rw [e]
    rfl
  have hr : val_main_v9 (F := Ideal) X (ix2 R C)
      = scale 0x45800000#32 (∑ k : Fin 4096, X (ix2 (⟨R.val, by omega⟩ : Fin 16896) k) * X (ix2 (⟨R.val, by omega⟩ : Fin 16896) k)) := by
    rw [← hs, val_main_v9_apply, val_main_v8_apply, val_main_v7_apply, val_main_v5_apply, val_main_v3_apply, val_main_v4_apply,
      val_main_v6_apply]
    have e : idx_main_v3 (idx_main_v9 (ix2 R C)) = ix1 R := by funext a; fin_cases a; rfl
    rw [e]
    rfl
  have hg : val_main_v12 (F := Ideal) G (ix2 R C) = G (ix1 C) := by
    rw [val_main_v12_apply, val_main_v11_apply]
    refine congrArg G (funext fun a => ?_)
    fin_cases a; rfl
  rw [val_main_v13_apply, val_main_v10_apply, hx, hr, hg]
  rfl

end Cert.Reference8Ideal.Value

namespace Cert.Kernel8Ideal.Value

open Cert.Kernel8Ideal Cert.Kernel8Ideal.Gen
open Cert.Reference8Ideal.Value (ref_read)
open scoped BigOperators

variable (m : (ℓ : Loc nD τ sig) → Buf (Elt Ideal) ℓ)

/-- The block each window takes at a grid point. -/
theorem idx : ∀ t : Fin grid0.N, win0_0.index t = ![t.val, 0] ∧ win0_1.index t = ![0, 0] ∧ win0_2.index t = ![t.val, 0] := by
  decide +kernel

/-- The output block at an index, over the blocks it reads. -/
theorem pay_read (x : Vec Ideal S256x4096 .f32) (g : Vec Ideal S1x4096 .f32) (r : Fin 256) (l : Fin 4096) :
    k0_pay1 x g (ix2 r l)
      = x (ix2 r l) * scale 0x45800000#32 (∑ k : Fin 4096, x (ix2 r k) * x (ix2 r k)) * g (ix2 0 l) := by
  pointwise [k0_pay1]
  rfl

/-- What a grid point leaves in its output block. -/
theorem out_eq (c : Dev nD) (t : Fin cfg0.N) : (dats m 0 c).after 2 t = k0_pay1 (iblk m c 0 t) (iblk m c 1 t) := by
  rw [after0_2]
  frame_out

/-- The norm's factors as the call has them: one row. -/
theorem gain (c : Dev nD) (C : Fin 4096) : V m c main_v0 (ix2 0 C) = (m ((c : Thread nD τ).loc main_arg1)) (ix1 C) := by
  have e : V m c main_v0 = shapeCast S1x4096 (m ((c : Thread nD τ).loc main_arg1)) shapeCasts_S4096_S1x4096 := rfl
  rw [e]
  exact Idealize.ShloMosaic.ValueIdx.shapeCast_a_1a_apply _ _ _ _

/-- The array the run leaves is the reference's. -/
theorem final (c : Dev nD) :
    (dats m 0 c).arrAt 2 cfg0.N
      = Cert.Reference8Ideal.Read.val_main_v13 (F := Ideal) (m ((c : Thread nD τ).loc main_arg0)) (m ((c : Thread nD τ).loc main_arg1)) := by
  refine (dats m 0 c).arrAt_eq_of_covers 2 _ (by decide +kernel) fun t hf y => ?_
  have hN : t.val < 64 := lt_of_lt_of_eq t.isLt N_0
  blk_simp
  rw [out_eq]
  obtain ⟨r, hr⟩ : ∃ r : Fin 256, r = y 0 := ⟨_, rfl⟩
  obtain ⟨l, hl⟩ : ∃ l : Fin 4096, l = y 1 := ⟨_, rfl⟩
  have ey : y = ix2 r l := by
    funext a; fin_cases a
    · exact hr.symm
    · exact hl.symm
  rw [ey, pay_read]
  obtain ⟨R, hR⟩ : ∃ R : Fin 16384, R.val = t.val * 256 + r.val := ⟨⟨t.val * 256 + r.val, by omega⟩, rfl⟩
  have hx : ∀ k : Fin 4096, iblk m c 0 t (ix2 r k) = (m ((c : Thread nD τ).loc main_arg0)) (ix2 (⟨R.val, by omega⟩ : Fin 16896) k) := fun k => by
    blk_ext [iblk, V, idx t] <;> omega
  have hg : iblk m c 1 t (ix2 0 l) = (m ((c : Thread nD τ).loc main_arg1)) (ix1 l) := by
    refine Eq.trans ?_ (gain m c l)
    blk_ext [iblk, idx t] <;> omega
  simp only [hx, hg]
  refine (ref_read _ _ R l).symm.trans ?_
  blk_ext [idx t] <;> omega

end Cert.Kernel8Ideal.Value

end
-- ==== Proof.NormMod.lean ====
/- The first norm with its modulation: what a grid point leaves in its output block, and the array the run leaves against
   the reference.
   Hand-written. -/
module

public import proofs.«01_k».proof.Proof.Gen.Kernel9Ideal.Value
public import proofs.«01_k».proof.Proof.Gen.Reference9Ideal.Read
public import proofs.«01_k».proof.Proof.Norm
public import Idealize.ShloMosaic.Lib.Pipeline.ReadBack
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Norm (scale)

namespace Cert.Reference9Ideal.Value

open Cert.Reference9Ideal Cert.Reference9Ideal.Gen Cert.Reference9Ideal.Read
open scoped BigOperators

/-- The scale's row for sequence `s`, -/
abbrev gainRow (s : Fin 8) : Fin 48 := ⟨s.val * 6 + 1, by omega⟩

/-- and the shift's. -/
abbrev shiftRow (s : Fin 8) : Fin 48 := ⟨s.val * 6, by omega⟩

/-- The sequence that a row belongs to; the context rows count as the third. -/
abbrev segOf (R : Fin 16896) : Fin 8 := ⟨R.val / 8192, by omega⟩

/-- The three groups of rows joined, at an index. -/
theorem join_read (x y : Vec Ideal S8192x4096 .f32) (z : Vec Ideal S512x4096 .f32) (R : Fin 16896) (C : Fin 4096) :
    concatenate S16896x4096 0 [⟨S8192x4096, x⟩, ⟨S8192x4096, y⟩, ⟨S512x4096, z⟩]
        concatenates_S8192x4096_S8192x4096_S512x4096_S16896x4096_d0 (ix2 R C)
      = if h : R.val < 8192 then x (ix2 ⟨R.val, h⟩ C)
        else if h' : R.val - 8192 < 8192 then y (ix2 ⟨R.val - 8192, h'⟩ C)
        else z (ix2 ⟨R.val - 8192 - 8192, by omega⟩ C) := by
  pointwise []

/-- The scales of the eight sequences, at an index. -/
theorem gain_read (G : Vec Ideal S48x1x4096 .f32) (s : Fin 8) (C : Fin 4096) :
    val_main_v15 (F := Ideal) G (ix2 s C) = G (ix3 (gainRow s) 0 C) := by
  rw [val_main_v15_apply, val_main_v14_apply, val_main_v0_apply]
  refine congrArg G (funext fun a => ?_)
  fin_cases a <;> refine Fin.ext ?_ <;> simp [ix2, ix3] <;> omega

/-- The scale of each row, at an index. -/
theorem gain_rows (G : Vec Ideal S48x1x4096 .f32) (R : Fin 16896) (C : Fin 4096) :
    val_main_v22 (F := Ideal) G (ix2 R C) = G (ix3 (gainRow (segOf R)) 0 C) := by
  rw [← gain_read G (segOf R) C]
  unfold val_main_v22
  refine Eq.trans (join_read _ _ _ R C) ?_
  by_cases h : R.val < 8192
  · rw [dif_pos h, val_main_v17_apply, val_main_v16_apply]
    refine congrArg _ (funext fun a => ?_)
    fin_cases a <;> refine Fin.ext ?_ <;> simp [ix2] <;> omega
  · rw [dif_neg h]
    by_cases h' : R.val - 8192 < 8192
    · rw [dif_pos h', val_main_v19_apply, val_main_v18_apply]
      refine congrArg _ (funext fun a => ?_)
      fin_cases a <;> refine Fin.ext ?_ <;> simp [ix2] <;> omega
    · rw [dif_neg h', val_main_v21_apply, val_main_v20_apply]
      refine congrArg _ (funext fun a => ?_)
      fin_cases a <;> refine Fin.ext ?_ <;> simp [ix2] <;> omega

/-- The shifts of the eight sequences, at an index. -/
theorem shift_read (G : Vec Ideal S48x1x4096 .f32) (s : Fin 8) (C : Fin 4096) :
    val_main_v27 (F := Ideal) G (ix2 s C) = G (ix3 (shiftRow s) 0 C) := by
  rw [val_main_v27_apply, val_main_v26_apply, val_main_v0_apply]
  refine congrArg G (funext fun a => ?_)
  fin_cases a <;> refine Fin.ext ?_ <;> simp [ix2, ix3] <;> omega

/-- The shift of each row, at an index. -/
theorem shift_rows (G : Vec Ideal S48x1x4096 .f32) (R : Fin 16896) (C : Fin 4096) :
    val_main_v34 (F := Ideal) G (ix2 R C) = G (ix3 (shiftRow (segOf R)) 0 C) := by
  rw [← shift_read G (segOf R) C]
  unfold val_main_v34
  refine Eq.trans (join_read _ _ _ R C) ?_
  by_cases h : R.val < 8192
  · rw [dif_pos h, val_main_v29_apply, val_main_v28_apply]
    refine congrArg _ (funext fun a => ?_)
    fin_cases a <;> refine Fin.ext ?_ <;> simp [ix2] <;> omega
  · rw [dif_neg h]
    by_cases h' : R.val - 8192 < 8192
    · rw [dif_pos h', val_main_v31_apply, val_main_v30_apply]
      refine congrArg _ (funext fun a => ?_)
      fin_cases a <;> refine Fin.ext ?_ <;> simp [ix2] <;> omega
    · rw [dif_neg h', val_main_v33_apply, val_main_v32_apply]
      refine congrArg _ (funext fun a => ?_)
      fin_cases a <;> refine Fin.ext ?_ <;> simp [ix2] <;> omega

/-- The norm at an index. -/
theorem norm_read (X : Vec Ideal S16896x4096 .f32) (G : Vec Ideal S4096 .f32) (R : Fin 16896) (C : Fin 4096) :
    val_main_v13 (F := Ideal) X G (ix2 R C)
      = X (ix2 R C) * scale 0x45800000#32 (∑ k : Fin 4096, X (ix2 R k) * X (ix2 R k)) * G (ix1 C) := by
  have hs : val_main_v2 (F := Ideal) X (ix1 R) = ∑ k : Fin 4096, X (ix2 R k) * X (ix2 R k) := by
    rw [val_main_v2_apply, val_main_cst_apply]
    refine (Cert.Norm.zero_add_bits _).trans (Finset.sum_congr rfl fun k _ => ?_)
    rw [val_main_v1_apply]
    have e : idx_main_v2 (ix1 R) k = ix2 R k := by funext a; fin_cases a <;> rfl
    rw [e]
    rfl
  have hr : val_main_v9 (F := Ideal) X (ix2 R C) = scale 0x45800000#32 (∑ k : Fin 4096, X (ix2 R k) * X (ix2 R k)) := by
    rw [← hs, val_main_v9_apply, val_main_v8_apply, val_main_v7_apply, val_main_v5_apply, val_main_v3_apply, val_main_v4_apply,
      val_main_v6_apply]
    have e : idx_main_v3 (idx_main_v9 (ix2 R C)) = ix1 R := by funext a; fin_cases a; rfl
    rw [e]
    rfl
  have hg : val_main_v12 (F := Ideal) G (ix2 R C) = G (ix1 C) := by
    rw [val_main_v12_apply, val_main_v11_apply]
    refine congrArg G (funext fun a => ?_)
    fin_cases a; rfl
  rw [val_main_v13_apply, val_main_v10_apply, hr, hg]
  rfl

/-- The reference at an index. -/
theorem ref_read (X : Vec Ideal S16896x4096 .f32) (G : Vec Ideal S4096 .f32) (M : Vec Ideal S48x1x4096 .f32) (R : Fin 16896) (C : Fin 4096) :
    val_main_v36 (F := Ideal) X G M (ix2 R C)
      = X (ix2 R C) * scale 0x45800000#32 (∑ k : Fin 4096, X (ix2 R k) * X (ix2 R k)) * G (ix1 C)
          * (FloatOps.ofBits (F := Ideal) .f32 0x3F800000#32 + M (ix3 (gainRow (segOf R)) 0 C))
        + M (ix3 (shiftRow (segOf R)) 0 C) := by
  rw [val_main_v36_apply, val_main_v35_apply, val_main_v25_apply, val_main_v24_apply, val_main_v23_apply, norm_read, gain_rows, shift_rows]
  rfl

end Cert.Reference9Ideal.Value

namespace Cert.Kernel9Ideal.Value

open Cert.Kernel9Ideal Cert.Kernel9Ideal.Gen
open Cert.Reference9Ideal.Value (gainRow shiftRow segOf ref_read)
open scoped BigOperators

variable (m : (ℓ : Loc nD τ sig) → Buf (Elt Ideal) ℓ)

/-- The block each window takes at a grid point. -/
theorem idx : ∀ t : Fin grid0.N,
    win0_0.index t = ![t.val, 0]
    ∧ win0_1.index t = ![0, 0]
    ∧ win0_2.index t = ![t.val / 32 * 6, 0, 0]
    ∧ win0_3.index t = ![t.val / 32 * 6 + 1, 0, 0]
    ∧ win0_4.index t = ![t.val, 0] := by
  decide +kernel

/-- The output block at an index, over the blocks it reads. -/
theorem pay_read (x : Vec Ideal S256x4096 .f32) (g : Vec Ideal S1x4096 .f32) (a b : Vec Ideal S1x1x4096 .f32) (r : Fin 256) (l : Fin 4096) :
    k0_pay1 x g a b (ix2 r l)
      = x (ix2 r l) * scale 0x45800000#32 (∑ k : Fin 4096, x (ix2 r k) * x (ix2 r k)) * g (ix2 0 l)
          * (FloatOps.ofBits (F := Ideal) .f32 0x3F800000#32 + a (ix3 0 0 l))
        + b (ix3 0 0 l) := by
  pointwise [k0_pay1]
  rfl

/-- What a grid point leaves in its output block. -/
theorem out_eq (c : Dev nD) (t : Fin cfg0.N) :
    (dats m 0 c).after 4 t = k0_pay1 (iblk m c 0 t) (iblk m c 1 t) (iblk m c 3 t) (iblk m c 2 t) := by
  rw [after0_4]
  frame_out

/-- The norm's factors as the call has them: one row. -/
theorem gain (c : Dev nD) (C : Fin 4096) : V m c main_v0 (ix2 0 C) = (m ((c : Thread nD τ).loc main_arg1)) (ix1 C) := by
  have e : V m c main_v0 = shapeCast S1x4096 (m ((c : Thread nD τ).loc main_arg1)) shapeCasts_S4096_S1x4096 := rfl
  rw [e]
  exact Idealize.ShloMosaic.ValueIdx.shapeCast_a_1a_apply _ _ _ _

/-- The array the run leaves is the reference's. -/
theorem final (c : Dev nD) :
    (dats m 0 c).arrAt 4 cfg0.N
      = Cert.Reference9Ideal.Read.val_main_v36 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  have hN : t.val < 66 := lt_of_lt_of_eq t.isLt N_0
  blk_simp
  rw [out_eq]
  obtain ⟨r, hr⟩ : ∃ r : Fin 256, r = y 0 := ⟨_, rfl⟩
  obtain ⟨l, hl⟩ : ∃ l : Fin 4096, l = y 1 := ⟨_, rfl⟩
  have ey : y = ix2 r l := by
    funext a; fin_cases a
    · exact hr.symm
    · exact hl.symm
  rw [ey, pay_read]
  obtain ⟨R, hR⟩ : ∃ R : Fin 16896, R.val = t.val * 256 + r.val := ⟨⟨t.val * 256 + r.val, by omega⟩, rfl⟩
  have hx : ∀ k : Fin 4096, iblk m c 0 t (ix2 r k) = (m ((c : Thread nD τ).loc main_arg0)) (ix2 R k) := fun k => by
    blk_ext [iblk, V, idx t] <;> omega
  have hg : iblk m c 1 t (ix2 0 l) = (m ((c : Thread nD τ).loc main_arg1)) (ix1 l) := by
    refine Eq.trans ?_ (gain m c l)
    blk_ext [iblk, idx t] <;> omega
  have hb : iblk m c 2 t (ix3 0 0 l) = (m ((c : Thread nD τ).loc main_arg2)) (ix3 (shiftRow (segOf R)) 0 l) := by
    blk_ext [iblk, V, idx t] <;> omega
  have ha : iblk m c 3 t (ix3 0 0 l) = (m ((c : Thread nD τ).loc main_arg2)) (ix3 (gainRow (segOf R)) 0 l) := by
    blk_ext [iblk, V, idx t] <;> omega
  simp only [hx, hg, ha, hb]
  refine (ref_read _ _ _ R l).symm.trans ?_
  blk_ext [idx t] <;> omega

end Cert.Kernel9Ideal.Value

end
-- ==== Proof.AdaDown.lean ====
/- The first half of the modulation's projection: what a grid point leaves in its output block, and the array the run
   leaves against the reference.
   Hand-written. -/
module

public import proofs.«01_k».proof.Proof.Gen.Kernel10Ideal.Value
public import proofs.«01_k».proof.Proof.Gen.Reference10Ideal.Read
public import Idealize.ShloMosaic.Lib.Pipeline.ReadBack
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.Reference10Ideal.Value

open Cert.Reference10Ideal Cert.Reference10Ideal.Gen Cert.Reference10Ideal.Read
open scoped BigOperators

/-- The reference at an index. -/
theorem ref_read (A : Vec Ideal S8x4096 .f32) (W : Vec Ideal S4x4096x1024 .f32) (g : Fin 4) (s : Fin 8) (C : Fin 1024) :
    val_main_v2 (F := Ideal) A W (ix3 g s C)
      = ∑ k : Fin 4096, A (ix2 s k) * Ideal.logistic (A (ix2 s k)) * W (ix3 g k C) := by
  have e1 : FloatOps.ofBits (F := Ideal) .f32 0x3F800000#32 = (1 : EReal) := Ideal.ofBits_one_f32
  have h0 : ∀ k : Fin 4096, val_main_v0 (F := Ideal) A (ix2 s k) = A (ix2 s k) * Ideal.logistic (A (ix2 s k)) := fun k => by
    rw [val_main_v0_apply, val_main_call0_v5_apply, val_main_call0_v4_apply,
      val_main_call0_cst_0_apply, val_main_call0_v3_apply, val_main_call0_v2_apply, val_main_call0_cst_apply,
      val_main_call0_v1_apply, val_main_call0_v0_apply, e1]
    rfl
  rw [val_main_v2_apply, val_main_v1_apply]
  refine Finset.sum_congr rfl fun k _ => ?_
  rw [mul_comm, ← h0 k]
  refine congrArg₂ (· * ·) (congrArg _ ?_) (congrArg W ?_)
  · funext a
    fin_cases a <;> rfl
  · funext a
    fin_cases a <;> rfl

end Cert.Reference10Ideal.Value

namespace Cert.Kernel10Ideal.Value

open Cert.Kernel10Ideal Cert.Kernel10Ideal.Gen
open Cert.Reference10Ideal.Value (ref_read)
open scoped BigOperators

variable (m : (ℓ : Loc nD τ sig) → Buf (Elt Ideal) ℓ)

/-- The block each window takes at a grid point. -/
theorem idx : ∀ t : Fin grid0.N,
    win0_0.index t = ![0, 0]
    ∧ win0_1.index t = ![t.val / 2, 0, t.val % 2]
    ∧ win0_2.index t = ![t.val / 2, 0, t.val % 2] := by
  decide +kernel

/-- The output block at an index, over the blocks it reads. -/
theorem pay_read (a : Vec Ideal S8x4096 .f32) (w : Vec Ideal S1x4096x512 .f32) (s : Fin 8) (l : Fin 512) :
    k0_pay1 a w (ix3 0 s l) = ∑ k : Fin 4096, a (ix2 s k) * Ideal.logistic (a (ix2 s k)) * w (ix3 0 k l) := by
  pointwise [k0_pay1]

/-- What a grid point leaves in its output block. -/
theorem out_eq (c : Dev nD) (t : Fin cfg0.N) : (dats m 0 c).after 2 t = k0_pay1 (iblk m c 0 t) (iblk m c 1 t) := by
  rw [after0_2]
  frame_out

/-- The array the run leaves is the reference's. -/
theorem final (c : Dev nD) :
    (dats m 0 c).arrAt 2 cfg0.N
      = Cert.Reference10Ideal.Read.val_main_v2 (F := Ideal) (m ((c : Thread nD τ).loc main_arg0)) (m ((c : Thread nD τ).loc main_arg1)) := by
  refine (dats m 0 c).arrAt_eq_of_covers 2 _ (by decide +kernel) fun t hf y => ?_
  have hN : t.val < 8 := lt_of_lt_of_eq t.isLt N_0
  blk_simp
  rw [out_eq]
  obtain ⟨s, hs⟩ : ∃ s : Fin 8, s = y 1 := ⟨_, rfl⟩
  obtain ⟨l, hl⟩ : ∃ l : Fin 512, l = y 2 := ⟨_, rfl⟩
  have ey : y = ix3 0 s l := by
    funext a; fin_cases a
    · exact Subsingleton.elim (α := Fin 1) _ _
    · exact hs.symm
    · exact hl.symm
  rw [ey, pay_read]
  obtain ⟨g, hg⟩ : ∃ g : Fin 4, g.val = t.val / 2 := ⟨⟨t.val / 2, by omega⟩, rfl⟩
  obtain ⟨C, hC⟩ : ∃ C : Fin 1024, C.val = t.val % 2 * 512 + l.val := ⟨⟨t.val % 2 * 512 + l.val, by omega⟩, rfl⟩
  have ha : ∀ k : Fin 4096, iblk m c 0 t (ix2 s k) = (m ((c : Thread nD τ).loc main_arg0)) (ix2 s k) := fun k => by
    blk_ext [iblk, V, idx t] <;> omega
  have hw : ∀ k : Fin 4096, iblk m c 1 t (ix3 0 k l) = (m ((c : Thread nD τ).loc main_arg1)) (ix3 g k C) := fun k => by
    blk_ext [iblk, V, idx t] <;> omega
  simp only [ha, hw]
  refine (ref_read _ _ g s C).symm.trans ?_
  blk_ext [idx t] <;> omega

end Cert.Kernel10Ideal.Value

end
-- ==== Proof.AdaUp.lean ====
/- The second half of the modulation's projection: what a grid point leaves in its output block, and the array the run
   leaves against the reference.
   Hand-written. -/
module

public import proofs.«01_k».proof.Proof.Gen.Kernel11Ideal.Value
public import proofs.«01_k».proof.Proof.Gen.Reference11Ideal.Read
public import Idealize.ShloMosaic.Lib.Pipeline.ReadBack
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.Reference11Ideal.Value

open Cert.Reference11Ideal Cert.Reference11Ideal.Gen Cert.Reference11Ideal.Read
open scoped BigOperators

/-- The reference at an index. -/
theorem ref_read (A : Vec Ideal S4x8x1024 .f32) (W : Vec Ideal S4x1024x24576 .f32) (B : Vec Ideal S4x24576 .f32)
    (g : Fin 4) (s : Fin 8) (C : Fin 24576) :
    val_main_v3 (F := Ideal) A W B (ix3 g s C) = (∑ k : Fin 1024, A (ix3 g s k) * W (ix3 g k C)) + B (ix2 g C) := by
  have h0 : val_main_v0 (F := Ideal) A W (ix3 g s C) = ∑ k : Fin 1024, A (ix3 g s k) * W (ix3 g k C) := by
    rw [val_main_v0_apply]
    refine Finset.sum_congr rfl fun k _ => congrArg₂ (· * ·) (congrArg A ?_) (congrArg W ?_)
    · funext a
      fin_cases a <;> rfl
    · funext a
      fin_cases a <;> rfl
  have h2 : val_main_v2 (F := Ideal) B (ix3 g s C) = B (ix2 g C) := by
    rw [val_main_v2_apply, val_main_v1_apply]
    refine congrArg B (funext fun a => ?_)
    fin_cases a <;> rfl
  rw [val_main_v3_apply, h0, h2]
  rfl

end Cert.Reference11Ideal.Value

namespace Cert.Kernel11Ideal.Value

open Cert.Kernel11Ideal Cert.Kernel11Ideal.Gen
open Cert.Reference11Ideal.Value (ref_read)
open scoped BigOperators

variable (m : (ℓ : Loc nD τ sig) → Buf (Elt Ideal) ℓ)

/-- The block each window takes at a grid point. -/
theorem idx : ∀ t : Fin grid0.N,
    win0_0.index t = ![t.val / 12, 0, 0]
    ∧ win0_1.index t = ![t.val / 12, 0, t.val % 12]
    ∧ win0_2.index t = ![t.val / 12, 0, t.val % 12]
    ∧ win0_3.index t = ![t.val / 12, 0, t.val % 12] := by
  decide +kernel

/-- The output block at an index, over the blocks it reads. -/
theorem pay_read (a : Vec Ideal S1x8x1024 .f32) (w : Vec Ideal S1x1024x2048 .f32) (b : Vec Ideal S1x1x2048 .f32) (s : Fin 8) (l : Fin 2048) :
    k0_pay1 a w b (ix3 0 s l) = (∑ k : Fin 1024, a (ix3 0 s k) * w (ix3 0 k l)) + b (ix3 0 0 l) := by
  pointwise [k0_pay1]

/-- What a grid point leaves in its output block. -/
theorem out_eq (c : Dev nD) (t : Fin cfg0.N) :
    (dats m 0 c).after 3 t = k0_pay1 (iblk m c 0 t) (iblk m c 1 t) (iblk m c 2 t) := by
  rw [after0_3]
  frame_out

/-- The bias as the call has it: one row a group. -/
theorem bias (c : Dev nD) (g : Fin 4) (C : Fin 24576) :
    V m c main_v0 (ix3 g 0 C) = (m ((c : Thread nD τ).loc main_arg2)) (ix2 g C) := by
  have e : V m c main_v0 = shapeCast S4x1x24576 (m ((c : Thread nD τ).loc main_arg2)) shapeCasts_S4x24576_S4x1x24576 := rfl
  rw [e]
  refine shapeCast_apply _ _ _ (ix2 g C) ?_
  rw [Shape.rowMajor_val_three, Shape.rowMajor_val_two]
  show g.val * 24576 + C.val = (g.val * 1 + 0) * 24576 + C.val
  omega

/-- The array the run leaves is the reference's. -/
theorem final (c : Dev nD) :
    (dats m 0 c).arrAt 3 cfg0.N
      = Cert.Reference11Ideal.Read.val_main_v3 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  have hN : t.val < 48 := lt_of_lt_of_eq t.isLt N_0
  blk_simp
  rw [out_eq]
  obtain ⟨s, hs⟩ : ∃ s : Fin 8, s = y 1 := ⟨_, rfl⟩
  obtain ⟨l, hl⟩ : ∃ l : Fin 2048, l = y 2 := ⟨_, rfl⟩
  have ey : y = ix3 0 s l := by
    funext a; fin_cases a
    · exact Subsingleton.elim (α := Fin 1) _ _
    · exact hs.symm
    · exact hl.symm
  rw [ey, pay_read]
  obtain ⟨g, hg⟩ : ∃ g : Fin 4, g.val = t.val / 12 := ⟨⟨t.val / 12, by omega⟩, rfl⟩
  obtain ⟨C, hC⟩ : ∃ C : Fin 24576, C.val = t.val % 12 * 2048 + l.val := ⟨⟨t.val % 12 * 2048 + l.val, by omega⟩, rfl⟩
  have ha : ∀ k : Fin 1024, iblk m c 0 t (ix3 0 s k) = (m ((c : Thread nD τ).loc main_arg0)) (ix3 g s k) := fun k => by
    blk_ext [iblk, V, idx t] <;> omega
  have hw : ∀ k : Fin 1024, iblk m c 1 t (ix3 0 k l) = (m ((c : Thread nD τ).loc main_arg1)) (ix3 g k C) := fun k => by
    blk_ext [iblk, V, idx t] <;> omega
  have hb : iblk m c 2 t (ix3 0 0 l) = (m ((c : Thread nD τ).loc main_arg2)) (ix2 g C) := by
    refine Eq.trans ?_ (bias m c g C)
    blk_ext [iblk, idx t] <;> omega
  simp only [ha, hw, hb]
  refine (ref_read _ _ _ g s C).symm.trans ?_
  blk_ext [idx t] <;> omega

end Cert.Kernel11Ideal.Value

end
-- ==== Proof.Sgu.lean ====
/- The spatial gating: gelu, the norm, the products with the eight groups' chunk weights, the gate and the second norm, of
   the kernel's chunks and of the reference.
   Hand-written. -/
module

public import proofs.«01_k».proof.Proof.Gen.Kernel12Ideal.Value
public import proofs.«01_k».proof.Proof.Gen.Reference12Ideal.Read
public import proofs.«01_k».proof.Proof.Norm
public import Idealize.ShloMosaic.Lib.Pipeline.ReadBack
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Norm (scale)

namespace Cert.Sgu

/-- gelu in the form with tanh. -/
def gelu (x : EReal) : EReal :=
  FloatOps.mulf (F := Ideal) (φ := .f32) x (FloatOps.mulf (F := Ideal) (φ := .f32) (FloatOps.ofBits (F := Ideal) .f32 0x3F000000#32)
    (FloatOps.addf (F := Ideal) (φ := .f32) (FloatOps.ofBits (F := Ideal) .f32 0x3F800000#32)
      (FloatOps.tanh (F := Ideal) (φ := .f32) (FloatOps.mulf (F := Ideal) (φ := .f32) (FloatOps.ofBits (F := Ideal) .f32 0x3F4C422A#32)
        (FloatOps.addf (F := Ideal) (φ := .f32) x (FloatOps.mulf (F := Ideal) (φ := .f32) (FloatOps.ofBits (F := Ideal) .f32 0x3D372713#32)
          (FloatOps.mulf (F := Ideal) (φ := .f32) x (FloatOps.mulf (F := Ideal) (φ := .f32) x x))))))))

end Cert.Sgu

open Cert.Sgu (gelu)

namespace Cert.Reference12Ideal.Value

open Cert.Reference12Ideal Cert.Reference12Ideal.Gen Cert.Reference12Ideal.Read
open scoped BigOperators

/-- The first half of the columns, at an index. -/
theorem u_read (X : Vec Ideal S16896x8192 .bf16) (R : Fin 16896) (C : Fin 1024) :
    val_main_v14 (F := Ideal) X (ix2 R C) = gelu (X (ix2 R ⟨C.val, by omega⟩)) := by
  have e : idx_main_v0 (ix2 R C) = ix2 R ⟨C.val, by omega⟩ := by funext a; fin_cases a <;> rfl
  have hx : val_main_v1 (F := Ideal) X (ix2 R C) = X (ix2 R ⟨C.val, by omega⟩) := by
    rw [val_main_v1_apply, val_main_v0_apply, e]
    rfl
  have hc : val_main_v3 (F := Ideal) X (ix2 R C)
      = X (ix2 R ⟨C.val, by omega⟩) * (X (ix2 R ⟨C.val, by omega⟩) * X (ix2 R ⟨C.val, by omega⟩)) := by
    rw [val_main_v3_apply, val_main_v2_apply, hx]
    exact mul_comm _ _
  rw [val_main_v14_apply, val_main_v13_apply, val_main_v12_apply, val_main_cst_2_apply, val_main_v11_apply, val_main_v10_apply, val_main_cst_1_apply, val_main_v9_apply, val_main_v8_apply, val_main_v7_apply, val_main_cst_0_apply, val_main_v6_apply,
    val_main_v5_apply, val_main_v4_apply, val_main_cst_apply, hc, hx]
  rfl

/-- The second half, at an index. -/
theorem v_read (X : Vec Ideal S16896x8192 .bf16) (R : Fin 16896) (C : Fin 1024) :
    val_main_v29 (F := Ideal) X (ix2 R C) = gelu (X (ix2 R ⟨1024 + C.val, by omega⟩)) := by
  have e : idx_main_v15 (ix2 R C) = ix2 R ⟨1024 + C.val, by omega⟩ := by funext a; fin_cases a <;> rfl
  have hx : val_main_v16 (F := Ideal) X (ix2 R C) = X (ix2 R ⟨1024 + C.val, by omega⟩) := by
    rw [val_main_v16_apply, val_main_v15_apply, e]
    rfl
  have hc : val_main_v18 (F := Ideal) X (ix2 R C)
      = X (ix2 R ⟨1024 + C.val, by omega⟩) * (X (ix2 R ⟨1024 + C.val, by omega⟩) * X (ix2 R ⟨1024 + C.val, by omega⟩)) := by
    rw [val_main_v18_apply, val_main_v17_apply, hx]
    exact mul_comm _ _
  rw [val_main_v29_apply, val_main_v28_apply, val_main_v27_apply, val_main_cst_6_apply, val_main_v26_apply, val_main_v25_apply, val_main_cst_5_apply, val_main_v24_apply, val_main_v23_apply, val_main_v22_apply, val_main_cst_4_apply, val_main_v21_apply,
    val_main_v20_apply, val_main_v19_apply, val_main_cst_3_apply, hc, hx]
  rfl

/-- Its norm. -/
theorem vn_read (X : Vec Ideal S16896x8192 .bf16) (G : Vec Ideal S1024 .f32) (R : Fin 16896) (C : Fin 1024) :
    val_main_v42 (F := Ideal) X G (ix2 R C)
      = val_main_v29 (F := Ideal) X (ix2 R C)
          * scale 0x44800000#32 (∑ k : Fin 1024, val_main_v29 (F := Ideal) X (ix2 R k) * val_main_v29 (F := Ideal) X (ix2 R k)) * G (ix1 C) := by
  have hs : val_main_v31 (F := Ideal) X (ix1 R)
      = ∑ k : Fin 1024, val_main_v29 (F := Ideal) X (ix2 R k) * val_main_v29 (F := Ideal) X (ix2 R k) := by
    rw [val_main_v31_apply, val_main_cst_7_apply]
    refine (Cert.Norm.zero_add_bits _).trans (Finset.sum_congr rfl fun k _ => ?_)
    rw [val_main_v30_apply]
    have e : idx_main_v31 (ix1 R) k = ix2 R k := by funext a; fin_cases a <;> rfl
    rw [e]
    rfl
  have hr : val_main_v38 (F := Ideal) X (ix2 R C)
      = scale 0x44800000#32 (∑ k : Fin 1024, val_main_v29 (F := Ideal) X (ix2 R k) * val_main_v29 (F := Ideal) X (ix2 R k)) := by
    rw [← hs, val_main_v38_apply, val_main_v37_apply, val_main_v36_apply, val_main_v34_apply, val_main_v32_apply, val_main_v33_apply,
      val_main_v35_apply]
    have e : idx_main_v32 (idx_main_v38 (ix2 R C)) = ix1 R := by funext a; fin_cases a; rfl
    rw [e]
    rfl
  have hg : val_main_v41 (F := Ideal) G (ix2 R C) = G (ix1 C) := by
    rw [val_main_v41_apply, val_main_v40_apply]
    refine congrArg G (funext fun a => ?_)
    fin_cases a; rfl
  rw [val_main_v42_apply, val_main_v39_apply, hr, hg]
  rfl

/-- The group of a column. -/
def grp (C : Fin 1024) : Fin 8 := ⟨C.val / 128, by omega⟩

/-- Row `p` of chunk `n`. -/
def row (n : Fin 132) (p : Fin 128) : Fin 16896 := ⟨n.val * 128 + p.val, by omega⟩

/-- The chunk's rows put together by the group's weights, plus the bias, at an index. -/
theorem mix_read (X : Vec Ideal S16896x8192 .bf16) (G : Vec Ideal S1024 .f32) (W : Vec Ideal S8x128x128 .f32) (B : Vec Ideal S8x128 .f32)
    (n : Fin 132) (p : Fin 128) (C : Fin 1024) :
    val_main_v50 (F := Ideal) X G W B (ix2 (row n p) C)
      = (∑ k : Fin 128, W (ix3 (grp C) p k) * val_main_v42 (F := Ideal) X G (ix2 (row n k) C)) + B (ix2 (grp C) p) := by
  have hb : val_main_v48 (F := Ideal) B (idx_main_v50 (ix2 (row n p) C)) = B (ix2 (grp C) p) := by
    rw [val_main_v48_apply, val_main_v47_apply, val_main_v46_apply]
    refine congrArg B (funext fun a => Fin.ext ?_)
    fin_cases a
    · show ((n.val * 128 + p.val) * 1024 + C.val) / 128 % 8 = C.val / 128
      omega
    · show ((n.val * 128 + p.val) * 1024 + C.val) / 1024 % 128 = p.val
      omega
  rw [val_main_v50_apply, val_main_v49_apply, hb, val_main_v45_apply, val_main_v44_apply]
  refine congrArg (· + B (ix2 (grp C) p)) (Finset.sum_congr rfl fun k _ => ?_)
  rw [val_main_v43_apply]
  refine (mul_comm _ _).trans (congr_arg₂ (· * ·) (congrArg W (funext fun a => Fin.ext ?_))
    (congrArg (val_main_v42 (F := Ideal) X G) (funext fun a => Fin.ext ?_)))
  · fin_cases a
    · show ((n.val * 128 + p.val) * 1024 + C.val) / 128 % 8 = C.val / 128
      omega
    · show ((n.val * 128 + p.val) * 1024 + C.val) / 1024 % 128 = p.val
      omega
    · rfl
  · fin_cases a
    · show ((((((n.val * 128 + p.val) * 1024 + C.val) / 131072) * 128 + k.val) * 8 + ((n.val * 128 + p.val) * 1024 + C.val) / 128 % 8) * 128
        + ((n.val * 128 + p.val) * 1024 + C.val) % 128) / 1024 = n.val * 128 + k.val
      omega
    · show ((((((n.val * 128 + p.val) * 1024 + C.val) / 131072) * 128 + k.val) * 8 + ((n.val * 128 + p.val) * 1024 + C.val) / 128 % 8) * 128
        + ((n.val * 128 + p.val) * 1024 + C.val) % 128) % 1024 = C.val
      omega

/-- The result, at an index. -/
theorem ref_read (X : Vec Ideal S16896x8192 .bf16) (G : Vec Ideal S1024 .f32) (W : Vec Ideal S8x128x128 .f32) (B : Vec Ideal S8x128 .f32)
    (A : Vec Ideal S1024 .f32) (R : Fin 16896) (C : Fin 1024) :
    val_main_v65 (F := Ideal) X G W B A (ix2 R C)
      = val_main_v51 (F := Ideal) X G W B (ix2 R C)
          * scale 0x44800000#32 (∑ k : Fin 1024, val_main_v51 (F := Ideal) X G W B (ix2 R k) * val_main_v51 (F := Ideal) X G W B (ix2 R k))
          * A (ix1 C) := by
  have hs : val_main_v53 (F := Ideal) X G W B (ix1 R)
      = ∑ k : Fin 1024, val_main_v51 (F := Ideal) X G W B (ix2 R k) * val_main_v51 (F := Ideal) X G W B (ix2 R k) := by
    rw [val_main_v53_apply, val_main_cst_10_apply]
    refine (Cert.Norm.zero_add_bits _).trans (Finset.sum_congr rfl fun k _ => ?_)
    rw [val_main_v52_apply]
    have e : idx_main_v53 (ix1 R) k = ix2 R k := by funext a; fin_cases a <;> rfl
    rw [e]
    rfl
  have hr : val_main_v60 (F := Ideal) X G W B (ix2 R C)
      = scale 0x44800000#32 (∑ k : Fin 1024, val_main_v51 (F := Ideal) X G W B (ix2 R k) * val_main_v51 (F := Ideal) X G W B (ix2 R k)) := by
    rw [← hs, val_main_v60_apply, val_main_v59_apply, val_main_v58_apply, val_main_v56_apply, val_main_v54_apply, val_main_v55_apply,
      val_main_v57_apply]
    have e : idx_main_v54 (idx_main_v60 (ix2 R C)) = ix1 R := by funext a; fin_cases a; rfl
    rw [e]
    rfl
  have hg : val_main_v63 (F := Ideal) A (ix2 R C) = A (ix1 C) := by
    rw [val_main_v63_apply, val_main_v62_apply]
    refine congrArg A (funext fun a => ?_)
    fin_cases a; rfl
  rw [val_main_v65_apply, val_main_v64_apply, val_main_v61_apply, hr, hg]
  rfl

end Cert.Reference12Ideal.Value

namespace Cert.Kernel12Ideal.Value

open Cert.Kernel12Ideal Cert.Kernel12Ideal.Gen
open Cert.Reference12Ideal.Value (u_read v_read vn_read mix_read ref_read grp row)
open scoped BigOperators

/-- A chunk's rows with their norm taken. -/
def normed (y : FVec Ideal S128x1024 .f32) (g : Vec Ideal S1x1024 .f32) : FVec Ideal S128x1024 .bf16 :=
  truncf .bf16 (mulf (mulf y (broadcastTo S128x1024 (rsqrt (addf (divf (shapeCast S128x1
    (multiReduction .add [1] S128 (mulf y y) 0x00000000#32 reduces_S128x1024_S128 (.inl rfl) rfl) shapeCasts_S128_S128x1)
    (broadcast S128x1 (Scalar.ofBits .f32 0x44800000#32))) (broadcast S128x1 (Scalar.ofBits .f32 0x358637BD#32))))
    broadcasts_S128x1_S128x1024)) (broadcastTo S128x1024 (shapeCast S1x1024 g shapeCasts_S1x1024_S1x1024) broadcasts_S1x1024_S128x1024))
    bitsLt_bf16_f32

/-- One group's weights times the chunk's columns that start at `o`. -/
def dot (v : FVec Ideal S128x1024 .bf16) (w : Vec Ideal S1x128x128 .bf16) (o : ℕ) (h : S128x1024.Slices ![0, o] S128x128) :
    FVec Ideal S128x128 .f32 :=
  matmul (φ₁ := .bf16) (φ₂ := .bf16) dot_S128x128_S128x128_S128x128_1_0_0_1_n_n none (shapeCast S128x128 w shapeCasts_S1x128x128_S128x128)
    (extractStridedSlice S128x128 ![0, o] v h) (constant S128x128 .f32 0x00000000#32)

/-- The eight groups' products beside one another. -/
def mixed (v : FVec Ideal S128x1024 .bf16) (w0 w1 w2 w3 w4 w5 w6 w7 : Vec Ideal S1x128x128 .bf16) : FVec Ideal S128x1024 .f32 :=
  concatenate S128x1024 1 [⟨S128x128, dot v w0 0 slices_S128x1024_o0_0_S128x128⟩, ⟨S128x128, dot v w1 128 slices_S128x1024_o0_128_S128x128⟩, ⟨S128x128, dot v w2 256 slices_S128x1024_o0_256_S128x128⟩, ⟨S128x128, dot v w3 384 slices_S128x1024_o0_384_S128x128⟩, ⟨S128x128, dot v w4 512 slices_S128x1024_o0_512_S128x128⟩, ⟨S128x128, dot v w5 640 slices_S128x1024_o0_640_S128x128⟩, ⟨S128x128, dot v w6 768 slices_S128x1024_o0_768_S128x128⟩, ⟨S128x128, dot v w7 896 slices_S128x1024_o0_896_S128x128⟩]
    concatenates_S128x128_S128x128_S128x128_S128x128_S128x128_S128x128_S128x128_S128x128_S128x1024_d1

/-- The gate times the mixed rows with their bias. -/
def gated (u z b : FVec Ideal S128x1024 .f32) : FVec Ideal S128x1024 .f32 :=
  mulf u (addf z (shapeCast S128x1024 b shapeCasts_S128x1024_S128x1024))

/-- What a chunk's rows become. -/
def chunk (xu xv : Vec Ideal S128x1024 .bf16) (gv : Vec Ideal S1x1024 .f32) (w0 w1 w2 w3 w4 w5 w6 w7 : Vec Ideal S1x128x128 .bf16)
    (b : Vec Ideal S128x1024 .f32) (ga : Vec Ideal S1x1024 .f32) : FVec Ideal S128x1024 .bf16 :=
  normed (gated (k0_pay2 xu) (mixed (normed (k0_pay2 xv) gv) w0 w1 w2 w3 w4 w5 w6 w7) b) ga

/-- Each of these read at an index: the gate, -/
theorem gelu_read (x : Vec Ideal S128x1024 .bf16) (p : Fin 128) (C : Fin 1024) : k0_pay2 x (ix2 p C) = gelu (x (ix2 p C)) := rfl

/-- the norm, -/
theorem normed_read (y : FVec Ideal S128x1024 .f32) (g : Vec Ideal S1x1024 .f32) (p : Fin 128) (C : Fin 1024) :
    normed y g (ix2 p C) = y (ix2 p C) * scale 0x44800000#32 (∑ k : Fin 1024, y (ix2 p k) * y (ix2 p k)) * g (ix2 0 C) := by
  pointwise [normed]
  rfl

/-- the gated rows, -/
theorem gated_read (u z b : FVec Ideal S128x1024 .f32) (p : Fin 128) (C : Fin 1024) :
    gated u z b (ix2 p C) = u (ix2 p C) * (z (ix2 p C) + b (ix2 p C)) := by
  pointwise [gated]

/-- a product of two square blocks, -/
theorem mm_read (a b : FVec Ideal S128x128 .bf16) (p c : Fin 128) :
    matmul dot_S128x128_S128x128_S128x128_1_0_0_1_n_n none a b (constant S128x128 .f32 0x00000000#32) (ix2 p c)
      = ∑ k : Fin 128, a (ix2 p k) * b (ix2 k c) := by
  pointwise []

/-- one group's product, -/
theorem dot_read (v : FVec Ideal S128x1024 .bf16) (w : Vec Ideal S1x128x128 .bf16) (o : ℕ) (h : S128x1024.Slices ![0, o] S128x128)
    (p c : Fin 128) (C : Fin 1024) (hC : C.val = o + c.val) :
    dot v w o h (ix2 p c) = ∑ k : Fin 128, w (ix3 0 p k) * v (ix2 k C) := by
  unfold dot
  rw [mm_read]
  refine Finset.sum_congr rfl fun k _ => congr_arg₂ (· * ·) ?_ ?_
  · refine shapeCast_apply _ _ _ (ix3 0 p k) ?_
    rw [Shape.rowMajor_val_three, Shape.rowMajor_val_two]
    show (0 * 128 + p.val) * 128 + k.val = p.val * 128 + k.val
    omega
  · refine extractStridedSlice_apply _ _ _ _ (ix2 k C) fun a => ?_
    fin_cases a
    · show k.val = 0 + k.val
      omega
    · exact hC

/-- eight blocks side by side, which have the value `T` where each has it, -/
theorem cat_read (f0 f1 f2 f3 f4 f5 f6 f7 : FVec Ideal S128x128 .f32) (p : Fin 128) (C : Fin 1024) (T : EReal)
    (H0 : ∀ c : Fin 128, C.val = 0 + c.val → f0 (ix2 p c) = T)
    (H1 : ∀ c : Fin 128, C.val = 128 + c.val → f1 (ix2 p c) = T)
    (H2 : ∀ c : Fin 128, C.val = 256 + c.val → f2 (ix2 p c) = T)
    (H3 : ∀ c : Fin 128, C.val = 384 + c.val → f3 (ix2 p c) = T)
    (H4 : ∀ c : Fin 128, C.val = 512 + c.val → f4 (ix2 p c) = T)
    (H5 : ∀ c : Fin 128, C.val = 640 + c.val → f5 (ix2 p c) = T)
    (H6 : ∀ c : Fin 128, C.val = 768 + c.val → f6 (ix2 p c) = T)
    (H7 : ∀ c : Fin 128, C.val = 896 + c.val → f7 (ix2 p c) = T) :
    concatenate S128x1024 1 [⟨S128x128, f0⟩, ⟨S128x128, f1⟩, ⟨S128x128, f2⟩, ⟨S128x128, f3⟩, ⟨S128x128, f4⟩, ⟨S128x128, f5⟩, ⟨S128x128, f6⟩, ⟨S128x128, f7⟩]
      concatenates_S128x128_S128x128_S128x128_S128x128_S128x128_S128x128_S128x128_S128x128_S128x1024_d1 (ix2 p C) = T := by
  pointwise []
  split_ifs
  all_goals first
  | exact H0 _ (by simp only []; omega)
  | exact H1 _ (by simp only []; omega)
  | exact H2 _ (by simp only []; omega)
  | exact H3 _ (by simp only []; omega)
  | exact H4 _ (by simp only []; omega)
  | exact H5 _ (by simp only []; omega)
  | exact H6 _ (by simp only []; omega)
  | exact H7 _ (by simp only []; omega)

/-- and the eight groups' products. -/
theorem mixed_read (v : FVec Ideal S128x1024 .bf16) (w0 w1 w2 w3 w4 w5 w6 w7 : Vec Ideal S1x128x128 .bf16)
    (W : Fin 8 → Fin 128 → Fin 128 → EReal)
    (H0 : ∀ p k : Fin 128, w0 (ix3 0 p k) = W 0 p k)
    (H1 : ∀ p k : Fin 128, w1 (ix3 0 p k) = W 1 p k)
    (H2 : ∀ p k : Fin 128, w2 (ix3 0 p k) = W 2 p k)
    (H3 : ∀ p k : Fin 128, w3 (ix3 0 p k) = W 3 p k)
    (H4 : ∀ p k : Fin 128, w4 (ix3 0 p k) = W 4 p k)
    (H5 : ∀ p k : Fin 128, w5 (ix3 0 p k) = W 5 p k)
    (H6 : ∀ p k : Fin 128, w6 (ix3 0 p k) = W 6 p k)
    (H7 : ∀ p k : Fin 128, w7 (ix3 0 p k) = W 7 p k)
    (p : Fin 128) (C : Fin 1024) :
    mixed v w0 w1 w2 w3 w4 w5 w6 w7 (ix2 p C) = ∑ k : Fin 128, W (grp C) p k * v (ix2 k C) := by
  unfold mixed
  refine cat_read _ _ _ _ _ _ _ _ p C _ ?_ ?_ ?_ ?_ ?_ ?_ ?_ ?_
  · intro c hc
    have e : grp C = 0 := Fin.ext (by show C.val / 128 = 0; omega)
    rw [dot_read _ _ _ _ p c C hc, e]
    simp only [H0]
  · intro c hc
    have e : grp C = 1 := Fin.ext (by show C.val / 128 = 1; omega)
    rw [dot_read _ _ _ _ p c C hc, e]
    simp only [H1]
  · intro c hc
    have e : grp C = 2 := Fin.ext (by show C.val / 128 = 2; omega)
    rw [dot_read _ _ _ _ p c C hc, e]
    simp only [H2]
  · intro c hc
    have e : grp C = 3 := Fin.ext (by show C.val / 128 = 3; omega)
    rw [dot_read _ _ _ _ p c C hc, e]
    simp only [H3]
  · intro c hc
    have e : grp C = 4 := Fin.ext (by show C.val / 128 = 4; omega)
    rw [dot_read _ _ _ _ p c C hc, e]
    simp only [H4]
  · intro c hc
    have e : grp C = 5 := Fin.ext (by show C.val / 128 = 5; omega)
    rw [dot_read _ _ _ _ p c C hc, e]
    simp only [H5]
  · intro c hc
    have e : grp C = 6 := Fin.ext (by show C.val / 128 = 6; omega)
    rw [dot_read _ _ _ _ p c C hc, e]
    simp only [H6]
  · intro c hc
    have e : grp C = 7 := Fin.ext (by show C.val / 128 = 7; omega)
    rw [dot_read _ _ _ _ p c C hc, e]
    simp only [H7]

/-- A chunk's rows are the reference's. -/
theorem chunk_read (xu xv : Vec Ideal S128x1024 .bf16) (gv : Vec Ideal S1x1024 .f32) (w0 w1 w2 w3 w4 w5 w6 w7 : Vec Ideal S1x128x128 .bf16)
    (b : Vec Ideal S128x1024 .f32) (ga : Vec Ideal S1x1024 .f32) (X : Vec Ideal S16896x8192 .bf16) (G : Vec Ideal S1024 .f32)
    (W : Vec Ideal S8x128x128 .f32) (B : Vec Ideal S8x128 .f32) (A : Vec Ideal S1024 .f32) (n : Fin 132)
    (hu : ∀ (p : Fin 128) (C : Fin 1024), xu (ix2 p C) = X (ix2 (row n p) ⟨C.val, by omega⟩))
    (hv : ∀ (p : Fin 128) (C : Fin 1024), xv (ix2 p C) = X (ix2 (row n p) ⟨1024 + C.val, by omega⟩))
    (hg : ∀ C : Fin 1024, gv (ix2 0 C) = G (ix1 C))
    (H0 : ∀ p k : Fin 128, w0 (ix3 0 p k) = W (ix3 0 p k))
    (H1 : ∀ p k : Fin 128, w1 (ix3 0 p k) = W (ix3 1 p k))
    (H2 : ∀ p k : Fin 128, w2 (ix3 0 p k) = W (ix3 2 p k))
    (H3 : ∀ p k : Fin 128, w3 (ix3 0 p k) = W (ix3 3 p k))
    (H4 : ∀ p k : Fin 128, w4 (ix3 0 p k) = W (ix3 4 p k))
    (H5 : ∀ p k : Fin 128, w5 (ix3 0 p k) = W (ix3 5 p k))
    (H6 : ∀ p k : Fin 128, w6 (ix3 0 p k) = W (ix3 6 p k))
    (H7 : ∀ p k : Fin 128, w7 (ix3 0 p k) = W (ix3 7 p k))
    (hb : ∀ (p : Fin 128) (C : Fin 1024), b (ix2 p C) = B (ix2 (grp C) p))
    (ha : ∀ C : Fin 1024, ga (ix2 0 C) = A (ix1 C)) (p : Fin 128) (C : Fin 1024) :
    chunk xu xv gv w0 w1 w2 w3 w4 w5 w6 w7 b ga (ix2 p C)
      = Cert.Reference12Ideal.Read.val_main_v65 (F := Ideal) X G W B A (ix2 (row n p) C) := by
  have hn : ∀ (k : Fin 128) (C : Fin 1024), normed (k0_pay2 xv) gv (ix2 k C)
      = Cert.Reference12Ideal.Read.val_main_v42 (F := Ideal) X G (ix2 (row n k) C) := fun k C => by
    rw [normed_read, vn_read, hg]
    simp only [gelu_read, v_read, hv]
  have hy : ∀ C : Fin 1024, gated (k0_pay2 xu) (mixed (normed (k0_pay2 xv) gv) w0 w1 w2 w3 w4 w5 w6 w7) b (ix2 p C)
      = Cert.Reference12Ideal.Read.val_main_v51 (F := Ideal) X G W B (ix2 (row n p) C) := fun C => by
    rw [gated_read, mixed_read _ w0 w1 w2 w3 w4 w5 w6 w7 (fun i p k => W (ix3 i p k)) H0 H1 H2 H3 H4 H5 H6 H7 p C, gelu_read, hu, hb,
      Cert.Reference12Ideal.Read.val_main_v51_apply, u_read, mix_read]
    simp only [hn]
    rfl
  unfold chunk
  rw [normed_read, ref_read, ha]
  simp only [hy]

variable (m : (ℓ : Loc nD τ sig) → Buf (Elt Ideal) ℓ)

/-- The block each window takes at a grid point. -/
theorem idx : ∀ t : Fin grid0.N,
    win0_0.index t = ![t.val, 0]
    ∧ win0_1.index t = ![t.val, 1]
    ∧ win0_2.index t = ![0, 0]
    ∧ win0_3.index t = ![0, 0, 0]
    ∧ win0_4.index t = ![0, 0]
    ∧ win0_5.index t = ![0, 0]
    ∧ win0_6.index t = ![t.val, 0] := by
  decide +kernel

/-- The rows of the output block, chunk by chunk. -/
theorem out_eq (x0 x1 : Vec Ideal S256x1024 .bf16) (x2 : Vec Ideal S1x1024 .f32) (x3 : Vec Ideal S8x128x128 .bf16)
    (x4 : Vec Ideal S128x1024 .f32) (x5 : Vec Ideal S1x1024 .f32) :
    out0_6 x0 x1 x2 x3 x4 x5 = View.canon
      [⟨r0_11, chunk (View.ld x0 r0_11) (View.ld x1 r0_11) (View.ld x2 r0_1) (View.ld x3 r0_2) (View.ld x3 r0_3) (View.ld x3 r0_4)
        (View.ld x3 r0_5) (View.ld x3 r0_6) (View.ld x3 r0_7) (View.ld x3 r0_8) (View.ld x3 r0_9) (View.ld x4 r0_10) (View.ld x5 r0_1)⟩,
       ⟨r0_0, chunk (View.ld x0 r0_0) (View.ld x1 r0_0) (View.ld x2 r0_1) (View.ld x3 r0_2) (View.ld x3 r0_3) (View.ld x3 r0_4)
        (View.ld x3 r0_5) (View.ld x3 r0_6) (View.ld x3 r0_7) (View.ld x3 r0_8) (View.ld x3 r0_9) (View.ld x4 r0_10) (View.ld x5 r0_1)⟩] := rfl

/-- The first norm's factors as the call has them: one row, -/
theorem gainV (c : Dev nD) (C : Fin 1024) : V m c main_v3 (ix2 0 C) = (m ((c : Thread nD τ).loc main_arg1)) (ix1 C) := by
  have e : V m c main_v3 = shapeCast S1x1024 (m ((c : Thread nD τ).loc main_arg1)) shapeCasts_S1024_S1x1024 := rfl
  rw [e]
  exact Idealize.ShloMosaic.ValueIdx.shapeCast_a_1a_apply _ _ _ _

/-- and the second norm's. -/
theorem gainA (c : Dev nD) (C : Fin 1024) : V m c main_v5 (ix2 0 C) = (m ((c : Thread nD τ).loc main_arg4)) (ix1 C) := by
  have e : V m c main_v5 = shapeCast S1x1024 (m ((c : Thread nD τ).loc main_arg4)) shapeCasts_S1024_S1x1024 := rfl
  rw [e]
  exact Idealize.ShloMosaic.ValueIdx.shapeCast_a_1a_apply _ _ _ _

/-- The bias as the call has it: each group's, over its columns. -/
theorem bias (c : Dev nD) (p : Fin 128) (C : Fin 1024) :
    V m c main_v2 (ix2 p C) = (m ((c : Thread nD τ).loc main_arg3)) (ix2 (grp C) p) := by
  have e : V m c main_v2 = shapeCast S128x1024 (broadcastInDim S128x8x128 ![0, 1] bcast_S128x8_S128x8x128_0_1
      (transpose S128x8 [1, 0] (m ((c : Thread nD τ).loc main_arg3)) transposes_S8x128_S128x8_1_0)) shapeCasts_S128x8x128_S128x1024 := rfl
  rw [e]
  refine (shapeCast_apply _ _ _ (ix3 p (grp C) ⟨C.val % 128, by omega⟩) ?_).trans
    ((broadcastInDim_apply _ _ _ _ (ix2 p (grp C)) fun a => ?_).trans (transpose_apply _ _ _ _ (ix2 (grp C) p) fun a => ?_))
  · rw [Shape.rowMajor_val_three, Shape.rowMajor_val_two]
    show (p.val * 8 + C.val / 128) * 128 + C.val % 128 = p.val * 1024 + C.val
    omega
  · fin_cases a <;> rfl
  · fin_cases a <;> rfl

/-- The blocks' rows and columns that a chunk loads. -/
theorem ld_u (c : Dev nD) (t : Fin cfg0.N) (n : Fin 132) (o : ℕ) (hn : n.val * 128 = t.val * 256 + o)
    (inb : ∀ a, (![o, 0] : Fin 2 → ℕ) a + S128x1024.size a ≤ S256x1024.size a) (p : Fin 128) (C : Fin 1024) :
    View.ld (Val := Elt Ideal) (e' := .bf16) (iblk m c 0 t : Vec Ideal S256x1024 .bf16) (Rect.unit (s := S256x1024) ![o, 0] S128x1024.size inb) (ix2 p C)
      = (m ((c : Thread nD τ).loc main_arg0)) (ix2 (row n p) ⟨C.val, by omega⟩) := by
  have ho : o + 128 ≤ 256 := inb 0
  refine (View.ld_unit_apply_of _ _ _ _ _ (ix2 (⟨o + p.val, by omega⟩ : Fin 256) C) fun a => ?_).trans ?_
  · fin_cases a
    · rfl
    · show C.val = 0 + C.val
      omega
  · blk_ext [iblk, V, idx t, row] <;> omega

/-- So for the second half of the columns, -/
theorem ld_v (c : Dev nD) (t : Fin cfg0.N) (n : Fin 132) (o : ℕ) (hn : n.val * 128 = t.val * 256 + o)
    (inb : ∀ a, (![o, 0] : Fin 2 → ℕ) a + S128x1024.size a ≤ S256x1024.size a) (p : Fin 128) (C : Fin 1024) :
    View.ld (Val := Elt Ideal) (e' := .bf16) (iblk m c 1 t : Vec Ideal S256x1024 .bf16) (Rect.unit (s := S256x1024) ![o, 0] S128x1024.size inb) (ix2 p C)
      = (m ((c : Thread nD τ).loc main_arg0)) (ix2 (row n p) ⟨1024 + C.val, by omega⟩) := by
  have ho : o + 128 ≤ 256 := inb 0
  refine (View.ld_unit_apply_of _ _ _ _ _ (ix2 (⟨o + p.val, by omega⟩ : Fin 256) C) fun a => ?_).trans ?_
  · fin_cases a
    · rfl
    · show C.val = 0 + C.val
      omega
  · blk_ext [iblk, V, idx t, row] <;> omega

/-- the first norm's factors, -/
theorem ld_gv (c : Dev nD) (t : Fin cfg0.N) (C : Fin 1024) :
    View.ld (Val := Elt Ideal) (e' := .f32) (iblk m c 2 t : Vec Ideal S1x1024 .f32) r0_1 (ix2 0 C) = (m ((c : Thread nD τ).loc main_arg1)) (ix1 C) := by
  refine (View.ld_unit_apply_of _ _ _ _ _ (ix2 0 C) fun a => ?_).trans (Eq.trans ?_ (gainV m c C))
  · fin_cases a
    · rfl
    · show C.val = 0 + C.val
      omega
  · blk_ext [iblk, idx t] <;> omega

/-- the second norm's, -/
theorem ld_ga (c : Dev nD) (t : Fin cfg0.N) (C : Fin 1024) :
    View.ld (Val := Elt Ideal) (e' := .f32) (iblk m c 5 t : Vec Ideal S1x1024 .f32) r0_1 (ix2 0 C) = (m ((c : Thread nD τ).loc main_arg4)) (ix1 C) := by
  refine (View.ld_unit_apply_of _ _ _ _ _ (ix2 0 C) fun a => ?_).trans (Eq.trans ?_ (gainA m c C))
  · fin_cases a
    · rfl
    · show C.val = 0 + C.val
      omega
  · blk_ext [iblk, idx t] <;> omega

/-- the bias -/
theorem ld_b (c : Dev nD) (t : Fin cfg0.N) (p : Fin 128) (C : Fin 1024) :
    View.ld (Val := Elt Ideal) (e' := .f32) (iblk m c 4 t : Vec Ideal S128x1024 .f32) r0_10 (ix2 p C) = (m ((c : Thread nD τ).loc main_arg3)) (ix2 (grp C) p) := by
  refine (View.ld_unit_apply_of _ _ _ _ _ (ix2 p C) fun a => ?_).trans (Eq.trans ?_ (bias m c p C))
  · fin_cases a
    · show p.val = 0 + p.val
      omega
    · show C.val = 0 + C.val
      omega
  · blk_ext [iblk, idx t] <;> omega

/-- and a group's weights. -/
theorem ld_w (c : Dev nD) (t : Fin cfg0.N) (i : Fin 8) (o : ℕ) (ho : i.val = o)
    (inb : ∀ a, (![o, 0, 0] : Fin 3 → ℕ) a + S1x128x128.size a ≤ S8x128x128.size a) (p k : Fin 128) :
    View.ld (Val := Elt Ideal) (e' := .bf16) (iblk m c 3 t : Vec Ideal S8x128x128 .bf16) (Rect.unit (s := S8x128x128) ![o, 0, 0] S1x128x128.size inb) (ix3 0 p k)
      = (m ((c : Thread nD τ).loc main_arg2)) (ix3 i p k) := by
  have e : V m c main_v4 = (m ((c : Thread nD τ).loc main_arg2) : S8x128x128.Idx → EReal) := rfl
  refine (View.ld_unit_apply_of _ _ _ _ _ (ix3 i p k) fun a => ?_).trans (Eq.trans ?_ (congrFun e (ix3 i p k)))
  · fin_cases a
    · exact ho
    · show p.val = 0 + p.val
      omega
    · show k.val = 0 + k.val
      omega
  · blk_ext [iblk, idx t] <;> omega

/-- The output block's rows are the reference's. -/
theorem out_read (c : Dev nD) (t : Fin cfg0.N) (y : S256x1024.Idx) (n : Fin 132) (p : Fin 128) (hn : n.val * 128 + p.val = t.val * 256 + (y 0).val) :
    out0_6 (iblk m c 0 t) (iblk m c 1 t) (iblk m c 2 t) (iblk m c 3 t) (iblk m c 4 t) (iblk m c 5 t) y
      = Cert.Reference12Ideal.Read.val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 (row n p) (y 1)) := by
  have hp := p.isLt
  rw [out_eq]
  canon_tiles x h
  all_goals
    have hx0 : (x 0).val < 128 := x0_lt
    obtain ⟨q, hq⟩ : ∃ q : Fin 128, q = x 0 := ⟨_, rfl⟩
    obtain ⟨C, hC⟩ : ∃ C : Fin 1024, C = x 1 := ⟨_, rfl⟩
    have ex : x = ix2 q C := by
      funext a; fin_cases a
      · exact hq.symm
      · exact hC.symm
    have hq' : q.val = (x 0).val := congrArg Fin.val hq
    have hC' : C.val = (x 1).val := congrArg Fin.val hC
    have e0 : q = p := Fin.ext (by omega)
    have e1 : C = y 1 := Fin.ext (by omega)
    rw [ex, ← e1, ← e0]
    refine chunk_read _ _ _ _ _ _ _ _ _ _ _ _ _ _ _ _ _ _ n ?_ ?_ ?_ ?_ ?_ ?_ ?_ ?_ ?_ ?_ ?_ ?_ ?_ q C
    · exact ld_u m c t n _ (by omega) _
    · exact ld_v m c t n _ (by omega) _
    · exact ld_gv m c t
    · exact ld_w m c t 0 0 rfl _
    · exact ld_w m c t 1 1 rfl _
    · exact ld_w m c t 2 2 rfl _
    · exact ld_w m c t 3 3 rfl _
    · exact ld_w m c t 4 4 rfl _
    · exact ld_w m c t 5 5 rfl _
    · exact ld_w m c t 6 6 rfl _
    · exact ld_w m c t 7 7 rfl _
    · exact ld_b m c t
    · exact ld_ga m c t

/-- The array the run leaves is the reference's. -/
theorem final (c : Dev nD) :
    (dats m 0 c).arrAt 6 cfg0.N
      = Cert.Reference12Ideal.Read.val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 66 := lt_of_lt_of_eq t.isLt N_0
  have hy : (y 0).val < 256 := (y 0).isLt
  blk_simp
  rw [after0_6]
  rw [out_read m c t y ⟨t.val * 2 + (y 0).val / 128, by omega⟩ ⟨(y 0).val % 128, by omega⟩
    (show (t.val * 2 + (y 0).val / 128) * 128 + (y 0).val % 128 = t.val * 256 + (y 0).val by omega)]
  blk_ext [idx t, row] <;> omega

end Cert.Kernel12Ideal.Value

end
-- ==== Proof.Merge.lean ====
/- The merging of the groups: what a grid point leaves in its output block, and the array the run leaves against the
   reference.
   Hand-written. -/
module

public import proofs.«01_k».proof.Proof.Gen.Kernel13Ideal.Value
public import proofs.«01_k».proof.Proof.Gen.Reference13Ideal.Read
public import proofs.«01_k».proof.Proof.Norm
public import Idealize.ShloMosaic.Lib.Pipeline.ReadBack
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem
open Idealize.ShloMosaic.Pipeline (Dat)
open Cert.Norm (scale)

namespace Cert.Reference13Ideal.Value

open Cert.Reference13Ideal Cert.Reference13Ideal.Gen Cert.Reference13Ideal.Read
open scoped BigOperators

/-- The rows of the second group joined, at an index, -/
theorem joinB_read (x : Vec Ideal S16384x1024 .bf16) (y : Vec Ideal S512x1024 .bf16) (R : Fin 16896) (C : Fin 1024) :
    val_main_v0 (F := Ideal) x y (ix2 R C)
      = if h : R.val < 16384 then x (ix2 ⟨R.val, h⟩ C) else y (ix2 ⟨R.val - 16384, by omega⟩ C) := by
  unfold val_main_v0
  pointwise []

/-- and of the third. -/
theorem joinC_read (x : Vec Ideal S16384x2048 .bf16) (y : Vec Ideal S512x2048 .bf16) (R : Fin 16896) (C : Fin 2048) :
    val_main_v2 (F := Ideal) x y (ix2 R C)
      = if h : R.val < 16384 then x (ix2 ⟨R.val, h⟩ C) else y (ix2 ⟨R.val - 16384, by omega⟩ C) := by
  unfold val_main_v2
  pointwise []

/-- The three groups' columns joined, at an index. -/
theorem cols_read (x y : Vec Ideal S16896x1024 .bf16) (z : Vec Ideal S16896x2048 .bf16) (R : Fin 16896) (C : Fin 4096) :
    concatenate S16896x4096 1 [⟨S16896x1024, x⟩, ⟨S16896x1024, y⟩, ⟨S16896x2048, z⟩]
        concatenates_S16896x1024_S16896x1024_S16896x2048_S16896x4096_d1 (ix2 R C)
      = if h : C.val < 1024 then x (ix2 R ⟨C.val, h⟩)
        else if h' : C.val - 1024 < 1024 then y (ix2 R ⟨C.val - 1024, h'⟩)
        else z (ix2 R ⟨C.val - 1024 - 1024, by omega⟩) := by
  pointwise []

/-- The norm of the second group, at an index. -/
theorem normB_read (X : Vec Ideal S16384x1024 .bf16) (Y : Vec Ideal S512x1024 .bf16) (G : Vec Ideal S1024 .f32) (R : Fin 16896) (C : Fin 1024) :
    val_main_v17 (F := Ideal) X Y G (ix2 R C)
      = val_main_v0 (F := Ideal) X Y (ix2 R C)
          * scale 0x44800000#32 (∑ k : Fin 1024, val_main_v0 (F := Ideal) X Y (ix2 R k) * val_main_v0 (F := Ideal) X Y (ix2 R k)) * G (ix1 C) := by
  have hs : val_main_v5 (F := Ideal) X Y (ix1 R)
      = ∑ k : Fin 1024, val_main_v0 (F := Ideal) X Y (ix2 R k) * val_main_v0 (F := Ideal) X Y (ix2 R k) := by
    rw [val_main_v5_apply, val_main_cst_apply]
    refine (Cert.Norm.zero_add_bits _).trans (Finset.sum_congr rfl fun k _ => ?_)
    rw [val_main_v4_apply]
    have e : idx_main_v5 (ix1 R) k = ix2 R k := by funext a; fin_cases a <;> rfl
    rw [e]
    rfl
  have hr : val_main_v12 (F := Ideal) X Y (ix2 R C)
      = scale 0x44800000#32 (∑ k : Fin 1024, val_main_v0 (F := Ideal) X Y (ix2 R k) * val_main_v0 (F := Ideal) X Y (ix2 R k)) := by
    rw [← hs, val_main_v12_apply, val_main_v11_apply, val_main_v10_apply, val_main_v8_apply, val_main_v6_apply,
      val_main_v7_apply, val_main_v9_apply]
    have e : idx_main_v6 (idx_main_v12 (ix2 R C)) = ix1 R := by funext a; fin_cases a; rfl
    rw [e]
    rfl
  have hg : val_main_v15 (F := Ideal) G (ix2 R C) = G (ix1 C) := by
    rw [val_main_v15_apply, val_main_v14_apply]
    refine congrArg G (funext fun a => ?_)
    fin_cases a; rfl
  rw [val_main_v17_apply, val_main_v16_apply, val_main_v13_apply, hr, hg]
  rfl

/-- The norm of the third group, at an index. -/
theorem normC_read (X : Vec Ideal S16384x2048 .bf16) (Y : Vec Ideal S512x2048 .bf16) (G : Vec Ideal S2048 .f32) (R : Fin 16896) (C : Fin 2048) :
    val_main_v31 (F := Ideal) X Y G (ix2 R C)
      = val_main_v2 (F := Ideal) X Y (ix2 R C)
          * scale 0x45000000#32 (∑ k : Fin 2048, val_main_v2 (F := Ideal) X Y (ix2 R k) * val_main_v2 (F := Ideal) X Y (ix2 R k)) * G (ix1 C) := by
  have hs : val_main_v19 (F := Ideal) X Y (ix1 R)
      = ∑ k : Fin 2048, val_main_v2 (F := Ideal) X Y (ix2 R k) * val_main_v2 (F := Ideal) X Y (ix2 R k) := by
    rw [val_main_v19_apply, val_main_cst_2_apply]
    refine (Cert.Norm.zero_add_bits _).trans (Finset.sum_congr rfl fun k _ => ?_)
    rw [val_main_v18_apply]
    have e : idx_main_v19 (ix1 R) k = ix2 R k := by funext a; fin_cases a <;> rfl
    rw [e]
    rfl
  have hr : val_main_v26 (F := Ideal) X Y (ix2 R C)
      = scale 0x45000000#32 (∑ k : Fin 2048, val_main_v2 (F := Ideal) X Y (ix2 R k) * val_main_v2 (F := Ideal) X Y (ix2 R k)) := by
    rw [← hs, val_main_v26_apply, val_main_v25_apply, val_main_v24_apply, val_main_v22_apply, val_main_v20_apply,
      val_main_v21_apply, val_main_v23_apply]
    have e : idx_main_v20 (idx_main_v26 (ix2 R C)) = ix1 R := by funext a; fin_cases a; rfl
    rw [e]
    rfl
  have hg : val_main_v29 (F := Ideal) G (ix2 R C) = G (ix1 C) := by
    rw [val_main_v29_apply, val_main_v28_apply]
    refine congrArg G (funext fun a => ?_)
    fin_cases a; rfl
  rw [val_main_v31_apply, val_main_v30_apply, val_main_v27_apply, hr, hg]
  rfl

end Cert.Reference13Ideal.Value

namespace Cert.Kernel13Ideal.Value

open Cert.Kernel13Ideal Cert.Kernel13Ideal.Gen
open Cert.Reference13Ideal.Value (joinB_read joinC_read cols_read normB_read normC_read)
open scoped BigOperators

variable (m : (ℓ : Loc nD τ sig) → Buf (Elt Ideal) ℓ)

/-- The block each window takes at a grid point. -/
theorem idx : ∀ t : Fin grid0.N,
    win0_0.index t = ![t.val, 0]
    ∧ win0_1.index t = ![min t.val 63, 0]
    ∧ win0_2.index t = ![t.val - 64, 0]
    ∧ win0_3.index t = ![min t.val 63, 0]
    ∧ win0_4.index t = ![t.val - 64, 0]
    ∧ win0_5.index t = ![0, 0]
    ∧ win0_6.index t = ![0, 0]
    ∧ win0_7.index t = ![t.val, 0] := by
  decide +kernel

/-- The second group's stored columns at an index, over the blocks they come from, -/
theorem payB_read (x : Vec Ideal S256x1024 .bf16) (g : Vec Ideal S1x1024 .f32) (r : Fin 256) (l : Fin 1024) :
    k0_pay1 x g (ix2 r l) = x (ix2 r l) * scale 0x44800000#32 (∑ k : Fin 1024, x (ix2 r k) * x (ix2 r k)) * g (ix2 0 l) := by
  pointwise [k0_pay1]
  rfl

/-- and the third group's. -/
theorem payC_read (x : Vec Ideal S256x2048 .bf16) (g : Vec Ideal S1x2048 .f32) (r : Fin 256) (l : Fin 2048) :
    k0_pay2 x g (ix2 r l) = x (ix2 r l) * scale 0x45000000#32 (∑ k : Fin 2048, x (ix2 r k) * x (ix2 r k)) * g (ix2 0 l) := by
  pointwise [k0_pay2]
  rfl

/-- The two groups' rows at a grid point: those of the latents in the first 64 points, of the context in the last two. -/
def rowsB (c : Dev nD) (t : Fin cfg0.N) : Vec Ideal S256x1024 .bf16 := if t.val < 64 then iblk m c 1 t else iblk m c 2 t

/-- So for the third group. -/
def rowsC (c : Dev nD) (t : Fin cfg0.N) : Vec Ideal S256x2048 .bf16 := if t.val < 64 then iblk m c 3 t else iblk m c 4 t

/-- The first group's columns of the output block. -/
theorem outA (c : Dev nD) (t : Fin cfg0.N) (y : S256x4096.Idx) (z : S256x1024.Idx) (hy0 : (y 0).val = (z 0).val) (hy1 : (y 1).val = (z 1).val) :
    outsAt0 m c t.val t.isLt y = (iblk m c 0 t : Vec Ideal S256x1024 .bf16) z := by
  have hz : (z 1).val < 1024 := (z 1).isLt
  by_cases h0 : t.val < 64
  · rw [outsAt0_A m c t h0 (by omega)]
    frame_out
    canon_tiles x h using (View.cover_of_tiledBy _ ![256, 1024] (by sl_kernel_rfl) y)
    all_goals
      first
      | (exfalso; omega)
      | (exfalso; have := (show (x 1).val < 1024 from x1_lt); omega)
      | (obtain rfl : x = z := by blk_ext
         exact congrFun (by rfl) x)
  · rw [outsAt0_B m c t h0 (by omega)]
    frame_out
    canon_tiles x h using (View.cover_of_tiledBy _ ![256, 1024] (by sl_kernel_rfl) y)
    all_goals
      first
      | (exfalso; omega)
      | (exfalso; have := (show (x 1).val < 1024 from x1_lt); omega)
      | (obtain rfl : x = z := by blk_ext
         exact congrFun (by rfl) x)

/-- The second group's. -/
theorem outB (c : Dev nD) (t : Fin cfg0.N) (y : S256x4096.Idx) (z : S256x1024.Idx) (hy0 : (y 0).val = (z 0).val) (hy1 : (y 1).val = 1024 + (z 1).val) :
    outsAt0 m c t.val t.isLt y = (k0_pay1 (rowsB m c t) (iblk m c 5 t) : Vec Ideal S256x1024 .bf16) z := by
  have hz : (z 1).val < 1024 := (z 1).isLt
  unfold rowsB
  by_cases h0 : t.val < 64
  · rw [outsAt0_A m c t h0 (by omega)]
    rw [if_pos h0]
    frame_out
    canon_tiles x h using (View.cover_of_tiledBy _ ![256, 1024] (by sl_kernel_rfl) y)
    all_goals
      first
      | (exfalso; omega)
      | (exfalso; have := (show (x 1).val < 1024 from x1_lt); omega)
      | (obtain rfl : x = z := by blk_ext
         exact congrFun (by rfl) x)
  · rw [outsAt0_B m c t h0 (by omega)]
    rw [if_neg h0]
    frame_out
    canon_tiles x h using (View.cover_of_tiledBy _ ![256, 1024] (by sl_kernel_rfl) y)
    all_goals
      first
      | (exfalso; omega)
      | (exfalso; have := (show (x 1).val < 1024 from x1_lt); omega)
      | (obtain rfl : x = z := by blk_ext
         exact congrFun (by rfl) x)

/-- The third group's. -/
theorem outC (c : Dev nD) (t : Fin cfg0.N) (y : S256x4096.Idx) (z : S256x2048.Idx) (hy0 : (y 0).val = (z 0).val) (hy1 : (y 1).val = 2048 + (z 1).val) :
    outsAt0 m c t.val t.isLt y = (k0_pay2 (rowsC m c t) (iblk m c 6 t) : Vec Ideal S256x2048 .bf16) z := by
  have hz : (z 1).val < 2048 := (z 1).isLt
  unfold rowsC
  by_cases h0 : t.val < 64
  · rw [outsAt0_A m c t h0 (by omega)]
    rw [if_pos h0]
    frame_out
    canon_tiles x h using (View.cover_of_tiledBy _ ![256, 1024] (by sl_kernel_rfl) y)
    all_goals
      first
      | (exfalso; omega)
      | (exfalso; have := (show (x 1).val < 1024 from x1_lt); omega)
      | (obtain rfl : x = z := by blk_ext
         exact congrFun (by rfl) x)
  · rw [outsAt0_B m c t h0 (by omega)]
    rw [if_neg h0]
    frame_out
    canon_tiles x h using (View.cover_of_tiledBy _ ![256, 1024] (by sl_kernel_rfl) y)
    all_goals
      first
      | (exfalso; omega)
      | (exfalso; have := (show (x 1).val < 1024 from x1_lt); omega)
      | (obtain rfl : x = z := by blk_ext
         exact congrFun (by rfl) x)

/-- The norm's factors as the call has them: one row. -/
theorem gainB (c : Dev nD) (C : Fin 1024) : V m c main_v0 (ix2 0 C) = (m ((c : Thread nD τ).loc main_arg5)) (ix1 C) := by
  have e : V m c main_v0 = shapeCast S1x1024 (m ((c : Thread nD τ).loc main_arg5)) shapeCasts_S1024_S1x1024 := rfl
  rw [e]
  exact Idealize.ShloMosaic.ValueIdx.shapeCast_a_1a_apply _ _ _ _

/-- The norm's factors as the call has them: one row. -/
theorem gainC (c : Dev nD) (C : Fin 2048) : V m c main_v1 (ix2 0 C) = (m ((c : Thread nD τ).loc main_arg6)) (ix1 C) := by
  have e : V m c main_v1 = shapeCast S1x2048 (m ((c : Thread nD τ).loc main_arg6)) shapeCasts_S2048_S1x2048 := rfl
  rw [e]
  exact Idealize.ShloMosaic.ValueIdx.shapeCast_a_1a_apply _ _ _ _

/-- The group's rows at a grid point are the joined rows'. -/
theorem rowsB_read (c : Dev nD) (t : Fin cfg0.N) (r : Fin 256) (R : Fin 16896) (hR : R.val = t.val * 256 + r.val) (k : Fin 1024) :
    rowsB m c t (ix2 r k)
      = Cert.Reference13Ideal.Read.val_main_v0 (F := Ideal) (m ((c : Thread nD τ).loc main_arg1)) (m ((c : Thread nD τ).loc main_arg2)) (ix2 R k) := by
  have hN : t.val < 66 := lt_of_lt_of_eq t.isLt N_0
  rw [joinB_read]
  unfold rowsB
  by_cases h0 : t.val < 64
  · rw [if_pos h0, dif_pos (show R.val < 16384 by omega)]
    blk_ext [iblk, V, idx t] <;> omega
  · rw [if_neg h0, dif_neg (show ¬R.val < 16384 by omega)]
    blk_ext [iblk, V, idx t] <;> omega

/-- The group's rows at a grid point are the joined rows'. -/
theorem rowsC_read (c : Dev nD) (t : Fin cfg0.N) (r : Fin 256) (R : Fin 16896) (hR : R.val = t.val * 256 + r.val) (k : Fin 2048) :
    rowsC m c t (ix2 r k)
      = Cert.Reference13Ideal.Read.val_main_v2 (F := Ideal) (m ((c : Thread nD τ).loc main_arg3)) (m ((c : Thread nD τ).loc main_arg4)) (ix2 R k) := by
  have hN : t.val < 66 := lt_of_lt_of_eq t.isLt N_0
  rw [joinC_read]
  unfold rowsC
  by_cases h0 : t.val < 64
  · rw [if_pos h0, dif_pos (show R.val < 16384 by omega)]
    blk_ext [iblk, V, idx t] <;> omega
  · rw [if_neg h0, dif_neg (show ¬R.val < 16384 by omega)]
    blk_ext [iblk, V, idx t] <;> omega

/-- The array the run leaves is the reference's. -/
theorem final (c : Dev nD) :
    (dats m 0 c).arrAt 7 cfg0.N
      = Cert.Reference13Ideal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t hf y => ?_
  have hN : t.val < 66 := lt_of_lt_of_eq t.isLt N_0
  blk_simp
  rw [after0_7]
  obtain ⟨r, hr⟩ : ∃ r : Fin 256, r = y 0 := ⟨_, rfl⟩
  obtain ⟨C, hC⟩ : ∃ C : Fin 4096, C = y 1 := ⟨_, rfl⟩
  have ey : y = ix2 r C := by
    funext a; fin_cases a
    · exact hr.symm
    · exact hC.symm
  obtain ⟨R, hR⟩ : ∃ R : Fin 16896, R.val = t.val * 256 + r.val := ⟨⟨t.val * 256 + r.val, by omega⟩, rfl⟩
  rw [ey]
  refine Eq.trans ?_ (show Cert.Reference13Ideal.Read.val_main_v32 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix2 R C) = _ by blk_ext [idx t] <;> omega)
  unfold Cert.Reference13Ideal.Read.val_main_v32
  refine Eq.trans ?_ (cols_read _ _ _ R C).symm
  by_cases h1 : C.val < 1024
  · rw [dif_pos h1, outA m c t _ (ix2 r ⟨C.val, h1⟩) rfl rfl]
    blk_ext [iblk, V, idx t] <;> omega
  · rw [dif_neg h1]
    by_cases h2 : C.val - 1024 < 1024
    · rw [dif_pos h2, outB m c t _ (ix2 r ⟨C.val - 1024, h2⟩) rfl (show C.val = 1024 + (C.val - 1024) by omega), payB_read, normB_read]
      have hg : iblk m c 5 t (ix2 0 ⟨C.val - 1024, h2⟩) = (m ((c : Thread nD τ).loc main_arg5)) (ix1 ⟨C.val - 1024, h2⟩) := by
        refine Eq.trans ?_ (gainB m c _)
        blk_ext [iblk, idx t] <;> omega
      simp only [rowsB_read m c t r R hR, hg]
    · rw [dif_neg h2, outC m c t _ (ix2 r ⟨C.val - 1024 - 1024, by omega⟩) rfl (show C.val = 2048 + (C.val - 1024 - 1024) by omega), payC_read, normC_read]
      have hg : iblk m c 6 t (ix2 0 ⟨C.val - 1024 - 1024, by omega⟩) = (m ((c : Thread nD τ).loc main_arg6)) (ix1 ⟨C.val - 1024 - 1024, by omega⟩) := by
        refine Eq.trans ?_ (gainC m c _)
        blk_ext [iblk, idx t] <;> omega
      simp only [rowsC_read m c t r R hR, hg]

end Cert.Kernel13Ideal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Launch
public import proofs.«01_k».proof.Proof.Gen.Kernel6.Skeleton
public import proofs.«01_k».proof.Proof.Gen.Kernel6Ideal
public import proofs.«01_k».proof.Proof.Gen.Kernel6Ideal.Launch
public import proofs.«01_k».proof.Proof.Gen.Kernel6Ideal.Skeleton
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_tiles_in_use6
public import proofs.«01_k».proof.Proof.Gen.Kernel7
public import proofs.«01_k».proof.Proof.Gen.Kernel7.Launch
public import proofs.«01_k».proof.Proof.Gen.Kernel7.Skeleton
public import proofs.«01_k».proof.Proof.Gen.Kernel7Ideal
public import proofs.«01_k».proof.Proof.Gen.Kernel7Ideal.Launch
public import proofs.«01_k».proof.Proof.Gen.Kernel7Ideal.Skeleton
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_tiles_in_use7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Final
public import proofs.«01_k».proof.Proof.Pre
public import proofs.«01_k».proof.Proof.InProj
public import proofs.«01_k».proof.Proof.Swiglu
public import proofs.«01_k».proof.Proof.Residual
public import proofs.«01_k».proof.Proof.ResidualWide
public import proofs.«01_k».proof.Proof.UpGiven
public import proofs.«01_k».proof.Proof.UpValue
public import proofs.«01_k».proof.Proof.DownGiven
public import proofs.«01_k».proof.Proof.DownValue
public import proofs.«01_k».proof.Proof.FinalNorm
public import proofs.«01_k».proof.Proof.NormMod
public import proofs.«01_k».proof.Proof.AdaDown
public import proofs.«01_k».proof.Proof.AdaUp
public import proofs.«01_k».proof.Proof.Sgu
public import proofs.«01_k».proof.Proof.Merge
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and ends quiescent. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The value claim. -/
theorem algebraic : Cert.algebraic_KernelIdeal_ReferenceIdeal_pre_finite_ones (hKernelIdeal := Cert.KernelIdeal.Gen.facts)
    (hReferenceIdeal := Cert.ReferenceIdeal.Gen.facts) (hPre_finite_ones := Cert.Pre_finite_ones.facts) := by
  intro m g m' g' hpre hagree
  refine ⟨fun c => (Cert.KernelIdeal.Gen.dats m 0 c).arrAt 3 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h0, h1, h2⟩ := hagree c
  obtain ⟨p0, p1, p2⟩ := hpre c
  refine ⟨(h c).1.trans ?_, (h c).2⟩
  refine (Cert.ReferenceIdeal.Read.val_main_v23_eq _ _ _).trans ?_
  rw [h0, h1, h2]
  exact (Cert.KernelIdeal.Value.final m c (Cert.Pre_finite_ones.queries _ _ _ p0) (Cert.Pre_finite_ones.keys _ _ _ p1)
    (Cert.Pre_finite_ones.ones _ _ _ p2)).symm

/-- The input projection's reference runs, keeps its arguments and ends quiescent. -/
theorem reference2_frame : Cert.quiescent_Reference2Ideal (hReference2Ideal := Cert.Reference2Ideal.Gen.facts) :=
  fun m g _ => (θ_run Cert.Reference2Ideal.defs _ _).mono (fun r h => ⟨fun c => (h c).2, sem_eq_zero_of_no_sems (by decide) r.2⟩)
    (Cert.Reference2Ideal.Value.run (F := Ideal) m g)

/-- The input projection's value claim. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 3 Cert.Kernel2Ideal.cfg0.N,
    Cert.Kernel2Ideal.Value.run_out m g, ?_⟩
  refine (θ_run Cert.Reference2Ideal.defs _ _).mono (fun r h c => ?_) (Cert.Reference2Ideal.Value.run (F := Ideal) m' g')
  obtain ⟨h0, h1, h2⟩ := hagree c
  refine ⟨(h c).1.trans ?_, (h c).2⟩
  refine (Cert.Reference2Ideal.Read.val_main_v10_eq _ _ _).trans ?_
  rw [h0, h1, h2]
  exact (Cert.Kernel2Ideal.Value.final m c).symm

/-- The feed-forward's first half's reference runs, keeps its arguments and ends quiescent. -/
theorem reference3_frame : Cert.quiescent_Reference3Ideal (hReference3Ideal := Cert.Reference3Ideal.Gen.facts) :=
  fun m g _ => (θ_run Cert.Reference3Ideal.defs _ _).mono (fun r h => ⟨fun c => (h c).2, sem_eq_zero_of_no_sems (by decide) r.2⟩)
    (Cert.Reference3Ideal.Value.run (F := Ideal) m g)

/-- The feed-forward's first half's value claim. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 3 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨h0, h1, h2⟩ := hagree c
  refine ⟨(h c).1.trans ?_, (h c).2⟩
  refine (Cert.Reference3Ideal.Read.val_main_v9_eq _ _ _).trans ?_
  rw [h0, h1, h2]
  exact (Cert.Kernel3Ideal.Value.final m c).symm

/-- The feed-forward's second half's reference runs, keeps its arguments and ends quiescent. -/
theorem reference4_frame : Cert.quiescent_Reference4Ideal (hReference4Ideal := Cert.Reference4Ideal.Gen.facts) :=
  fun m g _ => (θ_run Cert.Reference4Ideal.defs _ _).mono (fun r h => ⟨fun c => (h c).2, sem_eq_zero_of_no_sems (by decide) r.2⟩)
    (Cert.Reference4Ideal.Value.run (F := Ideal) m g)

/-- The feed-forward's second half's value claim. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 4 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨h0, h1, h2, h3⟩ := hagree c
  refine ⟨(h c).1.trans ?_, (h c).2⟩
  refine (Cert.Reference4Ideal.Read.val_main_v16_eq _ _ _ _).trans ?_
  rw [h0, h1, h2, h3]
  exact (Cert.Kernel4Ideal.Value.final m c).symm

/-- The output projection's reference runs, keeps its arguments and ends quiescent. -/
theorem reference5_frame : Cert.quiescent_Reference5Ideal (hReference5Ideal := Cert.Reference5Ideal.Gen.facts) :=
  fun m g _ => (θ_run Cert.Reference5Ideal.defs _ _).mono (fun r h => ⟨fun c => (h c).2, sem_eq_zero_of_no_sems (by decide) r.2⟩)
    (Cert.Reference5Ideal.Value.run (F := Ideal) m g)

/-- The output projection's value claim. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 5 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  obtain ⟨h0, h1, h2, h3⟩ := hagree c
  refine ⟨(h c).1.trans ?_, (h c).2⟩
  refine (Cert.Reference5Ideal.Read.val_main_v16_eq _ _ _ _).trans ?_
  rw [h0, h1, h2, h3]
  exact (Cert.Kernel5Ideal.Value.final m c).symm

/-- The experts' up projection runs where the tiles' experts are among the eight and the tiles in use come first. -/
theorem kernel6_frame : Cert.quiescent_Kernel6 (hKernel6 := Cert.Kernel6.Gen.facts) (hPre_tiles_in_use6 := Cert.Pre_tiles_in_use6.Gen.facts) :=
  fun m g h => Cert.Kernel6.Tiles.frame m g (Cert.Kernel6.Tiles.ok_of m (Cert.Kernel6.Tiles.expert_lt m h)) (Cert.Kernel6.Tiles.use_of m h)

/-- So does its idealization. -/
theorem kernel6Ideal_frame : Cert.quiescent_Kernel6Ideal (hKernel6Ideal := Cert.Kernel6Ideal.Gen.facts) (hPre_tiles_in_use6 := Cert.Pre_tiles_in_use6.Gen.facts) :=
  fun m g h => Cert.Kernel6Ideal.Tiles.frame m g (Cert.Kernel6Ideal.Tiles.ok_of m (Cert.Kernel6Ideal.Tiles.expert_lt m h)) (Cert.Kernel6Ideal.Tiles.use_of m h)

/-- The experts' up projection's reference runs, keeps its arguments and ends quiescent. -/
theorem reference6_frame : Cert.quiescent_Reference6Ideal (hReference6Ideal := Cert.Reference6Ideal.Gen.facts) :=
  fun m g _ => (θ_run Cert.Reference6Ideal.defs _ _).mono (fun r h => ⟨fun c => (h c).2, sem_eq_zero_of_no_sems (by decide) r.2⟩)
    (Cert.Reference6Ideal.Value.run (F := Ideal) m g)

/-- In particular under the precondition. -/
theorem reference6_frame_pre : Cert.quiescent_Reference6Ideal_pre_tiles_in_use6 (hReference6Ideal := Cert.Reference6Ideal.Gen.facts)
    (hPre_tiles_in_use6 := Cert.Pre_tiles_in_use6.Gen.facts) :=
  fun m g _ => (θ_run Cert.Reference6Ideal.defs _ _).mono (fun r h => ⟨fun c => (h c).2, sem_eq_zero_of_no_sems (by decide) r.2⟩)
    (Cert.Reference6Ideal.Value.run (F := Ideal) m g)

/-- The experts' up projection's value claim. -/
theorem algebraic6 : Cert.algebraic_Kernel6Ideal_Reference6Ideal (hKernel6Ideal := Cert.Kernel6Ideal.Gen.facts)
    (hReference6Ideal := Cert.Reference6Ideal.Gen.facts) (hPre_tiles_in_use6 := Cert.Pre_tiles_in_use6.Gen.facts) := by
  intro m g m' g' hpre hagree
  have hE := Cert.Kernel6Ideal.Tiles.expert_lt m hpre
  have hO := Cert.Kernel6Ideal.Tiles.ok_of m hE
  refine ⟨fun c => (Cert.Kernel6Ideal.Tiles.dats m hO 0 c).arrAt 3 (Cert.Kernel6Ideal.Tiles.cfgM m hO).N,
    Cert.Kernel6Ideal.Value.run_out m hO (Cert.Kernel6Ideal.Tiles.use_of m hpre) g, ?_⟩
  refine (θ_run Cert.Reference6Ideal.defs _ _).mono (fun r h c => ?_) (Cert.Reference6Ideal.Value.run (F := Ideal) m' g')
  obtain ⟨h0, h1, h2, h3, h4⟩ := hagree c
  refine ⟨(h c).1.trans ?_, (h c).2⟩
  refine (Cert.Reference6Ideal.Read.val_main_v106_eq (Idealize.ShloMosaic.StableHlo.launchContents m' c)).trans ?_
  show Cert.Reference6Ideal.Read.val_main_v106 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
    (m' ((c.tc : Thread Cert.Reference6Ideal.nD Cert.Reference6Ideal.τ).loc Cert.Reference6Ideal.main_arg4)) = _
  rw [h0, h1, h2, h3, h4]
  exact (Cert.Kernel6Ideal.Value.final m hO hE c).symm

/-- The experts' down projection runs where the tiles' experts are among the eight and the tiles in use come first. -/
theorem kernel7_frame : Cert.quiescent_Kernel7 (hKernel7 := Cert.Kernel7.Gen.facts) (hPre_tiles_in_use7 := Cert.Pre_tiles_in_use7.Gen.facts) :=
  fun m g h => Cert.Kernel7.Tiles.frame m g (Cert.Kernel7.Tiles.ok_of m (Cert.Kernel7.Tiles.expert_lt m h)) (Cert.Kernel7.Tiles.use_of m h)

/-- So does its idealization. -/
theorem kernel7Ideal_frame : Cert.quiescent_Kernel7Ideal (hKernel7Ideal := Cert.Kernel7Ideal.Gen.facts) (hPre_tiles_in_use7 := Cert.Pre_tiles_in_use7.Gen.facts) :=
  fun m g h => Cert.Kernel7Ideal.Tiles.frame m g (Cert.Kernel7Ideal.Tiles.ok_of m (Cert.Kernel7Ideal.Tiles.expert_lt m h)) (Cert.Kernel7Ideal.Tiles.use_of m h)

/-- The experts' down projection's reference runs, keeps its arguments and ends quiescent. -/
theorem reference7_frame : Cert.quiescent_Reference7Ideal (hReference7Ideal := Cert.Reference7Ideal.Gen.facts) :=
  fun m g _ => (θ_run Cert.Reference7Ideal.defs _ _).mono (fun r h => ⟨fun c => (h c).2, sem_eq_zero_of_no_sems (by decide) r.2⟩)
    (Cert.Reference7Ideal.Value.run (F := Ideal) m g)

/-- In particular under the precondition. -/
theorem reference7_frame_pre : Cert.quiescent_Reference7Ideal_pre_tiles_in_use7 (hReference7Ideal := Cert.Reference7Ideal.Gen.facts)
    (hPre_tiles_in_use7 := Cert.Pre_tiles_in_use7.Gen.facts) :=
  fun m g _ => (θ_run Cert.Reference7Ideal.defs _ _).mono (fun r h => ⟨fun c => (h c).2, sem_eq_zero_of_no_sems (by decide) r.2⟩)
    (Cert.Reference7Ideal.Value.run (F := Ideal) m g)

/-- The experts' down projection's value claim. -/
theorem algebraic7 : Cert.algebraic_Kernel7Ideal_Reference7Ideal (hKernel7Ideal := Cert.Kernel7Ideal.Gen.facts)
    (hReference7Ideal := Cert.Reference7Ideal.Gen.facts) (hPre_tiles_in_use7 := Cert.Pre_tiles_in_use7.Gen.facts) := by
  intro m g m' g' hpre hagree
  have hE := Cert.Kernel7Ideal.Tiles.expert_lt m hpre
  have hO := Cert.Kernel7Ideal.Tiles.ok_of m hE
  refine ⟨fun c => (Cert.Kernel7Ideal.Tiles.dats m hO 0 c).arrAt 2 (Cert.Kernel7Ideal.Tiles.cfgM m hO).N,
    Cert.Kernel7Ideal.Value.run_out m hO (Cert.Kernel7Ideal.Tiles.use_of m hpre) g, ?_⟩
  refine (θ_run Cert.Reference7Ideal.defs _ _).mono (fun r h c => ?_) (Cert.Reference7Ideal.Value.run (F := Ideal) m' g')
  obtain ⟨h0, h1, h2, h3⟩ := hagree c
  refine ⟨(h c).1.trans ?_, (h c).2⟩
  refine (Cert.Reference7Ideal.Read.val_main_v65_eq m' c).trans ?_
  rw [h0, h1, h2, h3]
  exact (Cert.Kernel7Ideal.Value.final m hO hE c).symm

/-- The final norm's reference runs, keeps its arguments and ends quiescent. -/
theorem reference8_frame : Cert.quiescent_Reference8Ideal (hReference8Ideal := Cert.Reference8Ideal.Gen.facts) :=
  fun m g _ => (θ_run Cert.Reference8Ideal.defs _ _).mono (fun r h => ⟨fun c => (h c).2, sem_eq_zero_of_no_sems (by decide) r.2⟩)
    (Cert.Reference8Ideal.Value.run (F := Ideal) m g)

/-- The final norm's value claim. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 2 Cert.Kernel8Ideal.cfg0.N,
    Cert.Kernel8Ideal.Value.run_blocks m g, ?_⟩
  refine (θ_run Cert.Reference8Ideal.defs _ _).mono (fun r h c => ?_) (Cert.Reference8Ideal.Value.run (F := Ideal) m' g')
  obtain ⟨h0, h1⟩ := hagree c
  refine ⟨(h c).1.trans ?_, (h c).2⟩
  refine (Cert.Reference8Ideal.Read.val_main_v13_eq _ _).trans ?_
  rw [h0, h1]
  exact (Cert.Kernel8Ideal.Value.final m c).symm

/-- The first norm with its modulation's reference runs, keeps its arguments and ends quiescent. -/
theorem reference9_frame : Cert.quiescent_Reference9Ideal (hReference9Ideal := Cert.Reference9Ideal.Gen.facts) :=
  fun m g _ => (θ_run Cert.Reference9Ideal.defs _ _).mono (fun r h => ⟨fun c => (h c).2, sem_eq_zero_of_no_sems (by decide) r.2⟩)
    (Cert.Reference9Ideal.Value.run (F := Ideal) m g)

/-- The first norm with its modulation's value claim. -/
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 4 Cert.Kernel9Ideal.cfg0.N,
    Cert.Kernel9Ideal.Value.run_blocks m g, ?_⟩
  refine (θ_run Cert.Reference9Ideal.defs _ _).mono (fun r h c => ?_) (Cert.Reference9Ideal.Value.run (F := Ideal) m' g')
  obtain ⟨h0, h1, h2⟩ := hagree c
  refine ⟨(h c).1.trans ?_, (h c).2⟩
  refine (Cert.Reference9Ideal.Read.val_main_v36_eq _ _ _).trans ?_
  rw [h0, h1, h2]
  exact (Cert.Kernel9Ideal.Value.final m c).symm

/-- The modulation's projection's first half's reference runs, keeps its arguments and ends quiescent. -/
theorem reference10_frame : Cert.quiescent_Reference10Ideal (hReference10Ideal := Cert.Reference10Ideal.Gen.facts) :=
  fun m g _ => (θ_run Cert.Reference10Ideal.defs _ _).mono (fun r h => ⟨fun c => (h c).2, sem_eq_zero_of_no_sems (by decide) r.2⟩)
    (Cert.Reference10Ideal.Value.run (F := Ideal) m g)

/-- The modulation's projection's first half's value claim. -/
theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => (Cert.Kernel10Ideal.Gen.dats m 0 c).arrAt 2 Cert.Kernel10Ideal.cfg0.N,
    Cert.Kernel10Ideal.Value.run_blocks m g, ?_⟩
  refine (θ_run Cert.Reference10Ideal.defs _ _).mono (fun r h c => ?_) (Cert.Reference10Ideal.Value.run (F := Ideal) m' g')
  obtain ⟨h0, h1⟩ := hagree c
  refine ⟨(h c).1.trans ?_, (h c).2⟩
  refine (Cert.Reference10Ideal.Read.val_main_v2_eq _ _).trans ?_
  rw [h0, h1]
  exact (Cert.Kernel10Ideal.Value.final m c).symm

/-- The modulation's projection's second half's reference runs, keeps its arguments and ends quiescent. -/
theorem reference11_frame : Cert.quiescent_Reference11Ideal (hReference11Ideal := Cert.Reference11Ideal.Gen.facts) :=
  fun m g _ => (θ_run Cert.Reference11Ideal.defs _ _).mono (fun r h => ⟨fun c => (h c).2, sem_eq_zero_of_no_sems (by decide) r.2⟩)
    (Cert.Reference11Ideal.Value.run (F := Ideal) m g)

/-- The modulation's projection's second half's value claim. -/
theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨fun c => (Cert.Kernel11Ideal.Gen.dats m 0 c).arrAt 3 Cert.Kernel11Ideal.cfg0.N,
    Cert.Kernel11Ideal.Value.run_blocks m g, ?_⟩
  refine (θ_run Cert.Reference11Ideal.defs _ _).mono (fun r h c => ?_) (Cert.Reference11Ideal.Value.run (F := Ideal) m' g')
  obtain ⟨h0, h1, h2⟩ := hagree c
  refine ⟨(h c).1.trans ?_, (h c).2⟩
  refine (Cert.Reference11Ideal.Read.val_main_v3_eq _ _ _).trans ?_
  rw [h0, h1, h2]
  exact (Cert.Kernel11Ideal.Value.final m c).symm

/-- The spatial gating's reference runs, keeps its arguments and ends quiescent. -/
theorem reference12_frame : Cert.quiescent_Reference12Ideal (hReference12Ideal := Cert.Reference12Ideal.Gen.facts) :=
  fun m g _ => (θ_run Cert.Reference12Ideal.defs _ _).mono (fun r h => ⟨fun c => (h c).2, sem_eq_zero_of_no_sems (by decide) r.2⟩)
    (Cert.Reference12Ideal.Value.run (F := Ideal) m g)

/-- The spatial gating's value claim. -/
theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨fun c => (Cert.Kernel12Ideal.Gen.dats m 0 c).arrAt 6 Cert.Kernel12Ideal.cfg0.N,
    Cert.Kernel12Ideal.Value.run_blocks m g, ?_⟩
  refine (θ_run Cert.Reference12Ideal.defs _ _).mono (fun r h c => ?_) (Cert.Reference12Ideal.Value.run (F := Ideal) m' g')
  obtain ⟨h0, h1, h2, h3, h4⟩ := hagree c
  refine ⟨(h c).1.trans ?_, (h c).2⟩
  refine (Cert.Reference12Ideal.Read.val_main_v65_eq _ _).trans ?_
  rw [h0, h1, h2, h3, h4]
  exact (Cert.Kernel12Ideal.Value.final m c).symm

/-- The merging of the groups's reference runs, keeps its arguments and ends quiescent. -/
theorem reference13_frame : Cert.quiescent_Reference13Ideal (hReference13Ideal := Cert.Reference13Ideal.Gen.facts) :=
  fun m g _ => (θ_run Cert.Reference13Ideal.defs _ _).mono (fun r h => ⟨fun c => (h c).2, sem_eq_zero_of_no_sems (by decide) r.2⟩)
    (Cert.Reference13Ideal.Value.run (F := Ideal) m g)

/-- The merging of the groups's value claim. -/
theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨fun c => (Cert.Kernel13Ideal.Gen.dats m 0 c).arrAt 7 Cert.Kernel13Ideal.cfg0.N,
    Cert.Kernel13Ideal.Value.run_blocks m g, ?_⟩
  refine (θ_run Cert.Reference13Ideal.defs _ _).mono (fun r h c => ?_) (Cert.Reference13Ideal.Value.run (F := Ideal) m' g')
  obtain ⟨h0, h1, h2, h3, h4, h5, h6⟩ := hagree c
  refine ⟨(h c).1.trans ?_, (h c).2⟩
  refine (Cert.Reference13Ideal.Read.val_main_v32_eq _ _ _ _ _ _ _).trans ?_
  rw [h0, h1, h2, h3, h4, h5, h6]
  exact (Cert.Kernel13Ideal.Value.final m c).symm

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite_ones.facts, Cert.Pre_tiles_in_use6.Gen.facts, Cert.Pre_tiles_in_use7.Gen.facts,
  fun m g _ => Cert.Kernel.Gen.frame m g, fun m g _ => Cert.KernelIdeal.Gen.frame m g,
  fun m g _ => Cert.KernelIdeal.Gen.frame m g, fun m g _ => reference_frame m g, fun m g _ => reference_frame m g,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  kernel6_frame, kernel6Ideal_frame, reference6_frame, reference6_frame_pre,
  kernel7_frame, kernel7Ideal_frame, reference7_frame, reference7_frame_pre,
  fun m g _ => Cert.Kernel8.Gen.frame m g, fun m g _ => Cert.Kernel8Ideal.Gen.frame m g, reference8_frame,
  fun m g _ => Cert.Kernel9.Gen.frame m g, fun m g _ => Cert.Kernel9Ideal.Gen.frame m g, reference9_frame,
  fun m g _ => Cert.Kernel10.Gen.frame m g, fun m g _ => Cert.Kernel10Ideal.Gen.frame m g, reference10_frame,
  fun m g _ => Cert.Kernel11.Gen.frame m g, fun m g _ => Cert.Kernel11Ideal.Gen.frame m g, reference11_frame,
  fun m g _ => Cert.Kernel12.Gen.frame m g, fun m g _ => Cert.Kernel12Ideal.Gen.frame m g, reference12_frame,
  fun m g _ => Cert.Kernel13.Gen.frame m g, fun m g _ => Cert.Kernel13Ideal.Gen.frame m g, reference13_frame,
  trivial, algebraic, trivial, algebraic2, trivial, algebraic3, trivial, algebraic4, trivial, algebraic5,
  trivial, algebraic6, trivial, algebraic7,
  trivial, algebraic8, trivial, algebraic9, trivial, algebraic10, trivial, algebraic11, trivial, algebraic12, trivial, algebraic13⟩

end Cert.Proof

end
